-- ==== Defs.lean ====
def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Experts [hPre_plan_in_range : Cert.Pre_plan_in_range.Facts] (m : (ℓ : Loc Cert.Experts.nD Cert.Experts.τ Cert.Experts.sig) → Buf (Elt Bits) ℓ) : Prop :=
  ∀ c : Dev Cert.Experts.nD,
    (Cert.Pre_plan_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_plan_in_range : Cert.Pre_plan_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_plan_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_plan_in_range [hPre_plan_in_range : Cert.Pre_plan_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_plan_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8)
      ∧ r.2.mem ((c.tc : Thread Cert.CombineRefIdeal.nD Cert.CombineRefIdeal.τ).loc Cert.CombineRefIdeal.main_arg9) = m ((c.tc : Thread Cert.CombineRefIdeal.nD Cert.CombineRefIdeal.τ).loc Cert.CombineRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9)
      ∧ r.2.mem ((c.tc : Thread Cert.Ssd.nD Cert.Ssd.τ).loc Cert.Ssd.main_arg10) = m ((c.tc : Thread Cert.Ssd.nD Cert.Ssd.τ).loc Cert.Ssd.main_arg10))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9)
      ∧ r.2.mem ((c.tc : Thread Cert.SsdRefIdeal.nD Cert.SsdRefIdeal.τ).loc Cert.SsdRefIdeal.main_arg10) = m ((c.tc : Thread Cert.SsdRefIdeal.nD Cert.SsdRefIdeal.τ).loc Cert.SsdRefIdeal.main_arg10))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Experts [hExperts : Cert.Experts.Facts] [hPre_plan_in_range : Cert.Pre_plan_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_plan_in_range : Cert.Pre_plan_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_plan_in_range [hExpertsRefIdeal : Cert.ExpertsRefIdeal.Facts] [hPre_plan_in_range : Cert.Pre_plan_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_plan_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)
      ∧ m' ((c.tc : Thread Cert.CombineRefIdeal.nD Cert.CombineRefIdeal.τ).loc Cert.CombineRefIdeal.main_arg8) = m ((c.tc : Thread Cert.CombineIdeal.nD Cert.CombineIdeal.τ).loc Cert.CombineIdeal.main_arg8)
      ∧ m' ((c.tc : Thread Cert.CombineRefIdeal.nD Cert.CombineRefIdeal.τ).loc Cert.CombineRefIdeal.main_arg9) = m ((c.tc : Thread Cert.CombineIdeal.nD Cert.CombineIdeal.τ).loc Cert.CombineIdeal.main_arg9)) →
    ∃ (v0 : (c : Dev Cert.CombineIdeal.nD) → Buf (Elt Ideal) ((c.tc : Thread Cert.CombineIdeal.nD Cert.CombineIdeal.τ).loc Cert.CombineIdeal.main_v12)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v12) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v61) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7)
          ∧ r.2.mem ((c.tc : Thread Cert.CombineRefIdeal.nD Cert.CombineRefIdeal.τ).loc Cert.CombineRefIdeal.main_arg8) = m' ((c.tc : Thread Cert.CombineRefIdeal.nD Cert.CombineRefIdeal.τ).loc Cert.CombineRefIdeal.main_arg8)
          ∧ r.2.mem ((c.tc : Thread Cert.CombineRefIdeal.nD Cert.CombineRefIdeal.τ).loc Cert.CombineRefIdeal.main_arg9) = m' ((c.tc : Thread Cert.CombineRefIdeal.nD Cert.CombineRefIdeal.τ).loc Cert.CombineRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v13_0)) (v1 : (c : Dev Cert.InprojIdeal.nD) → Buf (Elt Ideal) ((c.tc : Thread Cert.InprojIdeal.nD Cert.InprojIdeal.τ).loc Cert.InprojIdeal.main_v13_1)) (v2 : (c : Dev Cert.InprojIdeal.nD) → Buf (Elt Ideal) ((c.tc : Thread Cert.InprojIdeal.nD Cert.InprojIdeal.τ).loc Cert.InprojIdeal.main_v13_2)) (v3 : (c : Dev Cert.InprojIdeal.nD) → Buf (Elt Ideal) ((c.tc : Thread Cert.InprojIdeal.nD Cert.InprojIdeal.τ).loc Cert.InprojIdeal.main_v13_3)) (v4 : (c : Dev Cert.InprojIdeal.nD) → Buf (Elt Ideal) ((c.tc : Thread Cert.InprojIdeal.nD Cert.InprojIdeal.τ).loc Cert.InprojIdeal.main_v13_4)) (v5 : (c : Dev Cert.InprojIdeal.nD) → Buf (Elt Ideal) ((c.tc : Thread Cert.InprojIdeal.nD Cert.InprojIdeal.τ).loc Cert.InprojIdeal.main_v13_5)) (v6 : (c : Dev Cert.InprojIdeal.nD) → Buf (Elt Ideal) ((c.tc : Thread Cert.InprojIdeal.nD Cert.InprojIdeal.τ).loc Cert.InprojIdeal.main_v13_6)) (v7 : (c : Dev Cert.InprojIdeal.nD) → Buf (Elt Ideal) ((c.tc : Thread Cert.InprojIdeal.nD Cert.InprojIdeal.τ).loc Cert.InprojIdeal.main_v13_7)) (v8 : (c : Dev Cert.InprojIdeal.nD) → Buf (Elt Ideal) ((c.tc : Thread Cert.InprojIdeal.nD Cert.InprojIdeal.τ).loc Cert.InprojIdeal.main_v13_8)) (v9 : (c : Dev Cert.InprojIdeal.nD) → Buf (Elt Ideal) ((c.tc : Thread Cert.InprojIdeal.nD Cert.InprojIdeal.τ).loc Cert.InprojIdeal.main_v13_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13_0) = v0 c
          ∧ r.2.mem ((c.tc : Thread Cert.InprojIdeal.nD Cert.InprojIdeal.τ).loc Cert.InprojIdeal.main_v13_1) = v1 c
          ∧ r.2.mem ((c.tc : Thread Cert.InprojIdeal.nD Cert.InprojIdeal.τ).loc Cert.InprojIdeal.main_v13_2) = v2 c
          ∧ r.2.mem ((c.tc : Thread Cert.InprojIdeal.nD Cert.InprojIdeal.τ).loc Cert.InprojIdeal.main_v13_3) = v3 c
          ∧ r.2.mem ((c.tc : Thread Cert.InprojIdeal.nD Cert.InprojIdeal.τ).loc Cert.InprojIdeal.main_v13_4) = v4 c
          ∧ r.2.mem ((c.tc : Thread Cert.InprojIdeal.nD Cert.InprojIdeal.τ).loc Cert.InprojIdeal.main_v13_5) = v5 c
          ∧ r.2.mem ((c.tc : Thread Cert.InprojIdeal.nD Cert.InprojIdeal.τ).loc Cert.InprojIdeal.main_v13_6) = v6 c
          ∧ r.2.mem ((c.tc : Thread Cert.InprojIdeal.nD Cert.InprojIdeal.τ).loc Cert.InprojIdeal.main_v13_7) = v7 c
          ∧ r.2.mem ((c.tc : Thread Cert.InprojIdeal.nD Cert.InprojIdeal.τ).loc Cert.InprojIdeal.main_v13_8) = v8 c
          ∧ r.2.mem ((c.tc : Thread Cert.InprojIdeal.nD Cert.InprojIdeal.τ).loc Cert.InprojIdeal.main_v13_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v20) = v0 c
          ∧ r.2.mem ((c.tc : Thread Cert.InprojRefIdeal.nD Cert.InprojRefIdeal.τ).loc Cert.InprojRefIdeal.main_v10) = v1 c
          ∧ r.2.mem ((c.tc : Thread Cert.InprojRefIdeal.nD Cert.InprojRefIdeal.τ).loc Cert.InprojRefIdeal.main_v19) = v2 c
          ∧ r.2.mem ((c.tc : Thread Cert.InprojRefIdeal.nD Cert.InprojRefIdeal.τ).loc Cert.InprojRefIdeal.main_v21) = v3 c
          ∧ r.2.mem ((c.tc : Thread Cert.InprojRefIdeal.nD Cert.InprojRefIdeal.τ).loc Cert.InprojRefIdeal.main_v13) = v4 c
          ∧ r.2.mem ((c.tc : Thread Cert.InprojRefIdeal.nD Cert.InprojRefIdeal.τ).loc Cert.InprojRefIdeal.main_v14) = v5 c
          ∧ r.2.mem ((c.tc : Thread Cert.InprojRefIdeal.nD Cert.InprojRefIdeal.τ).loc Cert.InprojRefIdeal.main_v22) = v6 c
          ∧ r.2.mem ((c.tc : Thread Cert.InprojRefIdeal.nD Cert.InprojRefIdeal.τ).loc Cert.InprojRefIdeal.main_v23) = v7 c
          ∧ r.2.mem ((c.tc : Thread Cert.InprojRefIdeal.nD Cert.InprojRefIdeal.τ).loc Cert.InprojRefIdeal.main_v24) = v8 c
          ∧ r.2.mem ((c.tc : Thread Cert.InprojRefIdeal.nD Cert.InprojRefIdeal.τ).loc Cert.InprojRefIdeal.main_v25) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)
      ∧ m' ((c.tc : Thread Cert.SsdRefIdeal.nD Cert.SsdRefIdeal.τ).loc Cert.SsdRefIdeal.main_arg9) = m ((c.tc : Thread Cert.SsdIdeal.nD Cert.SsdIdeal.τ).loc Cert.SsdIdeal.main_arg9)
      ∧ m' ((c.tc : Thread Cert.SsdRefIdeal.nD Cert.SsdRefIdeal.τ).loc Cert.SsdRefIdeal.main_arg10) = m ((c.tc : Thread Cert.SsdIdeal.nD Cert.SsdIdeal.τ).loc Cert.SsdIdeal.main_arg10)) →
    ∃ (v0 : (c : Dev Cert.SsdIdeal.nD) → Buf (Elt Ideal) ((c.tc : Thread Cert.SsdIdeal.nD Cert.SsdIdeal.τ).loc Cert.SsdIdeal.main_v22_0)) (v1 : (c : Dev Cert.SsdIdeal.nD) → Buf (Elt Ideal) ((c.tc : Thread Cert.SsdIdeal.nD Cert.SsdIdeal.τ).loc Cert.SsdIdeal.main_v22_1)) (v2 : (c : Dev Cert.SsdIdeal.nD) → Buf (Elt Ideal) ((c.tc : Thread Cert.SsdIdeal.nD Cert.SsdIdeal.τ).loc Cert.SsdIdeal.main_v22_2)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v22_0) = v0 c
          ∧ r.2.mem ((c.tc : Thread Cert.SsdIdeal.nD Cert.SsdIdeal.τ).loc Cert.SsdIdeal.main_v22_1) = v1 c
          ∧ r.2.mem ((c.tc : Thread Cert.SsdIdeal.nD Cert.SsdIdeal.τ).loc Cert.SsdIdeal.main_v22_2) = v2 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
          ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
          ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v133) = v0 c
          ∧ r.2.mem ((c.tc : Thread Cert.SsdRefIdeal.nD Cert.SsdRefIdeal.τ).loc Cert.SsdRefIdeal.main_v3) = v1 c
          ∧ r.2.mem ((c.tc : Thread Cert.SsdRefIdeal.nD Cert.SsdRefIdeal.τ).loc Cert.SsdRefIdeal.main_v134) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8)
          ∧ r.2.mem ((c.tc : Thread Cert.SsdRefIdeal.nD Cert.SsdRefIdeal.τ).loc Cert.SsdRefIdeal.main_arg9) = m' ((c.tc : Thread Cert.SsdRefIdeal.nD Cert.SsdRefIdeal.τ).loc Cert.SsdRefIdeal.main_arg9)
          ∧ r.2.mem ((c.tc : Thread Cert.SsdRefIdeal.nD Cert.SsdRefIdeal.τ).loc Cert.SsdRefIdeal.main_arg10) = m' ((c.tc : Thread Cert.SsdRefIdeal.nD Cert.SsdRefIdeal.τ).loc Cert.SsdRefIdeal.main_arg10))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)) →
    ∃ (v0 : (c : Dev Cert.InprojSIdeal.nD) → Buf (Elt Ideal) ((c.tc : Thread Cert.InprojSIdeal.nD Cert.InprojSIdeal.τ).loc Cert.InprojSIdeal.main_v15_0)) (v1 : (c : Dev Cert.InprojSIdeal.nD) → Buf (Elt Ideal) ((c.tc : Thread Cert.InprojSIdeal.nD Cert.InprojSIdeal.τ).loc Cert.InprojSIdeal.main_v15_1)) (v2 : (c : Dev Cert.InprojSIdeal.nD) → Buf (Elt Ideal) ((c.tc : Thread Cert.InprojSIdeal.nD Cert.InprojSIdeal.τ).loc Cert.InprojSIdeal.main_v15_2)) (v3 : (c : Dev Cert.InprojSIdeal.nD) → Buf (Elt Ideal) ((c.tc : Thread Cert.InprojSIdeal.nD Cert.InprojSIdeal.τ).loc Cert.InprojSIdeal.main_v15_3)) (v4 : (c : Dev Cert.InprojSIdeal.nD) → Buf (Elt Ideal) ((c.tc : Thread Cert.InprojSIdeal.nD Cert.InprojSIdeal.τ).loc Cert.InprojSIdeal.main_v15_4)) (v5 : (c : Dev Cert.InprojSIdeal.nD) → Buf (Elt Ideal) ((c.tc : Thread Cert.InprojSIdeal.nD Cert.InprojSIdeal.τ).loc Cert.InprojSIdeal.main_v15_5)) (v6 : (c : Dev Cert.InprojSIdeal.nD) → Buf (Elt Ideal) ((c.tc : Thread Cert.InprojSIdeal.nD Cert.InprojSIdeal.τ).loc Cert.InprojSIdeal.main_v15_6)) (v7 : (c : Dev Cert.InprojSIdeal.nD) → Buf (Elt Ideal) ((c.tc : Thread Cert.InprojSIdeal.nD Cert.InprojSIdeal.τ).loc Cert.InprojSIdeal.main_v15_7)) (v8 : (c : Dev Cert.InprojSIdeal.nD) → Buf (Elt Ideal) ((c.tc : Thread Cert.InprojSIdeal.nD Cert.InprojSIdeal.τ).loc Cert.InprojSIdeal.main_v15_8)) (v9 : (c : Dev Cert.InprojSIdeal.nD) → Buf (Elt Ideal) ((c.tc : Thread Cert.InprojSIdeal.nD Cert.InprojSIdeal.τ).loc Cert.InprojSIdeal.main_v15_9)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v15_0) = v0 c
          ∧ r.2.mem ((c.tc : Thread Cert.InprojSIdeal.nD Cert.InprojSIdeal.τ).loc Cert.InprojSIdeal.main_v15_1) = v1 c
          ∧ r.2.mem ((c.tc : Thread Cert.InprojSIdeal.nD Cert.InprojSIdeal.τ).loc Cert.InprojSIdeal.main_v15_2) = v2 c
          ∧ r.2.mem ((c.tc : Thread Cert.InprojSIdeal.nD Cert.InprojSIdeal.τ).loc Cert.InprojSIdeal.main_v15_3) = v3 c
          ∧ r.2.mem ((c.tc : Thread Cert.InprojSIdeal.nD Cert.InprojSIdeal.τ).loc Cert.InprojSIdeal.main_v15_4) = v4 c
          ∧ r.2.mem ((c.tc : Thread Cert.InprojSIdeal.nD Cert.InprojSIdeal.τ).loc Cert.InprojSIdeal.main_v15_5) = v5 c
          ∧ r.2.mem ((c.tc : Thread Cert.InprojSIdeal.nD Cert.InprojSIdeal.τ).loc Cert.InprojSIdeal.main_v15_6) = v6 c
          ∧ r.2.mem ((c.tc : Thread Cert.InprojSIdeal.nD Cert.InprojSIdeal.τ).loc Cert.InprojSIdeal.main_v15_7) = v7 c
          ∧ r.2.mem ((c.tc : Thread Cert.InprojSIdeal.nD Cert.InprojSIdeal.τ).loc Cert.InprojSIdeal.main_v15_8) = v8 c
          ∧ r.2.mem ((c.tc : Thread Cert.InprojSIdeal.nD Cert.InprojSIdeal.τ).loc Cert.InprojSIdeal.main_v15_9) = v9 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v18) = v0 c
          ∧ r.2.mem ((c.tc : Thread Cert.InprojSRefIdeal.nD Cert.InprojSRefIdeal.τ).loc Cert.InprojSRefIdeal.main_v8) = v1 c
          ∧ r.2.mem ((c.tc : Thread Cert.InprojSRefIdeal.nD Cert.InprojSRefIdeal.τ).loc Cert.InprojSRefIdeal.main_v17) = v2 c
          ∧ r.2.mem ((c.tc : Thread Cert.InprojSRefIdeal.nD Cert.InprojSRefIdeal.τ).loc Cert.InprojSRefIdeal.main_v19) = v3 c
          ∧ r.2.mem ((c.tc : Thread Cert.InprojSRefIdeal.nD Cert.InprojSRefIdeal.τ).loc Cert.InprojSRefIdeal.main_v11) = v4 c
          ∧ r.2.mem ((c.tc : Thread Cert.InprojSRefIdeal.nD Cert.InprojSRefIdeal.τ).loc Cert.InprojSRefIdeal.main_v12) = v5 c
          ∧ r.2.mem ((c.tc : Thread Cert.InprojSRefIdeal.nD Cert.InprojSRefIdeal.τ).loc Cert.InprojSRefIdeal.main_v20) = v6 c
          ∧ r.2.mem ((c.tc : Thread Cert.InprojSRefIdeal.nD Cert.InprojSRefIdeal.τ).loc Cert.InprojSRefIdeal.main_v21) = v7 c
          ∧ r.2.mem ((c.tc : Thread Cert.InprojSRefIdeal.nD Cert.InprojSRefIdeal.τ).loc Cert.InprojSRefIdeal.main_v22) = v8 c
          ∧ r.2.mem ((c.tc : Thread Cert.InprojSRefIdeal.nD Cert.InprojSRefIdeal.τ).loc Cert.InprojSRefIdeal.main_v23) = v9 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v18_0)) (v1 : (c : Dev Cert.MergeIdeal.nD) → Buf (Elt Ideal) ((c.tc : Thread Cert.MergeIdeal.nD Cert.MergeIdeal.τ).loc Cert.MergeIdeal.main_v18_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18_0) = v0 c
          ∧ r.2.mem ((c.tc : Thread Cert.MergeIdeal.nD Cert.MergeIdeal.τ).loc Cert.MergeIdeal.main_v18_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v63) = v0 c
          ∧ r.2.mem ((c.tc : Thread Cert.MergeRefIdeal.nD Cert.MergeRefIdeal.τ).loc Cert.MergeRefIdeal.main_v65) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Experts_ExpertsIdeal : Prop :=
  True

def algebraic_ExpertsIdeal_ExpertsRefIdeal [hExpertsIdeal : Cert.ExpertsIdeal.Facts] [hExpertsRefIdeal : Cert.ExpertsRefIdeal.Facts] [hPre_plan_in_range : Cert.Pre_plan_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v51) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def Claim : Prop :=
  ∃ (hCombine : Cert.Combine.Facts) (hCombineIdeal : Cert.CombineIdeal.Facts) (hCombineRefIdeal : Cert.CombineRefIdeal.Facts) (hInproj : Cert.Inproj.Facts) (hInprojIdeal : Cert.InprojIdeal.Facts) (hInprojRefIdeal : Cert.InprojRefIdeal.Facts) (hSsd : Cert.Ssd.Facts) (hSsdIdeal : Cert.SsdIdeal.Facts) (hSsdRefIdeal : Cert.SsdRefIdeal.Facts) (hInprojS : Cert.InprojS.Facts) (hInprojSIdeal : Cert.InprojSIdeal.Facts) (hInprojSRefIdeal : Cert.InprojSRefIdeal.Facts) (hMerge : Cert.Merge.Facts) (hMergeIdeal : Cert.MergeIdeal.Facts) (hMergeRefIdeal : Cert.MergeRefIdeal.Facts) (hExperts : Cert.Experts.Facts) (hExpertsIdeal : Cert.ExpertsIdeal.Facts) (hExpertsRefIdeal : Cert.ExpertsRefIdeal.Facts) (hPre_plan_in_range : Cert.Pre_plan_in_range.Facts),
    quiescent_Combine (hCombine := hCombine)
    ∧ quiescent_CombineIdeal (hCombineIdeal := hCombineIdeal)
    ∧ quiescent_CombineRefIdeal (hCombineRefIdeal := hCombineRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ssd (hSsd := hSsd)
    ∧ quiescent_SsdIdeal (hSsdIdeal := hSsdIdeal)
    ∧ quiescent_SsdRefIdeal (hSsdRefIdeal := hSsdRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_Merge (hMerge := hMerge)
    ∧ quiescent_MergeIdeal (hMergeIdeal := hMergeIdeal)
    ∧ quiescent_MergeRefIdeal (hMergeRefIdeal := hMergeRefIdeal)
    ∧ quiescent_Experts (hExperts := hExperts) (hPre_plan_in_range := hPre_plan_in_range)
    ∧ quiescent_ExpertsIdeal (hExpertsIdeal := hExpertsIdeal) (hPre_plan_in_range := hPre_plan_in_range)
    ∧ quiescent_ExpertsRefIdeal (hExpertsRefIdeal := hExpertsRefIdeal)
    ∧ quiescent_ExpertsRefIdeal_pre_plan_in_range (hExpertsRefIdeal := hExpertsRefIdeal) (hPre_plan_in_range := hPre_plan_in_range)
    ∧ preserves_Combine_CombineIdeal
    ∧ algebraic_CombineIdeal_CombineRefIdeal (hCombineIdeal := hCombineIdeal) (hCombineRefIdeal := hCombineRefIdeal)
    ∧ preserves_Inproj_InprojIdeal
    ∧ algebraic_InprojIdeal_InprojRefIdeal (hInprojIdeal := hInprojIdeal) (hInprojRefIdeal := hInprojRefIdeal)
    ∧ preserves_Ssd_SsdIdeal
    ∧ algebraic_SsdIdeal_SsdRefIdeal (hSsdIdeal := hSsdIdeal) (hSsdRefIdeal := hSsdRefIdeal)
    ∧ preserves_InprojS_InprojSIdeal
    ∧ algebraic_InprojSIdeal_InprojSRefIdeal (hInprojSIdeal := hInprojSIdeal) (hInprojSRefIdeal := hInprojSRefIdeal)
    ∧ preserves_Merge_MergeIdeal
    ∧ algebraic_MergeIdeal_MergeRefIdeal (hMergeIdeal := hMergeIdeal) (hMergeRefIdeal := hMergeRefIdeal)
    ∧ preserves_Experts_ExpertsIdeal
    ∧ algebraic_ExpertsIdeal_ExpertsRefIdeal (hExpertsIdeal := hExpertsIdeal) (hExpertsRefIdeal := hExpertsRefIdeal) (hPre_plan_in_range := hPre_plan_in_range)
-- ==== Pre_plan_in_range.lean ====
abbrev S196608x512 : Shape := ⟨2, ![196608, 512]⟩
abbrev S192 : Shape := ⟨1, ![192]⟩
abbrev S1 : Shape := ⟨1, ![1]⟩
abbrev S1x64x1024x256 : Shape := ⟨4, ![1, 64, 1024, 256]⟩
abbrev S1x64x256x1024 : Shape := ⟨4, ![1, 64, 256, 1024]⟩
abbrev S_ : Shape := ⟨0, ![]⟩

class Facts : Prop where
  bcast_S_S192 : S_.BroadcastsInDim S192 (![] : Fin 0 → Fin S192.rank)
  bcast_S_S1 : S_.BroadcastsInDim S1 (![] : Fin 0 → Fin S1.rank)
  bcast_S1_S192_0 : S1.BroadcastsInDim S192 (![0] : Fin 1 → Fin S192.rank)

variable [Facts]

def fn {F : FTy → Type} [FloatOps F] (main_arg0 : IVec S196608x512 32) (main_arg1 : IVec S192 32) (main_arg2 : IVec S192 32) (main_arg3 : IVec S1 32) (main_arg4 : FVec F S1x64x1024x256 .f32) (main_arg5 : FVec F S1x64x1024x256 .f32) (main_arg6 : FVec F S1x64x256x1024 .f32) : IVec S192 1 :=
  let main_c : IVec S_ 32 := constantI S_ 32 0#32
  let main_v0 : IVec S192 32 := broadcastInDim S192 ![] bcast_S_S192 main_c
  let main_v1 : IVec S192 1 := cmpi .sge main_arg1 main_v0
  let main_c_0 : IVec S_ 32 := constantI S_ 32 64#32
  let main_v2 : IVec S192 32 := broadcastInDim S192 ![] bcast_S_S192 main_c_0
  let main_v3 : IVec S192 1 := cmpi .slt main_arg1 main_v2
  let main_v4 : IVec S192 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  let main_v7 : IVec S192 1 := broadcastInDim S192 ![0] bcast_S1_S192_0 main_v6
  let main_v8 : IVec S192 1 := andi main_v4 main_v7
  main_v8
-- ==== Combine.lean ====
abbrev S131072x512 : Shape := ⟨2, ![131072, 512]⟩
abbrev S8x16384 : Shape := ⟨2, ![8, 16384]⟩
abbrev S16384x512 : Shape := ⟨2, ![16384, 512]⟩
abbrev S16384x1024 : Shape := ⟨2, ![16384, 1024]⟩
abbrev S4x1x1024 : Shape := ⟨3, ![4, 1, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S256x1024 : Shape := ⟨2, ![256, 1024]⟩
abbrev S1024 : Shape := ⟨1, ![1024]⟩
abbrev S16384x8 : Shape := ⟨2, ![16384, 8]⟩
abbrev S8x16384x512 : Shape := ⟨3, ![8, 16384, 512]⟩
abbrev S8x512x512 : Shape := ⟨3, ![8, 512, 512]⟩
abbrev S512x8 : Shape := ⟨2, ![512, 8]⟩
abbrev S512x512 : Shape := ⟨2, ![512, 512]⟩
abbrev S512x1024 : Shape := ⟨2, ![512, 1024]⟩
abbrev S1x1x1024 : Shape := ⟨3, ![1, 1, 1024]⟩
abbrev S512x256 : Shape := ⟨2, ![512, 256]⟩
abbrev S1x512x512 : Shape := ⟨3, ![1, 512, 512]⟩
abbrev S512x1 : Shape := ⟨2, ![512, 1]⟩
abbrev S512 : Shape := ⟨1, ![512]⟩

abbrev nBuf : Space → Nat
  | .hbm => 23
  | .vmem => 17
  | .smem => 0
  | _ => 0

abbrev bufTy : (tb : Table) → Fin (tcTables nBuf tb) → BufTy
  | .hbm, ⟨0, _⟩ => ⟨S131072x512, .i32⟩
  | .hbm, ⟨1, _⟩ => ⟨S8x16384, .f32⟩
  | .hbm, ⟨2, _⟩ => ⟨S16384x512, .i32⟩
  | .hbm, ⟨3, _⟩ => ⟨S16384x1024, .f32⟩
  | .hbm, ⟨4, _⟩ => ⟨S4x1x1024, .f32⟩
  | .hbm, ⟨5, _⟩ => ⟨S1x1024x256, .f32⟩
  | .hbm, ⟨6, _⟩ => ⟨S1x1024x256, .f32⟩
  | .hbm, ⟨7, _⟩ => ⟨S1x256x1024, .f32⟩
  | .hbm, ⟨8, _⟩ => ⟨S1x1024, .f32⟩
  | .hbm, ⟨9, _⟩ => ⟨S1x1024, .f32⟩
  | .hbm, ⟨10, _⟩ => ⟨S1024x256, .f32⟩
  | .hbm, ⟨11, _⟩ => ⟨S1024x256, .f32⟩
  | .hbm, ⟨12, _⟩ => ⟨S256x1024, .f32⟩
  | .hbm, ⟨13, _⟩ => ⟨S1024, .f32⟩
  | .hbm, ⟨14, _⟩ => ⟨S1024, .f32⟩
  | .hbm, ⟨15, _⟩ => ⟨S16384x8, .f32⟩
  | .hbm, ⟨16, _⟩ => ⟨S1024x256, .bf16⟩
  | .hbm, ⟨17, _⟩ => ⟨S1024x256, .bf16⟩
  | .hbm, ⟨18, _⟩ => ⟨S256x1024, .bf16⟩
  | .hbm, ⟨19, _⟩ => ⟨S1x1024, .f32⟩
  | .hbm, ⟨20, _⟩ => ⟨S1x1024, .f32⟩
  | .hbm, ⟨21, _⟩ => ⟨S8x16384x512, .i32⟩
  | .hbm, ⟨22, _⟩ => ⟨S16384x1024, .f32⟩
  | .local _ .vmem, ⟨0, _⟩ => ⟨S8x512x512, .i32⟩
  | .local _ .vmem, ⟨1, _⟩ => ⟨S8x512x512, .i32⟩
  | .local _ .vmem, ⟨2, _⟩ => ⟨S512x8, .f32⟩
  | .local _ .vmem, ⟨3, _⟩ => ⟨S512x8, .f32⟩
  | .local _ .vmem, ⟨4, _⟩ => ⟨S512x512, .i32⟩
  | .local _ .vmem, ⟨5, _⟩ => ⟨S512x512, .i32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S131072x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CombineRefIdeal.lean ====
abbrev S131072x512 : Shape := ⟨2, ![131072, 512]⟩
abbrev S8x16384 : Shape := ⟨2, ![8, 16384]⟩
abbrev S16384x512 : Shape := ⟨2, ![16384, 512]⟩
abbrev S16384x1024 : Shape := ⟨2, ![16384, 1024]⟩
abbrev S4x1x1024 : Shape := ⟨3, ![4, 1, 1024]⟩
abbrev S1x1024x256 : Shape := ⟨3, ![1, 1024, 256]⟩
abbrev S1x256x1024 : Shape := ⟨3, ![1, 256, 1024]⟩
abbrev S1x1024 : Shape := ⟨2, ![1, 1024]⟩
abbrev S131072x512x2 : Shape := ⟨3, ![131072, 512, 2]⟩
abbrev S131072x512x1 : Shape := ⟨3, ![131072, 512, 1]⟩
abbrev S131072x1024 : Shape := ⟨2, ![131072, 1024]⟩
abbrev S8x16384x1024 : Shape := ⟨3, ![8, 16384, 1024]⟩
abbrev S16384x512x2 : Shape := ⟨3, ![16384, 512, 2]⟩
abbrev S16384x512x1 : Shape := ⟨3, ![16384, 512, 1]⟩
abbrev S8x16384x1 : Shape := ⟨3, ![8, 16384, 1]⟩
abbrev S_ : Shape := ⟨0, ![]⟩
abbrev S1024x256 : Shape := ⟨2, ![1024, 256]⟩
abbrev S16384x256 : Shape := ⟨2, ![16384, 256]⟩
abbrev S256x1024 : Shape := ⟨2, ![256, 1024]⟩
abbrev S4x4096x1024 : Shape := ⟨3, ![4, 4096, 1024]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S131072x512, .i32⟩
  | .hbm, ⟨1, _⟩ => ⟨S8x16384, .f32⟩
  | .hbm, ⟨2, _⟩ => ⟨S16384x512, .i32⟩
  | .hbm, ⟨3, _⟩ => ⟨S16384x1024, .f32⟩
  | .hbm, ⟨4, _⟩ => ⟨S4x1x1024, .f32⟩
  | .hbm, ⟨5, _⟩ => ⟨S1x1024x256, .f32⟩
  | .hbm, ⟨6, _⟩ => ⟨S1x1024x256, .f32⟩
  | .hbm, ⟨7, _⟩ => ⟨S1x256x1024, .f32⟩
  | .hbm, ⟨8, _⟩ => ⟨S1x1024, .f32⟩
  | .hbm, ⟨9, _⟩ => ⟨S1x1024, .f32⟩
  | .hbm, ⟨10, _⟩ => ⟨S131072x512x2, .bf16⟩
  | .hbm, ⟨11, _⟩ => ⟨S131072x512x1, .bf16⟩
  | .hbm, ⟨12, _⟩ => ⟨S131072x512, .bf16⟩
  | .hbm, ⟨13, _⟩ => ⟨S131072x512x1, .bf16⟩
  | .hbm, ⟨14, _⟩ => ⟨S131072x512, .bf16⟩
  | .hbm, ⟨15, _⟩ => ⟨S131072x1024, .bf16⟩
  | .hbm, ⟨16, _⟩ => ⟨S131072x1024, .f32⟩
  | .hbm, ⟨17, _⟩ => ⟨S8x16384x1024, .f32⟩
  | .hbm, ⟨18, _⟩ => ⟨S16384x512x2, .bf16⟩
  | .hbm, ⟨19, _⟩ => ⟨S16384x512x1, .bf16⟩
  | .hbm, ⟨20, _⟩ => ⟨S16384x512, .bf16⟩
  | .hbm, ⟨21, _⟩ => ⟨S16384x512x1, .bf16⟩
  | .hbm, ⟨22, _⟩ => ⟨S16384x512, .bf16⟩
  | .hbm, ⟨23, _⟩ => ⟨S16384x1024, .bf16⟩
  | .hbm, ⟨24, _⟩ => ⟨S16384x1024, .f32⟩
  | .hbm, ⟨25, _⟩ => ⟨S8x16384x1, .f32⟩
  | .hbm, ⟨26, _⟩ => ⟨S8x16384x1024, .f32⟩
  | .hbm, ⟨27, _⟩ => ⟨S8x16384x1024, .f32⟩
  | .hbm, ⟨28, _⟩ => ⟨S_, .f32⟩
  | .hbm, ⟨29, _⟩ => ⟨S16384x1024, .f32⟩
  | .hbm, ⟨30, _⟩ => ⟨S1024x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S_, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S1024x256, .f32⟩
  | .hbm, ⟨42, _⟩ => ⟨S16384x256, .f32⟩
  | .hbm, ⟨43, _⟩ => ⟨S16384x256, .f32⟩
  | .hbm, ⟨44, _⟩ => ⟨S256x1024, .f32⟩
  | .hbm, ⟨45, _⟩ => ⟨S16384x1024, .f32⟩
  | .hbm, ⟨46, _⟩ => ⟨S16384x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | .hbm, ⟨86, _⟩ => ⟨S16384x1024, .f32⟩
  | _, _ => ⟨S131072x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Inproj.lean ====
abbrev S4x4096x1024 : Shape := ⟨3, ![4, 4096, 1024]⟩
abbrev S4x1x1024 : Shape := ⟨3, ![4, 1, 1024]⟩
abbrev S1x1024x7696 : Shape := ⟨3, ![1, 1024, 7696]⟩
abbrev S16384x1024 : Shape := ⟨2, ![16384, 1024]⟩
abbrev S1024x7696 : Shape := ⟨2, ![1024, 7696]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x7808 : Shape := ⟨2, ![1024, 7808]⟩
abbrev S16384x1536 : Shape := ⟨2, ![16384, 1536]⟩
abbrev S16384x128 : Shape := ⟨2, ![16384, 128]⟩
abbrev S256x1024 : Shape := ⟨2, ![256, 1024]⟩
abbrev S1x1x1024 : Shape := ⟨3, ![1, 1, 1024]⟩
abbrev S256x1536 : Shape := ⟨2, ![256, 1536]⟩
abbrev S256x128 : Shape := ⟨2, ![256, 128]⟩
abbrev S1x1024 : Shape := ⟨2, ![1, 1024]⟩

abbrev nBuf : Space → Nat
  | .hbm => 29
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x7696, .f32⟩
  | .hbm, ⟨4, _⟩ => ⟨S16384x1024, .f32⟩
  | .hbm, ⟨5, _⟩ => ⟨S1024x7696, .f32⟩
  | .hbm, ⟨6, _⟩ => ⟨S1024x1024, .f32⟩
  | .hbm, ⟨7, _⟩ => ⟨S1024x1536, .f32⟩
  | .hbm, ⟨8, _⟩ => ⟨S1024x16, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x7808, .f32⟩
  | .hbm, ⟨18, _⟩ => ⟨S1024x7808, .bf16⟩
  | .hbm, ⟨19, _⟩ => ⟨S16384x1024, .bf16⟩
  | .hbm, ⟨20, _⟩ => ⟨S16384x1536, .f32⟩
  | .hbm, ⟨21, _⟩ => ⟨S16384x128, .f32⟩
  | .hbm, ⟨22, _⟩ => ⟨S16384x1024, .bf16⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S16384x1024, .bf16⟩
  | .hbm, ⟨27, _⟩ => ⟨S16384x1024, .bf16⟩
  | .hbm, ⟨28, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x7808, .bf16⟩
  | .local _ .vmem, ⟨7, _⟩ => ⟨S256x1024, .bf16⟩
  | .local _ .vmem, ⟨8, _⟩ => ⟨S256x1024, .bf16⟩
  | .local _ .vmem, ⟨9, _⟩ => ⟨S256x1536, .f32⟩
  | .local _ .vmem, ⟨10, _⟩ => ⟨S256x1536, .f32⟩
  | .local _ .vmem, ⟨11, _⟩ => ⟨S256x128, .f32⟩
  | .local _ .vmem, ⟨12, _⟩ => ⟨S256x128, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev main_v13_7 : Ref sig .tc := ⟨.hbm, 26, rfl⟩
abbrev main_v13_8 : Ref sig .tc := ⟨.hbm, 27, rfl⟩
abbrev main_v13_9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x7808 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InprojRefIdeal.lean ====
abbrev S4x4096x1024 : Shape := ⟨3, ![4, 4096, 1024]⟩
abbrev S4x1x1024 : Shape := ⟨3, ![4, 1, 1024]⟩
abbrev S1x1024x7696 : Shape := ⟨3, ![1, 1024, 7696]⟩
abbrev S_ : Shape := ⟨0, ![]⟩
abbrev S1024x7696 : Shape := ⟨2, ![1024, 7696]⟩
abbrev S4x4096x7696 : Shape := ⟨3, ![4, 4096, 7696]⟩
abbrev S16384x7696 : Shape := ⟨2, ![16384, 7696]⟩
abbrev S16384x1024 : Shape := ⟨2, ![16384, 1024]⟩
abbrev S16384x1536 : Shape := ⟨2, ![16384, 1536]⟩
abbrev S16384x16 : Shape := ⟨2, ![16384, 16]⟩
abbrev S16384x128 : Shape := ⟨2, ![16384, 128]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x7696, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S1024x7696, .f32⟩
  | .hbm, ⟨12, _⟩ => ⟨S4x4096x7696, .f32⟩
  | .hbm, ⟨13, _⟩ => ⟨S16384x7696, .f32⟩
  | .hbm, ⟨14, _⟩ => ⟨S16384x1024, .f32⟩
  | .hbm, ⟨15, _⟩ => ⟨S16384x1536, .f32⟩
  | .hbm, ⟨16, _⟩ => ⟨S16384x16, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .i32⟩
  | .hbm, ⟨26, _⟩ => ⟨S_, .f32⟩
  | .hbm, ⟨27, _⟩ => ⟨S16384x128, .f32⟩
  | .hbm, ⟨28, _⟩ => ⟨S16384x1024, .bf16⟩
  | .hbm, ⟨29, _⟩ => ⟨S16384x1024, .bf16⟩
  | .hbm, ⟨30, _⟩ => ⟨S16384x1024, .bf16⟩
  | .hbm, ⟨31, _⟩ => ⟨S16384x1024, .bf16⟩
  | .hbm, ⟨32, _⟩ => ⟨S16384x1024, .bf16⟩
  | .hbm, ⟨33, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Ssd.lean ====
abbrev S256x1536 : Shape := ⟨2, ![256, 1536]⟩
abbrev S256x128 : Shape := ⟨2, ![256, 128]⟩
abbrev S256x1024 : Shape := ⟨2, ![256, 1024]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x32x3x1536 : Shape := ⟨4, ![1, 32, 3, 1536]⟩
abbrev S1x32x16x64x128 : Shape := ⟨5, ![1, 32, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32x3x1536 : Shape := ⟨3, ![32, 3, 1536]⟩
abbrev S32x16x64x128 : Shape := ⟨4, ![32, 16, 64, 128]⟩
abbrev S32x8x1536 : Shape := ⟨3, ![32, 8, 1536]⟩
abbrev S32x8x128 : Shape := ⟨3, ![32, 8, 128]⟩
abbrev S32x8x1024 : Shape := ⟨3, ![32, 8, 1024]⟩
abbrev S_ : Shape := ⟨0, ![]⟩
abbrev S128 : Shape := ⟨1, ![128]⟩
abbrev S1x128 : Shape := ⟨2, ![1, 128]⟩
abbrev S16x64 : Shape := ⟨2, ![16, 64]⟩
abbrev S32x8x128x128 : Shape := ⟨4, ![32, 8, 128, 128]⟩
abbrev S1x8x1536 : Shape := ⟨3, ![1, 8, 1536]⟩
abbrev S1x8x128 : Shape := ⟨3, ![1, 8, 128]⟩
abbrev S1x8x1024 : Shape := ⟨3, ![1, 8, 1024]⟩
abbrev S1x3x1536 : Shape := ⟨3, ![1, 3, 1536]⟩
abbrev S1x8x128x128 : Shape := ⟨4, ![1, 8, 128, 128]⟩
abbrev S136x1536 : Shape := ⟨2, ![136, 1536]⟩
abbrev S8x128x128 : Shape := ⟨3, ![8, 128, 128]⟩
abbrev S128x1024 : Shape := ⟨2, ![128, 1024]⟩
abbrev S3x1536 : Shape := ⟨2, ![3, 1536]⟩
abbrev S8x1536 : Shape := ⟨2, ![8, 1536]⟩
abbrev S120x1536 : Shape := ⟨2, ![120, 1536]⟩
abbrev S128x1536 : Shape := ⟨2, ![128, 1536]⟩
abbrev S128x128 : Shape := ⟨2, ![128, 128]⟩
abbrev S8x128 : Shape := ⟨2, ![8, 128]⟩
abbrev S120x128 : Shape := ⟨2, ![120, 128]⟩
abbrev S128x1 : Shape := ⟨2, ![128, 1]⟩
abbrev S1x128x128 : Shape := ⟨3, ![1, 128, 128]⟩
abbrev S1x1 : Shape := ⟨2, ![1, 1]⟩
abbrev S8x1024 : Shape := ⟨2, ![8, 1024]⟩
abbrev S8x512 : Shape := ⟨2, ![8, 512]⟩
abbrev S8 : Shape := ⟨1, ![8]⟩
abbrev S8x1 : Shape := ⟨2, ![8, 1]⟩
abbrev S1x512 : Shape := ⟨2, ![1, 512]⟩
abbrev S1x8x512 : Shape := ⟨3, ![1, 8, 512]⟩

abbrev nBuf : Space → Nat
  | .hbm => 40
  | .vmem => 25
  | .smem => 0
  | _ => 0

abbrev bufTy : (tb : Table) → Fin (tcTables nBuf tb) → BufTy
  | .hbm, ⟨0, _⟩ => ⟨S256x1536, .f32⟩
  | .hbm, ⟨1, _⟩ => ⟨S256x128, .f32⟩
  | .hbm, ⟨2, _⟩ => ⟨S256x1024, .bf16⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S1x32x3x1536, .f32⟩
  | .hbm, ⟨10, _⟩ => ⟨S1x32x16x64x128, .f32⟩
  | .hbm, ⟨11, _⟩ => ⟨S4x1536, .f32⟩
  | .hbm, ⟨12, _⟩ => ⟨S1536, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S1024, .f32⟩
  | .hbm, ⟨17, _⟩ => ⟨S32x3x1536, .f32⟩
  | .hbm, ⟨18, _⟩ => ⟨S32x16x64x128, .f32⟩
  | .hbm, ⟨19, _⟩ => ⟨S256x1024, .f32⟩
  | .hbm, ⟨20, _⟩ => ⟨S32x8x1536, .f32⟩
  | .hbm, ⟨21, _⟩ => ⟨S32x8x128, .f32⟩
  | .hbm, ⟨22, _⟩ => ⟨S32x8x1024, .f32⟩
  | .hbm, ⟨23, _⟩ => ⟨S1x1536, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S16x64, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S32x8x128x128, .f32⟩
  | .hbm, ⟨37, _⟩ => ⟨S32x8x1024, .f32⟩
  | .hbm, ⟨38, _⟩ => ⟨S32x3x1536, .f32⟩
  | .hbm, ⟨39, _⟩ => ⟨S32x8x128x128, .f32⟩
  | .local _ .vmem, ⟨0, _⟩ => ⟨S1x8x1536, .f32⟩
  | .local _ .vmem, ⟨1, _⟩ => ⟨S1x8x1536, .f32⟩
  | .local _ .vmem, ⟨2, _⟩ => ⟨S1x8x128, .f32⟩
  | .local _ .vmem, ⟨3, _⟩ => ⟨S1x8x128, .f32⟩
  | .local _ .vmem, ⟨4, _⟩ => ⟨S1x8x1024, .f32⟩
  | .local _ .vmem, ⟨5, _⟩ => ⟨S1x8x1024, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x3x1536, .f32⟩
  | .local _ .vmem, ⟨13, _⟩ => ⟨S1x3x1536, .f32⟩
  | .local _ .vmem, ⟨14, _⟩ => ⟨S1x8x128x128, .f32⟩
  | .local _ .vmem, ⟨15, _⟩ => ⟨S1x8x128x128, .f32⟩
  | .local _ .vmem, ⟨16, _⟩ => ⟨S1x8x1024, .f32⟩
  | .local _ .vmem, ⟨17, _⟩ => ⟨S1x8x1024, .f32⟩
  | .local _ .vmem, ⟨18, _⟩ => ⟨S1x3x1536, .f32⟩
  | .local _ .vmem, ⟨19, _⟩ => ⟨S1x3x1536, .f32⟩
  | .local _ .vmem, ⟨20, _⟩ => ⟨S1x8x128x128, .f32⟩
  | .local _ .vmem, ⟨21, _⟩ => ⟨S1x8x128x128, .f32⟩
  | .local _ .vmem, ⟨22, _⟩ => ⟨S136x1536, .f32⟩
  | .local _ .vmem, ⟨23, _⟩ => ⟨S8x128x128, .f32⟩
  | .local _ .vmem, ⟨24, _⟩ => ⟨S128x1024, .f32⟩
  | _, _ => ⟨S256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_201 : BitVec 32 := 0#32
  let v731 : BitVec 1 := Scalar.cmpi .eq arg1 c0_i32_201
  let v732 : BitVec 32 := Scalar.extui v731
  let c0_i32_202 : BitVec 32 := 0#32
  let v733 : BitVec 1 := Scalar.cmpi .ne v732 c0_i32_202
  v733

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x3x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== SsdRefIdeal.lean ====
abbrev S256x1536 : Shape := ⟨2, ![256, 1536]⟩
abbrev S256x128 : Shape := ⟨2, ![256, 128]⟩
abbrev S256x1024 : Shape := ⟨2, ![256, 1024]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S1x32x3x1536 : Shape := ⟨4, ![1, 32, 3, 1536]⟩
abbrev S1x32x16x64x128 : Shape := ⟨5, ![1, 32, 16, 64, 128]⟩
abbrev S32x3x1536 : Shape := ⟨3, ![32, 3, 1536]⟩
abbrev S32x8x1536 : Shape := ⟨3, ![32, 8, 1536]⟩
abbrev S32x11x1536 : Shape := ⟨3, ![32, 11, 1536]⟩
abbrev S1x1x1536 : Shape := ⟨3, ![1, 1, 1536]⟩
abbrev S1536 : Shape := ⟨1, ![1536]⟩
abbrev S_ : Shape := ⟨0, ![]⟩
abbrev S32x8x1024 : Shape := ⟨3, ![32, 8, 1024]⟩
abbrev S32x8x256 : Shape := ⟨3, ![32, 8, 256]⟩
abbrev S32x8x2x8x64 : Shape := ⟨5, ![32, 8, 2, 8, 64]⟩
abbrev S32x8x2x128 : Shape := ⟨4, ![32, 8, 2, 128]⟩
abbrev S256x16 : Shape := ⟨2, ![256, 16]⟩
abbrev S32x8x16 : Shape := ⟨3, ![32, 8, 16]⟩
abbrev S16 : Shape := ⟨1, ![16]⟩
abbrev S1x1x16 : Shape := ⟨3, ![1, 1, 16]⟩
abbrev S32x8x2x8 : Shape := ⟨4, ![32, 8, 2, 8]⟩
abbrev S2x8 : Shape := ⟨2, ![2, 8]⟩
abbrev S1x1x2x8 : Shape := ⟨4, ![1, 1, 2, 8]⟩
abbrev S32x8x1x2x8 : Shape := ⟨5, ![32, 8, 1, 2, 8]⟩
abbrev S32x1x8x2x8 : Shape := ⟨5, ![32, 1, 8, 2, 8]⟩
abbrev S32x8x8x2x8 : Shape := ⟨5, ![32, 8, 8, 2, 8]⟩
abbrev S8x8 : Shape := ⟨2, ![8, 8]⟩
abbrev S8x8x1x1 : Shape := ⟨4, ![8, 8, 1, 1]⟩
abbrev S32x2x8x8 : Shape := ⟨4, ![32, 2, 8, 8]⟩
abbrev S32x8x8x2 : Shape := ⟨4, ![32, 8, 8, 2]⟩
abbrev S32x8x8x2x1 : Shape := ⟨5, ![32, 8, 8, 2, 1]⟩
abbrev S32x2x8x64x8 : Shape := ⟨5, ![32, 2, 8, 64, 8]⟩
abbrev S32x1x2x8 : Shape := ⟨4, ![32, 1, 2, 8]⟩
abbrev S32x8x2x8x1 : Shape := ⟨5, ![32, 8, 2, 8, 1]⟩
abbrev S32x2x8x64x128 : Shape := ⟨5, ![32, 2, 8, 64, 128]⟩
abbrev S32x16x64x128 : Shape := ⟨4, ![32, 16, 64, 128]⟩
abbrev S32x2x8 : Shape := ⟨3, ![32, 2, 8]⟩
abbrev S32x2x8x1x1 : Shape := ⟨5, ![32, 2, 8, 1, 1]⟩
abbrev S32x8x16x64 : Shape := ⟨4, ![32, 8, 16, 64]⟩
abbrev S16x1 : Shape := ⟨2, ![16, 1]⟩
abbrev S1x1x16x1 : Shape := ⟨4, ![1, 1, 16, 1]⟩
abbrev S32x8x2x512 : Shape := ⟨4, ![32, 8, 2, 512]⟩
abbrev S32x8x2 : Shape := ⟨3, ![32, 8, 2]⟩
abbrev S32x8x2x1 : Shape := ⟨4, ![32, 8, 2, 1]⟩
abbrev S1024 : Shape := ⟨1, ![1024]⟩
abbrev S1x1x1024 : Shape := ⟨3, ![1, 1, 1024]⟩
abbrev S32x8x128x128 : Shape := ⟨4, ![32, 8, 128, 128]⟩

abbrev nBuf : Space → Nat
  | .hbm => 194
  | .vmem => 0
  | .smem => 0
  | _ => 0

abbrev hbmTy0_0 (i : Nat) : BufTy := match i % 128 with
  | 0 => ⟨S256x1536, .f32⟩
  | 1 => ⟨S256x128, .f32⟩
  | 2 => ⟨S256x1024, .bf16⟩
  | 3 => ⟨S1x4x1536, .f32⟩
  | 4 => ⟨S1x1536, .f32⟩
  | 5 => ⟨S1x16, .f32⟩
  | 6 => ⟨S1x16, .f32⟩
  | 7 => ⟨S1x16, .f32⟩
  | 8 => ⟨S1x1024, .f32⟩
  | 9 => ⟨S1x32x3x1536, .f32⟩
  | 10 => ⟨S1x32x16x64x128, .f32⟩
  | 11 => ⟨S32x3x1536, .f32⟩
  | 12 => ⟨S32x8x1536, .f32⟩
  | 13 => ⟨S32x11x1536, .f32⟩
  | 14 => ⟨S32x3x1536, .f32⟩
  | 15 => ⟨S32x8x1536, .f32⟩
  | 16 => ⟨S1x1x1536, .f32⟩
  | 17 => ⟨S1536, .f32⟩
  | 18 => ⟨S1x1x1536, .f32⟩
  | 19 => ⟨S32x8x1536, .f32⟩
  | 20 => ⟨S32x8x1536, .f32⟩
  | 21 => ⟨S_, .f32⟩
  | 22 => ⟨S32x8x1536, .f32⟩
  | 23 => ⟨S32x8x1536, .f32⟩
  | 24 => ⟨S32x8x1536, .f32⟩
  | 25 => ⟨S1x1x1536, .f32⟩
  | 26 => ⟨S1536, .f32⟩
  | 27 => ⟨S1x1x1536, .f32⟩
  | 28 => ⟨S32x8x1536, .f32⟩
  | 29 => ⟨S32x8x1536, .f32⟩
  | 30 => ⟨S32x8x1536, .f32⟩
  | 31 => ⟨S32x8x1536, .f32⟩
  | 32 => ⟨S1x1x1536, .f32⟩
  | 33 => ⟨S1536, .f32⟩
  | 34 => ⟨S1x1x1536, .f32⟩
  | 35 => ⟨S32x8x1536, .f32⟩
  | 36 => ⟨S32x8x1536, .f32⟩
  | 37 => ⟨S32x8x1536, .f32⟩
  | 38 => ⟨S32x8x1536, .f32⟩
  | 39 => ⟨S1x1x1536, .f32⟩
  | 40 => ⟨S1536, .f32⟩
  | 41 => ⟨S1x1x1536, .f32⟩
  | 42 => ⟨S32x8x1536, .f32⟩
  | 43 => ⟨S32x8x1536, .f32⟩
  | 44 => ⟨S32x8x1536, .f32⟩
  | 45 => ⟨S1536, .f32⟩
  | 46 => ⟨S1x1x1536, .f32⟩
  | 47 => ⟨S32x8x1536, .f32⟩
  | 48 => ⟨S32x8x1536, .f32⟩
  | 49 => ⟨S32x8x1536, .f32⟩
  | 50 => ⟨S32x8x1536, .f32⟩
  | 51 => ⟨S_, .f32⟩
  | 52 => ⟨S32x8x1536, .f32⟩
  | 53 => ⟨S32x8x1536, .f32⟩
  | 54 => ⟨S_, .f32⟩
  | 55 => ⟨S32x8x1536, .f32⟩
  | 56 => ⟨S32x8x1536, .f32⟩
  | 57 => ⟨S32x8x1536, .f32⟩
  | 58 => ⟨S32x8x1024, .f32⟩
  | 59 => ⟨S32x8x256, .f32⟩
  | 60 => ⟨S32x8x256, .f32⟩
  | 61 => ⟨S32x8x2x8x64, .f32⟩
  | 62 => ⟨S32x8x2x128, .f32⟩
  | 63 => ⟨S32x8x2x128, .f32⟩
  | 64 => ⟨S256x16, .f32⟩
  | 65 => ⟨S32x8x16, .f32⟩
  | 66 => ⟨S16, .f32⟩
  | 67 => ⟨S1x1x16, .f32⟩
  | 68 => ⟨S32x8x16, .f32⟩
  | 69 => ⟨S32x8x16, .f32⟩
  | 70 => ⟨S_, .f32⟩
  | 71 => ⟨S32x8x16, .f32⟩
  | 72 => ⟨S32x8x16, .f32⟩
  | 73 => ⟨S32x8x16, .f32⟩
  | 74 => ⟨S32x8x16, .f32⟩
  | 75 => ⟨S32x8x16, .i1⟩
  | 76 => ⟨S32x8x16, .f32⟩
  | 77 => ⟨S32x8x16, .f32⟩
  | 78 => ⟨S32x8x16, .f32⟩
  | 79 => ⟨S32x8x16, .f32⟩
  | 80 => ⟨S32x8x16, .f32⟩
  | 81 => ⟨S32x8x16, .f32⟩
  | 82 => ⟨S32x8x16, .f32⟩
  | 83 => ⟨S32x8x16, .f32⟩
  | 84 => ⟨S32x8x2x8, .f32⟩
  | 85 => ⟨S16, .f32⟩
  | 86 => ⟨S16, .f32⟩
  | 87 => ⟨S16, .f32⟩
  | 88 => ⟨S2x8, .f32⟩
  | 89 => ⟨S1x1x2x8, .f32⟩
  | 90 => ⟨S32x8x2x8, .f32⟩
  | 91 => ⟨S32x8x2x8, .f32⟩
  | 92 => ⟨S_, .f32⟩
  | 93 => ⟨S_, .f32⟩
  | 94 => ⟨S32x8x2x8, .f32⟩
  | 95 => ⟨S32x8x1x2x8, .f32⟩
  | 96 => ⟨S32x1x8x2x8, .f32⟩
  | 97 => ⟨S32x8x8x2x8, .f32⟩
  | 98 => ⟨S32x8x8x2x8, .f32⟩
  | 99 => ⟨S32x8x8x2x8, .f32⟩
  | 100 => ⟨S_, .i1⟩
  | 101 => ⟨S8x8, .i1⟩
  | 102 => ⟨S8x8, .i32⟩
  | 103 => ⟨S_, .i32⟩
  | 104 => ⟨S8x8, .i32⟩
  | 105 => ⟨S8x8, .i32⟩
  | 106 => ⟨S8x8, .i32⟩
  | 107 => ⟨S8x8, .i1⟩
  | 108 => ⟨S_, .i1⟩
  | 109 => ⟨S8x8, .i1⟩
  | 110 => ⟨S8x8, .i1⟩
  | 111 => ⟨S8x8x1x1, .i1⟩
  | 112 => ⟨S_, .f32⟩
  | 113 => ⟨S_, .f32⟩
  | 114 => ⟨S32x8x8x2x8, .i1⟩
  | 115 => ⟨S32x8x8x2x8, .f32⟩
  | 116 => ⟨S32x8x8x2x8, .f32⟩
  | 117 => ⟨S32x8x8x2x8, .f32⟩
  | 118 => ⟨S32x2x8x8, .f32⟩
  | 119 => ⟨S32x8x8x2, .f32⟩
  | 120 => ⟨S32x8x8x2x1, .f32⟩
  | 121 => ⟨S32x8x8x2x8, .f32⟩
  | 122 => ⟨S32x8x8x2x8, .f32⟩
  | 123 => ⟨S32x1x8x2x8, .f32⟩
  | 124 => ⟨S32x8x8x2x8, .f32⟩
  | 125 => ⟨S32x8x8x2x8, .f32⟩
  | 126 => ⟨S32x2x8x64x8, .f32⟩
  | 127 => ⟨S32x8x2x8x64, .f32⟩
  | _ => ⟨S256x1536, .f32⟩

abbrev hbmTy0_1 (i : Nat) : BufTy := match i % 128 with
  | 0 => ⟨S32x1x2x8, .f32⟩
  | 1 => ⟨S32x8x2x8, .f32⟩
  | 2 => ⟨S32x8x2x8, .f32⟩
  | 3 => ⟨S32x8x2x8, .f32⟩
  | 4 => ⟨S32x8x2x8, .f32⟩
  | 5 => ⟨S32x8x2x8x1, .f32⟩
  | 6 => ⟨S32x8x2x8x64, .f32⟩
  | 7 => ⟨S32x8x2x8x64, .f32⟩
  | 8 => ⟨S32x2x8x64x128, .f32⟩
  | 9 => ⟨S32x16x64x128, .f32⟩
  | 10 => ⟨S32x2x8x64x128, .f32⟩
  | 11 => ⟨S32x1x2x8, .f32⟩
  | 12 => ⟨S32x2x8, .f32⟩
  | 13 => ⟨S32x2x8, .f32⟩
  | 14 => ⟨S32x2x8x1x1, .f32⟩
  | 15 => ⟨S32x2x8x64x128, .f32⟩
  | 16 => ⟨S32x2x8x64x128, .f32⟩
  | 17 => ⟨S32x2x8x64x128, .f32⟩
  | 18 => ⟨S32x2x8x64x8, .f32⟩
  | 19 => ⟨S32x8x2x8x64, .f32⟩
  | 20 => ⟨S32x8x2x8, .f32⟩
  | 21 => ⟨S32x8x2x8x1, .f32⟩
  | 22 => ⟨S32x8x2x8x64, .f32⟩
  | 23 => ⟨S32x8x2x8x64, .f32⟩
  | 24 => ⟨S32x8x2x8x64, .f32⟩
  | 25 => ⟨S32x8x16x64, .f32⟩
  | 26 => ⟨S16, .f32⟩
  | 27 => ⟨S16x1, .f32⟩
  | 28 => ⟨S32x8x16x64, .f32⟩
  | 29 => ⟨S1x1x16x1, .f32⟩
  | 30 => ⟨S32x8x16x64, .f32⟩
  | 31 => ⟨S32x8x16x64, .f32⟩
  | 32 => ⟨S32x8x16x64, .f32⟩
  | 33 => ⟨S32x8x1024, .f32⟩
  | 34 => ⟨S256x1024, .f32⟩
  | 35 => ⟨S32x8x1024, .f32⟩
  | 36 => ⟨S32x8x1024, .f32⟩
  | 37 => ⟨S32x8x1024, .f32⟩
  | 38 => ⟨S_, .f32⟩
  | 39 => ⟨S32x8x1024, .f32⟩
  | 40 => ⟨S32x8x1024, .f32⟩
  | 41 => ⟨S_, .f32⟩
  | 42 => ⟨S32x8x1024, .f32⟩
  | 43 => ⟨S32x8x1024, .f32⟩
  | 44 => ⟨S32x8x1024, .f32⟩
  | 45 => ⟨S32x8x1024, .f32⟩
  | 46 => ⟨S32x8x2x512, .f32⟩
  | 47 => ⟨S32x8x2x512, .f32⟩
  | 48 => ⟨S_, .f32⟩
  | 49 => ⟨S32x8x2, .f32⟩
  | 50 => ⟨S32x8x2x1, .f32⟩
  | 51 => ⟨S_, .f32⟩
  | 52 => ⟨S32x8x2x1, .f32⟩
  | 53 => ⟨S32x8x2x1, .f32⟩
  | 54 => ⟨S_, .f32⟩
  | 55 => ⟨S32x8x2x1, .f32⟩
  | 56 => ⟨S32x8x2x1, .f32⟩
  | 57 => ⟨S32x8x2x1, .f32⟩
  | 58 => ⟨S32x8x2x512, .f32⟩
  | 59 => ⟨S32x8x2x512, .f32⟩
  | 60 => ⟨S32x8x1024, .f32⟩
  | 61 => ⟨S1024, .f32⟩
  | 62 => ⟨S1x1x1024, .f32⟩
  | 63 => ⟨S32x8x1024, .f32⟩
  | 64 => ⟨S32x8x1024, .f32⟩
  | 65 => ⟨S32x8x128x128, .f32⟩
  | _ => ⟨S256x1536, .f32⟩

abbrev hbmTy (i : Nat) : BufTy := match i / 128 with
  | 0 => hbmTy0_0 i
  | 1 => hbmTy0_1 i
  | _ => ⟨S256x1536, .f32⟩

abbrev bufTy : (tb : Table) → Fin (tcTables nBuf tb) → BufTy
  | .hbm, ⟨i, _⟩ => hbmTy i
  | _, _ => ⟨S256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call2_call0_cst : Ref sig .tc := ⟨.hbm, 92, rfl⟩
abbrev main_call2_call0_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c : Ref sig .tc := ⟨.hbm, 100, rfl⟩
abbrev main_v65 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_c_0 : Ref sig .tc := ⟨.hbm, 108, rfl⟩
abbrev main_call3_v5 : Ref sig .tc := ⟨.hbm, 109, rfl⟩
abbrev main_v66 : Ref sig .tc := ⟨.hbm, 110, rfl⟩
abbrev main_v67 : Ref sig .tc := ⟨.hbm, 111, rfl⟩
abbrev main_cst_0 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_1 : Ref sig .tc := ⟨.hbm, 176, rfl⟩
abbrev main_v120 : Ref sig .tc := ⟨.hbm, 177, rfl⟩
abbrev main_v121 : Ref sig .tc := ⟨.hbm, 178, rfl⟩
abbrev main_cst_2 : Ref sig .tc := ⟨.hbm, 179, rfl⟩
abbrev main_v122 : Ref sig .tc := ⟨.hbm, 180, rfl⟩
abbrev main_v123 : Ref sig .tc := ⟨.hbm, 181, rfl⟩
abbrev main_cst_3 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩

abbrev nD : Nat := 1
abbrev τ : Topo := Topo.v7x

variable {F : FTy → Type} [FloatOps F]
-- ==== InprojS.lean ====
abbrev S32x8x1024 : Shape := ⟨3, ![32, 8, 1024]⟩
abbrev S1x1024x7696 : Shape := ⟨3, ![1, 1024, 7696]⟩
abbrev S256x1024 : Shape := ⟨2, ![256, 1024]⟩
abbrev S1024x7696 : Shape := ⟨2, ![1024, 7696]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x7808 : Shape := ⟨2, ![1024, 7808]⟩
abbrev S256x1536 : Shape := ⟨2, ![256, 1536]⟩
abbrev S256x128 : Shape := ⟨2, ![256, 128]⟩

abbrev nBuf : Space → Nat
  | .hbm => 31
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S1x1024x7696, .f32⟩
  | .hbm, ⟨4, _⟩ => ⟨S256x1024, .f32⟩
  | .hbm, ⟨5, _⟩ => ⟨S1024x7696, .f32⟩
  | .hbm, ⟨6, _⟩ => ⟨S1024x1024, .f32⟩
  | .hbm, ⟨7, _⟩ => ⟨S1024x1536, .f32⟩
  | .hbm, ⟨8, _⟩ => ⟨S1024x16, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x7808, .f32⟩
  | .hbm, ⟨18, _⟩ => ⟨S1024x7808, .bf16⟩
  | .hbm, ⟨19, _⟩ => ⟨S256x1024, .f32⟩
  | .hbm, ⟨20, _⟩ => ⟨S256x1024, .f32⟩
  | .hbm, ⟨21, _⟩ => ⟨S256x1024, .bf16⟩
  | .hbm, ⟨22, _⟩ => ⟨S256x1536, .f32⟩
  | .hbm, ⟨23, _⟩ => ⟨S256x128, .f32⟩
  | .hbm, ⟨24, _⟩ => ⟨S256x1024, .bf16⟩
  | .hbm, ⟨25, _⟩ => ⟨S256x1024, .f32⟩
  | .hbm, ⟨26, _⟩ => ⟨S256x1024, .f32⟩
  | .hbm, ⟨27, _⟩ => ⟨S256x1024, .bf16⟩
  | .hbm, ⟨28, _⟩ => ⟨S256x1024, .bf16⟩
  | .hbm, ⟨29, _⟩ => ⟨S256x1024, .bf16⟩
  | .hbm, ⟨30, _⟩ => ⟨S256x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1024x7808, .bf16⟩
  | .local _ .vmem, ⟨4, _⟩ => ⟨S256x1024, .bf16⟩
  | .local _ .vmem, ⟨5, _⟩ => ⟨S256x1536, .f32⟩
  | .local _ .vmem, ⟨6, _⟩ => ⟨S256x128, .f32⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev main_v15_2 : Ref sig .tc := ⟨.hbm, 23, rfl⟩
abbrev main_v15_3 : Ref sig .tc := ⟨.hbm, 24, rfl⟩
abbrev main_v15_4 : Ref sig .tc := ⟨.hbm, 25, rfl⟩
abbrev main_v15_5 : Ref sig .tc := ⟨.hbm, 26, rfl⟩
abbrev main_v15_6 : Ref sig .tc := ⟨.hbm, 27, rfl⟩
abbrev main_v15_7 : Ref sig .tc := ⟨.hbm, 28, rfl⟩
abbrev main_v15_8 : Ref sig .tc := ⟨.hbm, 29, rfl⟩
abbrev main_v15_9 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x7808 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== InprojSRefIdeal.lean ====
abbrev S32x8x1024 : Shape := ⟨3, ![32, 8, 1024]⟩
abbrev S1x1024x7696 : Shape := ⟨3, ![1, 1024, 7696]⟩
abbrev S_ : Shape := ⟨0, ![]⟩
abbrev S1024x7696 : Shape := ⟨2, ![1024, 7696]⟩
abbrev S32x8x7696 : Shape := ⟨3, ![32, 8, 7696]⟩
abbrev S256x7696 : Shape := ⟨2, ![256, 7696]⟩
abbrev S256x1024 : Shape := ⟨2, ![256, 1024]⟩
abbrev S256x1536 : Shape := ⟨2, ![256, 1536]⟩
abbrev S256x16 : Shape := ⟨2, ![256, 16]⟩
abbrev S256x128 : Shape := ⟨2, ![256, 128]⟩

abbrev nBuf : Space → Nat
  | .hbm => 32
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S1x1024x7696, .f32⟩
  | .hbm, ⟨4, _⟩ => ⟨S_, .f32⟩
  | .hbm, ⟨5, _⟩ => ⟨S32x8x1024, .f32⟩
  | .hbm, ⟨6, _⟩ => ⟨S32x8x1024, .f32⟩
  | .hbm, ⟨7, _⟩ => ⟨S32x8x1024, .f32⟩
  | .hbm, ⟨8, _⟩ => ⟨S32x8x1024, .f32⟩
  | .hbm, ⟨9, _⟩ => ⟨S1024x7696, .f32⟩
  | .hbm, ⟨10, _⟩ => ⟨S32x8x7696, .f32⟩
  | .hbm, ⟨11, _⟩ => ⟨S256x7696, .f32⟩
  | .hbm, ⟨12, _⟩ => ⟨S256x1024, .f32⟩
  | .hbm, ⟨13, _⟩ => ⟨S256x1536, .f32⟩
  | .hbm, ⟨14, _⟩ => ⟨S256x16, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .i32⟩
  | .hbm, ⟨24, _⟩ => ⟨S_, .f32⟩
  | .hbm, ⟨25, _⟩ => ⟨S256x128, .f32⟩
  | .hbm, ⟨26, _⟩ => ⟨S256x1024, .bf16⟩
  | .hbm, ⟨27, _⟩ => ⟨S256x1024, .bf16⟩
  | .hbm, ⟨28, _⟩ => ⟨S256x1024, .bf16⟩
  | .hbm, ⟨29, _⟩ => ⟨S256x1024, .bf16⟩
  | .hbm, ⟨30, _⟩ => ⟨S256x1024, .bf16⟩
  | .hbm, ⟨31, _⟩ => ⟨S256x1024, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Merge.lean ====
abbrev S16384x1024 : Shape := ⟨2, ![16384, 1024]⟩
abbrev S4x4096x1024 : Shape := ⟨3, ![4, 4096, 1024]⟩
abbrev S4x1x1024 : Shape := ⟨3, ![4, 1, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S128x1024 : Shape := ⟨2, ![128, 1024]⟩
abbrev S64x16384 : Shape := ⟨2, ![64, 16384]⟩
abbrev S512x1024 : Shape := ⟨2, ![512, 1024]⟩
abbrev S1x1x1024 : Shape := ⟨3, ![1, 1, 1024]⟩
abbrev S64x512 : Shape := ⟨2, ![64, 512]⟩
abbrev S512 : Shape := ⟨1, ![512]⟩
abbrev S512x1 : Shape := ⟨2, ![512, 1]⟩
abbrev S128x512 : Shape := ⟨2, ![128, 512]⟩

abbrev nBuf : Space → Nat
  | .hbm => 35
  | .vmem => 28
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x4096x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1x1024x64, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S16384x1024, .f32⟩
  | .hbm, ⟨21, _⟩ => ⟨S1024, .f32⟩
  | .hbm, ⟨22, _⟩ => ⟨S1024, .f32⟩
  | .hbm, ⟨23, _⟩ => ⟨S1024x64, .f32⟩
  | .hbm, ⟨24, _⟩ => ⟨S64x1024, .f32⟩
  | .hbm, ⟨25, _⟩ => ⟨S64x1024, .bf16⟩
  | .hbm, ⟨26, _⟩ => ⟨S1x1024, .f32⟩
  | .hbm, ⟨27, _⟩ => ⟨S1x1024, .f32⟩
  | .hbm, ⟨28, _⟩ => ⟨S64x1024, .f32⟩
  | .hbm, ⟨29, _⟩ => ⟨S64x1024, .f32⟩
  | .hbm, ⟨30, _⟩ => ⟨S64x1024, .bf16⟩
  | .hbm, ⟨31, _⟩ => ⟨S128x1024, .bf16⟩
  | .hbm, ⟨32, _⟩ => ⟨S16384x1024, .f32⟩
  | .hbm, ⟨33, _⟩ => ⟨S16384x1024, .bf16⟩
  | .hbm, ⟨34, _⟩ => ⟨S64x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S128x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S64x512, .f32⟩
  | .local _ .vmem, ⟨27, _⟩ => ⟨S64x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S16384x1024 : Shape := ⟨2, ![16384, 1024]⟩
abbrev S4x4096x1024 : Shape := ⟨3, ![4, 4096, 1024]⟩
abbrev S4x1x1024 : Shape := ⟨3, ![4, 1, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x4096x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1x1024x64, .f32⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S1024x1024, .f32⟩
  | .hbm, ⟨45, _⟩ => ⟨S16384x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x1024, .f32⟩
  | .hbm, ⟨72, _⟩ => ⟨S4x4096x1024, .f32⟩
  | .hbm, ⟨73, _⟩ => ⟨S1024, .f32⟩
  | .hbm, ⟨74, _⟩ => ⟨S1x1x1024, .f32⟩
  | .hbm, ⟨75, _⟩ => ⟨S4x4096x1024, .f32⟩
  | .hbm, ⟨76, _⟩ => ⟨S4x4096x1024, .f32⟩
  | .hbm, ⟨77, _⟩ => ⟨S1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x1x1024, .f32⟩
  | .hbm, ⟨83, _⟩ => ⟨S4x1x1024, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S16384x1024, .f32⟩
  | .hbm, ⟨89, _⟩ => ⟨S16384x1024, .f32⟩
  | .hbm, ⟨90, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Experts.lean ====
abbrev S196608x512 : Shape := ⟨2, ![196608, 512]⟩
abbrev S192 : Shape := ⟨1, ![192]⟩
abbrev S1 : Shape := ⟨1, ![1]⟩
abbrev S1x64x1024x256 : Shape := ⟨4, ![1, 64, 1024, 256]⟩
abbrev S1x64x256x1024 : Shape := ⟨4, ![1, 64, 256, 1024]⟩
abbrev S64x1024x256 : Shape := ⟨3, ![64, 1024, 256]⟩
abbrev S64x256x1024 : Shape := ⟨3, ![64, 256, 1024]⟩
abbrev S193 : Shape := ⟨1, ![193]⟩
abbrev S196608x1024 : Shape := ⟨2, ![196608, 1024]⟩
abbrev S1024x512 : Shape := ⟨2, ![1024, 512]⟩
abbrev S1x1024x256 : Shape := ⟨3, ![1, 1024, 256]⟩
abbrev S1x256x1024 : Shape := ⟨3, ![1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 13
  | .vmem => 10
  | .smem => 2
  | _ => 0

abbrev bufTy : (tb : Table) → Fin (tcTables nBuf tb) → BufTy
  | .hbm, ⟨0, _⟩ => ⟨S196608x512, .i32⟩
  | .hbm, ⟨1, _⟩ => ⟨S192, .i32⟩
  | .hbm, ⟨2, _⟩ => ⟨S1, .i32⟩
  | .hbm, ⟨3, _⟩ => ⟨S1x64x1024x256, .f32⟩
  | .hbm, ⟨4, _⟩ => ⟨S1x64x1024x256, .f32⟩
  | .hbm, ⟨5, _⟩ => ⟨S1x64x256x1024, .f32⟩
  | .hbm, ⟨6, _⟩ => ⟨S64x1024x256, .f32⟩
  | .hbm, ⟨7, _⟩ => ⟨S64x1024x256, .bf16⟩
  | .hbm, ⟨8, _⟩ => ⟨S64x1024x256, .f32⟩
  | .hbm, ⟨9, _⟩ => ⟨S64x1024x256, .bf16⟩
  | .hbm, ⟨10, _⟩ => ⟨S64x256x1024, .f32⟩
  | .hbm, ⟨11, _⟩ => ⟨S64x256x1024, .bf16⟩
  | .hbm, ⟨12, _⟩ => ⟨S196608x1024, .bf16⟩
  | .local _ .vmem, ⟨0, _⟩ => ⟨S1024x512, .i32⟩
  | .local _ .vmem, ⟨1, _⟩ => ⟨S1024x512, .i32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1024x1024, .bf16⟩
  | .local _ .smem, ⟨0, _⟩ => ⟨S192, .i32⟩
  | .local _ .smem, ⟨1, _⟩ => ⟨S193, .i32⟩
  | _, _ => ⟨S196608x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v7 : Ref sig .tc := ⟨.hbm, 12, rfl⟩
abbrev main_arg1 : Ref sig .tc := ⟨.smem, 0, rfl⟩
abbrev main_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![192], ![false]⟩

abbrev pre0 : Pipeline.Prefetch sig := ⟨2, ![main_arg1.idx, main_v6.idx], fun | 0 => main_arg1.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def cc0_transform_0 (inb_S193_S1_192 : ∀ a, (![192] : Fin 1 → Nat) a + S1.size a ≤ S193.size a) (numel1_S1 : S1.numel = 1) (pf : pre0.Contents (Elt F)) (i : grid0.Coords) : Fin 2 → Nat :=
  let arg0 : BitVec 32 := BitVec.ofNat 32 (i 0).val
  let c192 : Index := 192#32
  let v0 : BitVec 32 := pf.at 1 (Rect.unit (s := S193) ![192] S1.size inb_S193_S1_192) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S196608x512 : Shape := ⟨2, ![196608, 512]⟩
abbrev S192 : Shape := ⟨1, ![192]⟩
abbrev S1 : Shape := ⟨1, ![1]⟩
abbrev S1x64x1024x256 : Shape := ⟨4, ![1, 64, 1024, 256]⟩
abbrev S1x64x256x1024 : Shape := ⟨4, ![1, 64, 256, 1024]⟩
abbrev S196608x512x2 : Shape := ⟨3, ![196608, 512, 2]⟩
abbrev S196608x512x1 : Shape := ⟨3, ![196608, 512, 1]⟩
abbrev S196608x1024 : Shape := ⟨2, ![196608, 1024]⟩
abbrev S192x1024x1024 : Shape := ⟨3, ![192, 1024, 1024]⟩
abbrev S1024 : Shape := ⟨1, ![1024]⟩
abbrev S1x1024 : Shape := ⟨2, ![1, 1024]⟩
abbrev S192x1 : Shape := ⟨2, ![192, 1]⟩
abbrev S192x1024 : Shape := ⟨2, ![192, 1024]⟩
abbrev S192x1024x1 : Shape := ⟨3, ![192, 1024, 1]⟩
abbrev S_ : Shape := ⟨0, ![]⟩
abbrev S64x1024x256 : Shape := ⟨3, ![64, 1024, 256]⟩
abbrev S192x1024x256 : Shape := ⟨3, ![192, 1024, 256]⟩
abbrev S64x256x1024 : Shape := ⟨3, ![64, 256, 1024]⟩
abbrev S192x256x1024 : Shape := ⟨3, ![192, 256, 1024]⟩
abbrev S192x1x1 : Shape := ⟨3, ![192, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S196608x512, .i32⟩
  | .hbm, ⟨1, _⟩ => ⟨S192, .i32⟩
  | .hbm, ⟨2, _⟩ => ⟨S192, .i32⟩
  | .hbm, ⟨3, _⟩ => ⟨S1, .i32⟩
  | .hbm, ⟨4, _⟩ => ⟨S1x64x1024x256, .f32⟩
  | .hbm, ⟨5, _⟩ => ⟨S1x64x1024x256, .f32⟩
  | .hbm, ⟨6, _⟩ => ⟨S1x64x256x1024, .f32⟩
  | .hbm, ⟨7, _⟩ => ⟨S196608x512x2, .bf16⟩
  | .hbm, ⟨8, _⟩ => ⟨S196608x512x1, .bf16⟩
  | .hbm, ⟨9, _⟩ => ⟨S196608x512, .bf16⟩
  | .hbm, ⟨10, _⟩ => ⟨S196608x512x1, .bf16⟩
  | .hbm, ⟨11, _⟩ => ⟨S196608x512, .bf16⟩
  | .hbm, ⟨12, _⟩ => ⟨S196608x1024, .bf16⟩
  | .hbm, ⟨13, _⟩ => ⟨S196608x1024, .f32⟩
  | .hbm, ⟨14, _⟩ => ⟨S192x1024x1024, .f32⟩
  | .hbm, ⟨15, _⟩ => ⟨S1024, .i32⟩
  | .hbm, ⟨16, _⟩ => ⟨S1x1024, .i32⟩
  | .hbm, ⟨17, _⟩ => ⟨S192x1, .i32⟩
  | .hbm, ⟨18, _⟩ => ⟨S192x1024, .i32⟩
  | .hbm, ⟨19, _⟩ => ⟨S192x1024, .i32⟩
  | .hbm, ⟨20, _⟩ => ⟨S192x1024, .i1⟩
  | .hbm, ⟨21, _⟩ => ⟨S192x1024x1, .i1⟩
  | .hbm, ⟨22, _⟩ => ⟨S_, .f32⟩
  | .hbm, ⟨23, _⟩ => ⟨S_, .f32⟩
  | .hbm, ⟨24, _⟩ => ⟨S192x1024x1024, .i1⟩
  | .hbm, ⟨25, _⟩ => ⟨S192x1024x1024, .f32⟩
  | .hbm, ⟨26, _⟩ => ⟨S192x1024x1024, .f32⟩
  | .hbm, ⟨27, _⟩ => ⟨S64x1024x256, .f32⟩
  | .hbm, ⟨28, _⟩ => ⟨S_, .i32⟩
  | .hbm, ⟨29, _⟩ => ⟨S192, .i32⟩
  | .hbm, ⟨30, _⟩ => ⟨S192, .i1⟩
  | .hbm, ⟨31, _⟩ => ⟨S_, .i32⟩
  | .hbm, ⟨32, _⟩ => ⟨S192, .i32⟩
  | .hbm, ⟨33, _⟩ => ⟨S192, .i32⟩
  | .hbm, ⟨34, _⟩ => ⟨S192, .i32⟩
  | .hbm, ⟨35, _⟩ => ⟨S192x1, .i32⟩
  | .hbm, ⟨36, _⟩ => ⟨S192x1024x256, .f32⟩
  | .hbm, ⟨37, _⟩ => ⟨S192x1024x256, .f32⟩
  | .hbm, ⟨38, _⟩ => ⟨S64x1024x256, .f32⟩
  | .hbm, ⟨39, _⟩ => ⟨S_, .i32⟩
  | .hbm, ⟨40, _⟩ => ⟨S192, .i32⟩
  | .hbm, ⟨41, _⟩ => ⟨S192, .i1⟩
  | .hbm, ⟨42, _⟩ => ⟨S_, .i32⟩
  | .hbm, ⟨43, _⟩ => ⟨S192, .i32⟩
  | .hbm, ⟨44, _⟩ => ⟨S192, .i32⟩
  | .hbm, ⟨45, _⟩ => ⟨S192, .i32⟩
  | .hbm, ⟨46, _⟩ => ⟨S192x1, .i32⟩
  | .hbm, ⟨47, _⟩ => ⟨S192x1024x256, .f32⟩
  | .hbm, ⟨48, _⟩ => ⟨S192x1024x256, .f32⟩
  | .hbm, ⟨49, _⟩ => ⟨S192x1024x256, .f32⟩
  | .hbm, ⟨50, _⟩ => ⟨S192x1024x256, .f32⟩
  | .hbm, ⟨51, _⟩ => ⟨S_, .f32⟩
  | .hbm, ⟨52, _⟩ => ⟨S192x1024x256, .f32⟩
  | .hbm, ⟨53, _⟩ => ⟨S192x1024x256, .f32⟩
  | .hbm, ⟨54, _⟩ => ⟨S_, .f32⟩
  | .hbm, ⟨55, _⟩ => ⟨S192x1024x256, .f32⟩
  | .hbm, ⟨56, _⟩ => ⟨S192x1024x256, .f32⟩
  | .hbm, ⟨57, _⟩ => ⟨S192x1024x256, .f32⟩
  | .hbm, ⟨58, _⟩ => ⟨S192x1024x256, .f32⟩
  | .hbm, ⟨59, _⟩ => ⟨S64x256x1024, .f32⟩
  | .hbm, ⟨60, _⟩ => ⟨S_, .i32⟩
  | .hbm, ⟨61, _⟩ => ⟨S192, .i32⟩
  | .hbm, ⟨62, _⟩ => ⟨S192, .i1⟩
  | .hbm, ⟨63, _⟩ => ⟨S_, .i32⟩
  | .hbm, ⟨64, _⟩ => ⟨S192, .i32⟩
  | .hbm, ⟨65, _⟩ => ⟨S192, .i32⟩
  | .hbm, ⟨66, _⟩ => ⟨S192, .i32⟩
  | .hbm, ⟨67, _⟩ => ⟨S192x1, .i32⟩
  | .hbm, ⟨68, _⟩ => ⟨S192x256x1024, .f32⟩
  | .hbm, ⟨69, _⟩ => ⟨S192x1024x1024, .f32⟩
  | .hbm, ⟨70, _⟩ => ⟨S192, .i32⟩
  | .hbm, ⟨71, _⟩ => ⟨S192, .i32⟩
  | .hbm, ⟨72, _⟩ => ⟨S192, .i1⟩
  | .hbm, ⟨73, _⟩ => ⟨S192x1x1, .i1⟩
  | .hbm, ⟨74, _⟩ => ⟨S_, .f32⟩
  | .hbm, ⟨75, _⟩ => ⟨S_, .f32⟩
  | .hbm, ⟨76, _⟩ => ⟨S192x1024x1024, .i1⟩
  | .hbm, ⟨77, _⟩ => ⟨S192x1024x1024, .f32⟩
  | .hbm, ⟨78, _⟩ => ⟨S192x1024x1024, .f32⟩
  | .hbm, ⟨79, _⟩ => ⟨S196608x1024, .f32⟩
  | .hbm, ⟨80, _⟩ => ⟨S196608x1024, .bf16⟩
  | _, _ => ⟨S196608x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_3 : Ref sig .tc := ⟨.hbm, 60, rfl⟩
abbrev main_v37 : Ref sig .tc := ⟨.hbm, 61, rfl⟩
abbrev main_v38 : Ref sig .tc := ⟨.hbm, 62, rfl⟩
abbrev main_c_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Proof.CombineSpec.lean ====
/-
  One row of the combine, over the extended reals: what a packed row holds, the shared expert, the sum with the routed
  experts' rows, and the normalisation behind the residual.
-/
module

public import Idealize.ShloMosaic.Lib.Pipeline.ValueKit
public import Idealize.ShloMosaic.Lib.Pointwise

@[expose] public section

set_option maxRecDepth 16384

noncomputable section

namespace Cert.CombineSpec

open Idealize.ShloMosaic

/-- The bf16 number in half `i` of a word. -/
def half (i : Nat) (w : BitVec 32) : EReal := Ideal.ofBits .bf16 (w.extractLsb' (i * 16) 16)

/-- Number `j` of a row of 512 words: the low halves first, then the high ones. -/
def row (p : Fin 512 → BitVec 32) (j : Fin 1024) : EReal :=
  if h : j.val < 512 then half 0 (p ⟨j.val, h⟩) else half 1 (p ⟨j.val - 512, by omega⟩)

/-- A row against a matrix's column. -/
def dot {n k : Nat} (u : Fin n → EReal) (w : Fin n → Fin k → EReal) (j : Fin k) : EReal := ∑ i : Fin n, u i * w i j

/-- The shared expert: two projections, the first through `x * logistic x`, their product projected back. -/
def shared (u : Fin 1024 → EReal) (wg wu : Fin 1024 → Fin 256 → EReal) (wd : Fin 256 → Fin 1024 → EReal) (j : Fin 1024) :
    EReal :=
  dot (fun h => dot u wg h * Ideal.logistic (dot u wg h) * dot u wu h) wd j

/-- The residual: `α x₁ + g₂ f`. -/
def resid (x1 g2 f : Fin 1024 → EReal) (j : Fin 1024) : EReal := Ideal.ofBits .f32 0x3F9837F0#32 * x1 j + g2 j * f j

/-- The mean of a row. -/
def mean (r : Fin 1024 → EReal) : EReal := Ideal.div (∑ j : Fin 1024, r j) (Ideal.ofBits .f32 0x44800000#32)

/-- The layer norm of a row. -/
def norm (r g b : Fin 1024 → EReal) (j : Fin 1024) : EReal :=
  (r j - mean r) * Ideal.rsqrt (mean (fun k => (r k - mean r) * (r k - mean r)) + Ideal.ofBits .f32 0x3727C5AC#32) * g j
    + b j

/-- The experts' rows, weighted and summed, beside the shared expert's. -/
def ffn (y : Fin 8 → Fin 1024 → EReal) (w : Fin 8 → EReal) (s : Fin 1024 → EReal) (j : Fin 1024) : EReal :=
  (∑ k : Fin 8, y k j * w k) + s j

/-- One row of the result, from the packed rows and the weights. -/
def combineRow (y : Fin 8 → Fin 512 → BitVec 32) (w : Fin 8 → EReal) (u : Fin 512 → BitVec 32) (x1 g2 : Fin 1024 → EReal)
    (wg wu : Fin 1024 → Fin 256 → EReal) (wd : Fin 256 → Fin 1024 → EReal) (g b : Fin 1024 → EReal) : Fin 1024 → EReal :=
  norm (resid x1 g2 (ffn (fun k => row (y k)) w (shared (row u) wg wu wd))) g b

end Cert.CombineSpec
-- ==== Proof.CombineBlock.lean ====
/-
  What one point of the combine writes: each row of its block is the combine of that row's operands.
-/
module

public import proofs.«01_k».proof.Proof.CombineSpec
public import proofs.«01_k».proof.Proof.Gen.CombineIdeal.Frame

@[expose] public section

set_option maxRecDepth 16384

noncomputable section

namespace Cert.CombineIdeal.Block

open Cert.CombineIdeal Cert.CombineIdeal.Gen Cert.CombineSpec Idealize.ShloMosaic Idealize.ShloMosaic.TcCoe Idealize.SL.Sem

/-- A block of packed rows, unpacked: the low halves beside the high ones. -/
theorem unp_apply (v : IVec S512x512 32) (a : Fin 512) (j : Fin 1024) :
    concatenate S512x1024 1 [⟨S512x512, unpackElementwise (F := Ideal) 0 v⟩, ⟨S512x512, unpackElementwise (F := Ideal) 1 v⟩] concatenates_S512x512_S512x512_S512x1024_d1 (ix2 a j)
      = row (fun w => v (ix2 a w)) j := by
  unfold row half
  pointwise []

/-- The same of one expert's rows, a slab of the block. -/
theorem slab_apply (v : Vec Ideal S1x512x512 .i32) (a : Fin 512) (j : Fin 1024) :
    concatenate S512x1024 1 [⟨S512x512, unpackElementwise (F := Ideal) 0 (shapeCast S512x512 v shapeCasts_S1x512x512_S512x512)⟩, ⟨S512x512, unpackElementwise (F := Ideal) 1 (shapeCast S512x512 v shapeCasts_S1x512x512_S512x512)⟩] concatenates_S512x512_S512x512_S512x1024_d1 (ix2 a j)
      = row (fun w => v (ix3 0 a w)) j := by
  rw [unp_apply]
  refine congrArg (fun p => row p j) (funext fun w => ?_)
  pointwise []

/-- The shared expert and the first two experts. -/
theorem pay2_apply (v0 : Vec Ideal S512x512 .i32) (v5 v10 : Vec Ideal S1024x256 .bf16) (v15 : Vec Ideal S256x1024 .bf16)
    (v18 : Vec Ideal S512x8 .f32) (v20 v29 : Vec Ideal S1x512x512 .i32) (a : Fin 512) (j : Fin 1024) :
    k0_pay2 v0 v5 v10 v15 v18 v20 v29 (ix2 a j)
      = shared (row fun w => v0 (ix2 a w)) (fun i h => v5 (ix2 i h)) (fun i h => v10 (ix2 i h)) (fun h i => v15 (ix2 h i)) j
        + row (fun w => v20 (ix3 0 a w)) j * v18 (ix2 a 0) + row (fun w => v29 (ix3 0 a w)) j * v18 (ix2 a 1) := by
  have e0 := fun j => unp_apply v0 a j
  have e1 := fun j => slab_apply v20 a j
  have e2 := fun j => slab_apply v29 a j
  unfold k0_pay2
  generalize concatenate S512x1024 1 [⟨S512x512, unpackElementwise (F := Ideal) 0 v0⟩, ⟨S512x512, unpackElementwise (F := Ideal) 1 v0⟩] concatenates_S512x512_S512x512_S512x1024_d1 = R0 at e0 ⊢
  generalize concatenate S512x1024 1 [⟨S512x512, unpackElementwise (F := Ideal) 0 (shapeCast S512x512 v20 shapeCasts_S1x512x512_S512x512)⟩, ⟨S512x512, unpackElementwise (F := Ideal) 1 (shapeCast S512x512 v20 shapeCasts_S1x512x512_S512x512)⟩] concatenates_S512x512_S512x512_S512x1024_d1 = R1 at e1 ⊢
  generalize concatenate S512x1024 1 [⟨S512x512, unpackElementwise (F := Ideal) 0 (shapeCast S512x512 v29 shapeCasts_S1x512x512_S512x512)⟩, ⟨S512x512, unpackElementwise (F := Ideal) 1 (shapeCast S512x512 v29 shapeCasts_S1x512x512_S512x512)⟩] concatenates_S512x512_S512x512_S512x1024_d1 = R2 at e2 ⊢
  pointwise [k0_pay1]
  simp only [e0, e1, e2]
  rfl

/-- The next five experts. -/
theorem pay3_apply (v19 : FVec Ideal S512x8 .f32) (v37 : FVec Ideal S512x1024 .f32)
    (v38 v47 v56 v65 v74 : Vec Ideal S1x512x512 .i32) (a : Fin 512) (j : Fin 1024) :
    k0_pay3 v19 v37 v38 v47 v56 v65 v74 (ix2 a j)
      = v37 (ix2 a j) + row (fun w => v38 (ix3 0 a w)) j * v19 (ix2 a 2) + row (fun w => v47 (ix3 0 a w)) j * v19 (ix2 a 3)
        + row (fun w => v56 (ix3 0 a w)) j * v19 (ix2 a 4) + row (fun w => v65 (ix3 0 a w)) j * v19 (ix2 a 5)
        + row (fun w => v74 (ix3 0 a w)) j * v19 (ix2 a 6) := by
  have e38 := fun j => slab_apply v38 a j
  have e47 := fun j => slab_apply v47 a j
  have e56 := fun j => slab_apply v56 a j
  have e65 := fun j => slab_apply v65 a j
  have e74 := fun j => slab_apply v74 a j
  unfold k0_pay3
  generalize concatenate S512x1024 1 [⟨S512x512, unpackElementwise (F := Ideal) 0 (shapeCast S512x512 v38 shapeCasts_S1x512x512_S512x512)⟩, ⟨S512x512, unpackElementwise (F := Ideal) 1 (shapeCast S512x512 v38 shapeCasts_S1x512x512_S512x512)⟩] concatenates_S512x512_S512x512_S512x1024_d1 = R38 at e38 ⊢
  generalize concatenate S512x1024 1 [⟨S512x512, unpackElementwise (F := Ideal) 0 (shapeCast S512x512 v47 shapeCasts_S1x512x512_S512x512)⟩, ⟨S512x512, unpackElementwise (F := Ideal) 1 (shapeCast S512x512 v47 shapeCasts_S1x512x512_S512x512)⟩] concatenates_S512x512_S512x512_S512x1024_d1 = R47 at e47 ⊢
  generalize concatenate S512x1024 1 [⟨S512x512, unpackElementwise (F := Ideal) 0 (shapeCast S512x512 v56 shapeCasts_S1x512x512_S512x512)⟩, ⟨S512x512, unpackElementwise (F := Ideal) 1 (shapeCast S512x512 v56 shapeCasts_S1x512x512_S512x512)⟩] concatenates_S512x512_S512x512_S512x1024_d1 = R56 at e56 ⊢
  generalize concatenate S512x1024 1 [⟨S512x512, unpackElementwise (F := Ideal) 0 (shapeCast S512x512 v65 shapeCasts_S1x512x512_S512x512)⟩, ⟨S512x512, unpackElementwise (F := Ideal) 1 (shapeCast S512x512 v65 shapeCasts_S1x512x512_S512x512)⟩] concatenates_S512x512_S512x512_S512x1024_d1 = R65 at e65 ⊢
  generalize concatenate S512x1024 1 [⟨S512x512, unpackElementwise (F := Ideal) 0 (shapeCast S512x512 v74 shapeCasts_S1x512x512_S512x512)⟩, ⟨S512x512, unpackElementwise (F := Ideal) 1 (shapeCast S512x512 v74 shapeCasts_S1x512x512_S512x512)⟩] concatenates_S512x512_S512x512_S512x1024_d1 = R74 at e74 ⊢
  pointwise []
  simp only [e38, e47, e56, e65, e74]

/-- The last expert, the residual and the layer norm. -/
theorem pay4_apply (v19 : FVec Ideal S512x8 .f32) (v82 : FVec Ideal S512x1024 .f32) (v83 : Vec Ideal S1x512x512 .i32)
    (v92 : Vec Ideal S512x1024 .f32) (v95 : Vec Ideal S1x1x1024 .f32) (v100 v102 : Vec Ideal S1x1024 .f32)
    (a : Fin 512) (j : Fin 1024) :
    k0_pay4 v19 v82 v83 v92 v95 v100 v102 (ix2 a j)
      = norm (resid (fun j => v92 (ix2 a j)) (fun j => v95 (ix3 0 0 j))
          (fun j => v82 (ix2 a j) + row (fun w => v83 (ix3 0 a w)) j * v19 (ix2 a 7)))
          (fun j => v100 (ix2 0 j)) (fun j => v102 (ix2 0 j)) j := by
  have e83 := fun j => slab_apply v83 a j
  unfold k0_pay4
  generalize concatenate S512x1024 1 [⟨S512x512, unpackElementwise (F := Ideal) 0 (shapeCast S512x512 v83 shapeCasts_S1x512x512_S512x512)⟩, ⟨S512x512, unpackElementwise (F := Ideal) 1 (shapeCast S512x512 v83 shapeCasts_S1x512x512_S512x512)⟩] concatenates_S512x512_S512x512_S512x1024_d1 = R83 at e83 ⊢
  pointwise []
  simp only [e83]
  rfl

/-- Eight experts added one by one behind the shared expert are their sum beside it. -/
theorem ffn_steps (y : Fin 8 → EReal) (w : Fin 8 → EReal) (s : EReal) :
    s + y 0 * w 0 + y 1 * w 1 + y 2 * w 2 + y 3 * w 3 + y 4 * w 4 + y 5 * w 5 + y 6 * w 6 + y 7 * w 7
      = (∑ k : Fin 8, y k * w k) + s := by
  simp only [Fin.sum_univ_eight]
  ac_rfl

/-- Slab `k` of the experts' block. -/
theorem slab_ld (x0 : Vec Ideal S8x512x512 .i32) (a w : Fin 512) :
    View.ld x0 r0_4 (ix3 0 a w) = x0 (ix3 0 a w) ∧ View.ld x0 r0_5 (ix3 0 a w) = x0 (ix3 1 a w)
      ∧ View.ld x0 r0_6 (ix3 0 a w) = x0 (ix3 2 a w) ∧ View.ld x0 r0_7 (ix3 0 a w) = x0 (ix3 3 a w)
      ∧ View.ld x0 r0_8 (ix3 0 a w) = x0 (ix3 4 a w) ∧ View.ld x0 r0_9 (ix3 0 a w) = x0 (ix3 5 a w)
      ∧ View.ld x0 r0_10 (ix3 0 a w) = x0 (ix3 6 a w) ∧ View.ld x0 r0_11 (ix3 0 a w) = x0 (ix3 7 a w) := by
  refine ⟨?_, ?_, ?_, ?_, ?_, ?_, ?_, ?_⟩ <;> pointwise []

/-- Row `a` of what a point writes is the combine of row `a` of its blocks. -/
theorem block_apply (x0 : Vec Ideal S8x512x512 .i32) (x1 : Vec Ideal S512x8 .f32) (x2 : Vec Ideal S512x512 .i32)
    (x3 : Vec Ideal S512x1024 .f32) (x4 : Vec Ideal S1x1x1024 .f32) (x5 x6 : Vec Ideal S1024x256 .bf16)
    (x7 : Vec Ideal S256x1024 .bf16) (x8 x9 : Vec Ideal S1x1024 .f32) (a : Fin 512) (j : Fin 1024) :
    k0_pay4 (k0_pay5 x0 x1 x2 x3 x4 x5 x6 x7 x8 x9) (k0_pay3 (k0_pay5 x0 x1 x2 x3 x4 x5 x6 x7 x8 x9)
        (k0_pay2 x2 x5 x6 x7 x1 (View.ld x0 r0_4) (View.ld x0 r0_5)) (View.ld x0 r0_6) (View.ld x0 r0_7)
        (View.ld x0 r0_8) (View.ld x0 r0_9) (View.ld x0 r0_10)) (View.ld x0 r0_11) x3 x4 x8 x9 (ix2 a j)
      = combineRow (fun k w => x0 (ix3 k a w)) (fun k => x1 (ix2 a k)) (fun w => x2 (ix2 a w)) (fun j => x3 (ix2 a j))
          (fun j => x4 (ix3 0 0 j)) (fun i h => x5 (ix2 i h)) (fun i h => x6 (ix2 i h)) (fun h i => x7 (ix2 h i))
          (fun j => x8 (ix2 0 j)) (fun j => x9 (ix2 0 j)) j := by
  rw [pay4_apply]
  unfold combineRow
  refine congrArg (fun f => norm (resid _ _ f) _ _ j) (funext fun j => ?_)
  have h5 : ∀ k : Fin 8, k0_pay5 x0 x1 x2 x3 x4 x5 x6 x7 x8 x9 (ix2 a k) = x1 (ix2 a k) := fun k => by
    pointwise [k0_pay5, k0_pay1]
  have hs := fun w => slab_ld x0 a w
  rw [pay3_apply, pay2_apply]
  simp only [h5, fun w => (hs w).1, fun w => (hs w).2.1, fun w => (hs w).2.2.1, fun w => (hs w).2.2.2.1,
    fun w => (hs w).2.2.2.2.1, fun w => (hs w).2.2.2.2.2.1, fun w => (hs w).2.2.2.2.2.2.1, fun w => (hs w).2.2.2.2.2.2.2]
  exact ffn_steps (fun k => row (fun w => x0 (ix3 k a w)) j) (fun k => x1 (ix2 a k)) _

end Cert.CombineIdeal.Block
-- ==== Proof.CombineValue.lean ====
/-
  The combine's call over the extended reals: the array after the run, row by row.
-/
module

public import proofs.«01_k».proof.Proof.CombineBlock
public import Idealize.ShloMosaic.Lib.Pipeline.ValueKit

@[expose] public section

set_option maxRecDepth 16384

noncomputable section

namespace Cert.CombineIdeal.Arrays

open Cert.CombineIdeal Cert.CombineIdeal.Gen Cert.CombineSpec Idealize.ShloMosaic Idealize.ShloMosaic.TcCoe Idealize.SL.Sem
open Idealize.ShloMosaic.Pipeline (Dat)

variable (m : (ℓ : Loc nD τ sig) → Buf (Elt Ideal) ℓ)

abbrev A0 (c : Dev nD) : Vec Ideal S131072x512 .i32 := m ((c.tc : Thread nD τ).loc main_arg0)
abbrev A1 (c : Dev nD) : Vec Ideal S8x16384 .f32 := m ((c.tc : Thread nD τ).loc main_arg1)
abbrev A2 (c : Dev nD) : Vec Ideal S16384x512 .i32 := m ((c.tc : Thread nD τ).loc main_arg2)
abbrev A3 (c : Dev nD) : Vec Ideal S16384x1024 .f32 := m ((c.tc : Thread nD τ).loc main_arg3)
abbrev A4 (c : Dev nD) : Vec Ideal S4x1x1024 .f32 := m ((c.tc : Thread nD τ).loc main_arg4)
abbrev A5 (c : Dev nD) : Vec Ideal S1x1024x256 .f32 := m ((c.tc : Thread nD τ).loc main_arg5)
abbrev A6 (c : Dev nD) : Vec Ideal S1x1024x256 .f32 := m ((c.tc : Thread nD τ).loc main_arg6)
abbrev A7 (c : Dev nD) : Vec Ideal S1x256x1024 .f32 := m ((c.tc : Thread nD τ).loc main_arg7)
abbrev A8 (c : Dev nD) : Vec Ideal S1x1024 .f32 := m ((c.tc : Thread nD τ).loc main_arg8)
abbrev A9 (c : Dev nD) : Vec Ideal S1x1024 .f32 := m ((c.tc : Thread nD τ).loc main_arg9)

/-! What the region finds in the arrays the host prepared. -/

theorem V_y (c : Dev nD) (k : Fin 8) (r : Fin 16384) (w : Fin 512) :
    V m c main_v11 (ix3 k r w) = A0 m c (ix2 ⟨k.val * 16384 + r.val, by omega⟩ w) := by
  have e : V m c main_v11 = shapeCast S8x16384x512 (A0 m c) shapeCasts_S131072x512_S8x16384x512 := by
    show StableHlo.after hostOps0 (fun b => m (c, b)) main_v11 = _
    after_results; rfl
  rw [e]; generalize A0 m c = x; pointwise []

theorem V_w (c : Dev nD) (r : Fin 16384) (k : Fin 8) : V m c main_v5 (ix2 r k) = A1 m c (ix2 k r) := by
  have e : V m c main_v5 = transpose S16384x8 [1, 0] (A1 m c) transposes_S8x16384_S16384x8_1_0 := by
    show StableHlo.after hostOps0 (fun b => m (c, b)) main_v5 = _
    after_results
  rw [e]; generalize A1 m c = x; pointwise []

theorem V_gate (c : Dev nD) (i : Fin 1024) (h : Fin 256) : V m c main_v6 (ix2 i h) = A5 m c (ix3 0 i h) := by
  have e : V m c main_v6 = truncf (F := Ideal) (φ := .f32) .bf16 (shapeCast S1024x256 (A5 m c) shapeCasts_S1x1024x256_S1024x256) bitsLt_bf16_f32 := by
    show StableHlo.after hostOps0 (fun b => m (c, b)) main_v6 = _
    after_results; rfl
  rw [e]; generalize A5 m c = x; pointwise []

theorem V_up (c : Dev nD) (i : Fin 1024) (h : Fin 256) : V m c main_v7 (ix2 i h) = A6 m c (ix3 0 i h) := by
  have e : V m c main_v7 = truncf (F := Ideal) (φ := .f32) .bf16 (shapeCast S1024x256 (A6 m c) shapeCasts_S1x1024x256_S1024x256) bitsLt_bf16_f32 := by
    show StableHlo.after hostOps0 (fun b => m (c, b)) main_v7 = _
    after_results; rfl
  rw [e]; generalize A6 m c = x; pointwise []

theorem V_down (c : Dev nD) (h : Fin 256) (i : Fin 1024) : V m c main_v8 (ix2 h i) = A7 m c (ix3 0 h i) := by
  have e : V m c main_v8 = truncf (F := Ideal) (φ := .f32) .bf16 (shapeCast S256x1024 (A7 m c) shapeCasts_S1x256x1024_S256x1024) bitsLt_bf16_f32 := by
    show StableHlo.after hostOps0 (fun b => m (c, b)) main_v8 = _
    after_results; rfl
  rw [e]; generalize A7 m c = x; pointwise []

theorem V_g (c : Dev nD) (i : Fin 1024) : V m c main_v9 (ix2 0 i) = A8 m c (ix2 0 i) := by
  have e : V m c main_v9 = shapeCast S1x1024 (shapeCast S1024 (A8 m c) shapeCasts_S1x1024_S1024) shapeCasts_S1024_S1x1024 := by
    show StableHlo.after hostOps0 (fun b => m (c, b)) main_v9 = _
    after_results; rfl
  rw [e]; generalize A8 m c = x; pointwise []

theorem V_b (c : Dev nD) (i : Fin 1024) : V m c main_v10 (ix2 0 i) = A9 m c (ix2 0 i) := by
  have e : V m c main_v10 = shapeCast S1x1024 (shapeCast S1024 (A9 m c) shapeCasts_S1x1024_S1024) shapeCasts_S1024_S1x1024 := by
    show StableHlo.after hostOps0 (fun b => m (c, b)) main_v10 = _
    after_results; rfl
  rw [e]; generalize A9 m c = x; pointwise []

/-- The windows' index maps, all points at once: point `t` takes rows `512 t …`, its batch is `t / 8`. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val / 8, 0, 0]
    ∧ win0_5.index t = ![0, 0] ∧ win0_6.index t = ![0, 0] ∧ win0_7.index t = ![0, 0]
    ∧ win0_8.index t = ![0, 0] ∧ win0_9.index t = ![0, 0] ∧ win0_10.index t = ![t.val, 0] :=
  (by decide +kernel : ∀ t : Fin grid0.N, _)

theorem t_lt (t : Fin cfg0.N) : t.val < 32 := lt_of_lt_of_eq t.isLt N_0

/-- Row `a` of point `t`'s block, in the array. -/
abbrev rowAt (t : Fin cfg0.N) (a : Fin 512) : Fin 16384 := ⟨t.val * 512 + a.val, by have := t_lt t; omega⟩

/-- The blocks of a point, at their types. -/
abbrev B0 (c : Dev nD) (t : Fin cfg0.N) : Vec Ideal S8x512x512 .i32 := iblk m c 0 t
abbrev B1 (c : Dev nD) (t : Fin cfg0.N) : Vec Ideal S512x8 .f32 := iblk m c 1 t
abbrev B2 (c : Dev nD) (t : Fin cfg0.N) : Vec Ideal S512x512 .i32 := iblk m c 2 t
abbrev B3 (c : Dev nD) (t : Fin cfg0.N) : Vec Ideal S512x1024 .f32 := iblk m c 3 t
abbrev B4 (c : Dev nD) (t : Fin cfg0.N) : Vec Ideal S1x1x1024 .f32 := iblk m c 4 t
abbrev B5 (c : Dev nD) (t : Fin cfg0.N) : Vec Ideal S1024x256 .bf16 := iblk m c 5 t
abbrev B6 (c : Dev nD) (t : Fin cfg0.N) : Vec Ideal S1024x256 .bf16 := iblk m c 6 t
abbrev B7 (c : Dev nD) (t : Fin cfg0.N) : Vec Ideal S256x1024 .bf16 := iblk m c 7 t
abbrev B8 (c : Dev nD) (t : Fin cfg0.N) : Vec Ideal S1x1024 .f32 := iblk m c 8 t
abbrev B9 (c : Dev nD) (t : Fin cfg0.N) : Vec Ideal S1x1024 .f32 := iblk m c 9 t

theorem b0 (c : Dev nD) (t : Fin cfg0.N) (k : Fin 8) (a w : Fin 512) :
    B0 m c t (ix3 k a w) = A0 m c (ix2 ⟨k.val * 16384 + (rowAt t a).val, by omega⟩ w) := by
  refine Eq.trans ?_ (V_y m c k (rowAt t a) w)
  blk_ext [iblk, idx t]

theorem b1 (c : Dev nD) (t : Fin cfg0.N) (a : Fin 512) (k : Fin 8) : B1 m c t (ix2 a k) = A1 m c (ix2 k (rowAt t a)) := by
  refine Eq.trans ?_ (V_w m c (rowAt t a) k)
  blk_ext [iblk, idx t]

theorem b2 (c : Dev nD) (t : Fin cfg0.N) (a w : Fin 512) : B2 m c t (ix2 a w) = A2 m c (ix2 (rowAt t a) w) := by
  blk_ext [iblk, V, idx t]

theorem b3 (c : Dev nD) (t : Fin cfg0.N) (a : Fin 512) (j : Fin 1024) : B3 m c t (ix2 a j) = A3 m c (ix2 (rowAt t a) j) := by
  blk_ext [iblk, V, idx t]

theorem b4 (c : Dev nD) (t : Fin cfg0.N) (a : Fin 512) (j : Fin 1024) :
    B4 m c t (ix3 0 0 j) = A4 m c (ix3 ⟨(rowAt t a).val / 4096, by have := t_lt t; omega⟩ 0 j) := by
  have ht := t_lt t
  have ha := a.isLt
  blk_ext [iblk, V, idx t]

theorem b5 (c : Dev nD) (t : Fin cfg0.N) (i : Fin 1024) (h : Fin 256) : B5 m c t (ix2 i h) = A5 m c (ix3 0 i h) := by
  refine Eq.trans ?_ (V_gate m c i h)
  blk_ext [iblk, idx t]

theorem b6 (c : Dev nD) (t : Fin cfg0.N) (i : Fin 1024) (h : Fin 256) : B6 m c t (ix2 i h) = A6 m c (ix3 0 i h) := by
  refine Eq.trans ?_ (V_up m c i h)
  blk_ext [iblk, idx t]

theorem b7 (c : Dev nD) (t : Fin cfg0.N) (h : Fin 256) (i : Fin 1024) : B7 m c t (ix2 h i) = A7 m c (ix3 0 h i) := by
  refine Eq.trans ?_ (V_down m c h i)
  blk_ext [iblk, idx t]

theorem b8 (c : Dev nD) (t : Fin cfg0.N) (i : Fin 1024) : B8 m c t (ix2 0 i) = A8 m c (ix2 0 i) := by
  refine Eq.trans ?_ (V_g m c i)
  blk_ext [iblk, idx t]

theorem b9 (c : Dev nD) (t : Fin cfg0.N) (i : Fin 1024) : B9 m c t (ix2 0 i) = A9 m c (ix2 0 i) := by
  refine Eq.trans ?_ (V_b m c i)
  blk_ext [iblk, idx t]

/-- Row `r` of the result. -/
def out (c : Dev nD) (r : Fin 16384) (j : Fin 1024) : EReal :=
  combineRow (fun k w => A0 m c (ix2 ⟨k.val * 16384 + r.val, by omega⟩ w)) (fun k => A1 m c (ix2 k r))
    (fun w => A2 m c (ix2 r w)) (fun j => A3 m c (ix2 r j)) (fun j => A4 m c (ix3 ⟨r.val / 4096, by omega⟩ 0 j))
    (fun i h => A5 m c (ix3 0 i h)) (fun i h => A6 m c (ix3 0 i h)) (fun h i => A7 m c (ix3 0 h i))
    (fun j => A8 m c (ix2 0 j)) (fun j => A9 m c (ix2 0 j)) j

theorem out_congr (c : Dev nD) {r r' : Fin 16384} {j j' : Fin 1024} (hr : r.val = r'.val) (hj : j.val = j'.val) :
    out m c r j = out m c r' j' := by rw [Fin.ext hr, Fin.ext hj]

/-- What point `t` writes. -/
theorem point (c : Dev nD) (t : Fin cfg0.N) (a : Fin 512) (j : Fin 1024) :
    combineRow (fun k w => B0 m c t (ix3 k a w)) (fun k => B1 m c t (ix2 a k)) (fun w => B2 m c t (ix2 a w))
        (fun j => B3 m c t (ix2 a j)) (fun j => B4 m c t (ix3 0 0 j)) (fun i h => B5 m c t (ix2 i h))
        (fun i h => B6 m c t (ix2 i h)) (fun h i => B7 m c t (ix2 h i)) (fun j => B8 m c t (ix2 0 j))
        (fun j => B9 m c t (ix2 0 j)) j
      = out m c (rowAt t a) j := by
  simp only [b0, b1, b2, b3, b4 m c t a, b5, b6, b7, b8, b9]
  rfl

/-- The array after the run. -/
def outs (c : Dev nD) : S16384x1024.Idx → EReal := fun i => out m c (i 0) (i 1)

theorem final (c : Dev nD) : (dats m 0 c).arrAt 10 cfg0.N = outs m c := by
  refine (dats m 0 c).arrAt_eq_of_covers 10 _ (by decide +kernel) fun t _ y => ?_
  blk_simp
  rw [after0_10]; frame_out
  idx_vars y
  refine (Cert.CombineIdeal.Block.block_apply (B0 m c t) (B1 m c t) (B2 m c t) (B3 m c t) (B4 m c t) (B5 m c t) (B6 m c t)
    (B7 m c t) (B8 m c t) (B9 m c t) y0 y1).trans ((point m c t y0 y1).trans (out_congr m c ?_ ?_))
  · blk_simp [idx t]
  · blk_simp [idx t]

end Cert.CombineIdeal.Arrays
-- ==== Proof.CombineRows.lean ====
/-
  The combine's reference, over the extended reals: row by row it is the combine of that row's operands.
-/
module

public import proofs.«01_k».proof.Proof.CombineSpec
public import proofs.«01_k».proof.Proof.Gen.CombineRefIdeal.Run
public import Idealize.ShloMosaic.Lib.Pointwise
public import Idealize.ShloMosaic.Lib.BitcastConvert

@[expose] public section

set_option maxRecDepth 16384

noncomputable section

namespace Cert.CombineRefIdeal.Rows

open Cert.CombineRefIdeal Cert.CombineRefIdeal.Gen Cert.CombineSpec Idealize.ShloMosaic Idealize.ShloMosaic.TcCoe Idealize.SL.Sem

variable (a0 : Vec Ideal S131072x512 .i32) (a1 : Vec Ideal S8x16384 .f32) (a2 : Vec Ideal S16384x512 .i32)
  (a3 : Vec Ideal S16384x1024 .f32) (a4 : Vec Ideal S4x1x1024 .f32) (a5 a6 : Vec Ideal S1x1024x256 .f32)
  (a7 : Vec Ideal S1x256x1024 .f32) (a8 a9 : Vec Ideal S1x1024 .f32)

/-- The experts' rows, unpacked. -/
def yrows : FVec Ideal S131072x1024 .f32 :=
  (extf (F := Ideal) (φ := .bf16) .f32 (concatenate S131072x1024 1 [⟨S131072x512, (shapeCast S131072x512 (extractStridedSlice S131072x512x1 ![0, 0, 0] (bitcastToFloat (F := Ideal) .bf16 (Host.bitcastConvertNarrow S131072x512x2 16 a0 splits_S131072x512_w32_S131072x512x2_w16)) slices_S131072x512x2_S131072x512x1_0_0_0) shapeCasts_S131072x512x1_S131072x512)⟩, ⟨S131072x512, (shapeCast S131072x512 (extractStridedSlice S131072x512x1 ![0, 0, 1] (bitcastToFloat (F := Ideal) .bf16 (Host.bitcastConvertNarrow S131072x512x2 16 a0 splits_S131072x512_w32_S131072x512x2_w16)) slices_S131072x512x2_S131072x512x1_0_0_1) shapeCasts_S131072x512x1_S131072x512)⟩] concatenates_S131072x512_S131072x512_S131072x1024_d1) bitsLt_bf16_f32)

theorem yrows_drop (r : Fin 131072) (w : Fin 512) (k : Fin 2) :
    splits_S131072x512_w32_S131072x512x2_w16.drop (ix3 r w k) = (ix2 r w : S131072x512.Idx) := by
  funext d
  match d with
  | ⟨0, _⟩ => rfl
  | ⟨1, _⟩ => rfl

theorem yrows_apply (r : Fin 131072) (j : Fin 1024) : yrows a0 (ix2 r j) = row (fun w => a0 (ix2 r w)) j := by
  unfold yrows row half
  pointwise []
  simp only [yrows_drop]

/-- The tokens' rows, unpacked. -/
def urows : FVec Ideal S16384x1024 .f32 :=
  (extf (F := Ideal) (φ := .bf16) .f32 (concatenate S16384x1024 1 [⟨S16384x512, (shapeCast S16384x512 (extractStridedSlice S16384x512x1 ![0, 0, 0] (bitcastToFloat (F := Ideal) .bf16 (Host.bitcastConvertNarrow S16384x512x2 16 a2 splits_S16384x512_w32_S16384x512x2_w16)) slices_S16384x512x2_S16384x512x1_0_0_0) shapeCasts_S16384x512x1_S16384x512)⟩, ⟨S16384x512, (shapeCast S16384x512 (extractStridedSlice S16384x512x1 ![0, 0, 1] (bitcastToFloat (F := Ideal) .bf16 (Host.bitcastConvertNarrow S16384x512x2 16 a2 splits_S16384x512_w32_S16384x512x2_w16)) slices_S16384x512x2_S16384x512x1_0_0_1) shapeCasts_S16384x512x1_S16384x512)⟩] concatenates_S16384x512_S16384x512_S16384x1024_d1) bitsLt_bf16_f32)

theorem urows_drop (r : Fin 16384) (w : Fin 512) (k : Fin 2) :
    splits_S16384x512_w32_S16384x512x2_w16.drop (ix3 r w k) = (ix2 r w : S16384x512.Idx) := by
  funext d
  match d with
  | ⟨0, _⟩ => rfl
  | ⟨1, _⟩ => rfl

theorem urows_apply (r : Fin 16384) (j : Fin 1024) : urows a2 (ix2 r j) = row (fun w => a2 (ix2 r w)) j := by
  unfold urows row half
  pointwise []
  simp only [urows_drop]

/-- The shared expert of unpacked rows. -/
def sharedRows (U : FVec Ideal S16384x1024 .f32) : FVec Ideal S16384x1024 .f32 :=
  let G : FVec Ideal S16384x256 .f32 := Host.dotGeneral (F := Ideal) (φ₁ := .f32) (φ₂ := .f32) dot_S16384x1024_S1024x256_S16384x256_1_0_0_1_n_n none U (shapeCast (α := Ideal .f32) _ a5 shapeCasts_S1x1024x256_S1024x256)
  let S : FVec Ideal S16384x256 .f32 := mulf G (Host.divf (broadcastInDim S16384x256 ![] bcast_S_S16384x256 (constant S_ .f32 0x3F800000#32)) (addf (broadcastInDim S16384x256 ![] bcast_S_S16384x256 (constant S_ .f32 0x3F800000#32)) (Host.exp (Host.negf G))))
  Host.dotGeneral (F := Ideal) (φ₁ := .f32) (φ₂ := .f32) dot_S16384x256_S256x1024_S16384x1024_1_0_0_1_n_n none (mulf S (Host.dotGeneral (F := Ideal) (φ₁ := .f32) (φ₂ := .f32) dot_S16384x1024_S1024x256_S16384x256_1_0_0_1_n_n none U (shapeCast (α := Ideal .f32) _ a6 shapeCasts_S1x1024x256_S1024x256))) (shapeCast (α := Ideal .f32) _ a7 shapeCasts_S1x256x1024_S256x1024)

theorem sharedRows_apply (U : FVec Ideal S16384x1024 .f32) (r : Fin 16384) (j : Fin 1024) :
    sharedRows a5 a6 a7 U (ix2 r j)
      = shared (fun i => U (ix2 r i)) (fun i h => a5 (ix3 0 i h)) (fun i h => a6 (ix3 0 i h)) (fun h i => a7 (ix3 0 h i)) j := by
  unfold sharedRows
  pointwise []
  rfl

/-- The residual of unpacked rows. -/
def residRows (Y : FVec Ideal S131072x1024 .f32) (S : FVec Ideal S16384x1024 .f32) : FVec Ideal S4x4096x1024 .f32 :=
  (addf (mulf (broadcastInDim S4x4096x1024 ![] bcast_S_S4x4096x1024 (constant S_ .f32 0x3F9837F0#32)) (shapeCast _ a3 shapeCasts_S16384x1024_S4x4096x1024)) (mulf (broadcastInDim S4x4096x1024 ![0, 1, 2] bcast_S4x1x1024_S4x4096x1024_0_1_2 a4) (shapeCast _ (addf (Host.reduceAdd (mulf (shapeCast _ Y shapeCasts_S131072x1024_S8x16384x1024) (broadcastInDim S8x16384x1024 ![0, 1, 2] bcast_S8x16384x1_S8x16384x1024_0_1_2 (broadcastInDim S8x16384x1 ![0, 1] bcast_S8x16384_S8x16384x1_0_1 a1))) (constant S_ .f32 0x00000000#32) reducesTo_S8x16384x1024_S16384x1024_d0 h_S_) S) shapeCasts_S16384x1024_S4x4096x1024)))

theorem residRows_apply (Y : FVec Ideal S131072x1024 .f32) (S : FVec Ideal S16384x1024 .f32) (r : Fin 16384)
    (j : Fin 1024) :
    residRows a1 a3 a4 Y S (ix3 ⟨r.val / 4096, by omega⟩ ⟨r.val % 4096, by omega⟩ j)
      = resid (fun i => a3 (ix2 r i)) (fun i => a4 (ix3 ⟨r.val / 4096, by omega⟩ 0 i))
          (ffn (fun k i => Y (ix2 ⟨k.val * 16384 + r.val, by omega⟩ i)) (fun k => a1 (ix2 k r)) (fun i => S (ix2 r i))) j := by
  unfold residRows
  pointwise []
  unfold resid ffn
  rfl

/-- The layer norm of every row. -/
def normRows (R : FVec Ideal S4x4096x1024 .f32) : FVec Ideal S16384x1024 .f32 :=
  let MU : FVec Ideal S4x4096x1 .f32 := (Host.divf (broadcastInDim S4x4096x1 ![0, 1] bcast_S4x4096_S4x4096x1_0_1 (Host.reduceAdd R (constant S_ .f32 0x00000000#32) reducesTo_S4x4096x1024_S4x4096_d2 h_S_)) (broadcastInDim S4x4096x1 ![] bcast_S_S4x4096x1 (constant S_ .f32 0x44800000#32)))
  shapeCast _ (addf (mulf (mulf (subf R (broadcastInDim S4x4096x1024 ![0, 1, 2] bcast_S4x4096x1_S4x4096x1024_0_1_2 MU)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf R (broadcastInDim S4x4096x1024 ![0, 1, 2] bcast_S4x4096x1_S4x4096x1024_0_1_2 MU)) (subf R (broadcastInDim S4x4096x1024 ![0, 1, 2] bcast_S4x4096x1_S4x4096x1024_0_1_2 MU))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ a8 shapeCasts_S1x1024_S1024)))) (broadcastInDim S4x4096x1024 ![0, 1, 2] bcast_S1x1x1024_S4x4096x1024_0_1_2 (broadcastInDim S1x1x1024 ![2] bcast_S1024_S1x1x1024_2 (shapeCast _ a9 shapeCasts_S1x1024_S1024)))) shapeCasts_S4x4096x1024_S16384x1024

theorem normRows_apply (R : FVec Ideal S4x4096x1024 .f32) (r : Fin 16384) (j : Fin 1024) :
    normRows a8 a9 R (ix2 r j)
      = norm (fun i => R (ix3 ⟨r.val / 4096, by omega⟩ ⟨r.val % 4096, by omega⟩ i)) (fun i => a8 (ix2 0 i))
          (fun i => a9 (ix2 0 i)) j := by
  unfold normRows
  pointwise []
  rfl

/-- The reference's result is those stages. -/
theorem res_eq (m : (ℓ : Loc nD τ sig) → Buf (Elt Ideal) ℓ) (c : Dev nD) :
    Value.res_main_v61 (F := Ideal) m c
      = normRows (m ((c.tc : Thread nD τ).loc main_arg8)) (m ((c.tc : Thread nD τ).loc main_arg9))
          (residRows (m ((c.tc : Thread nD τ).loc main_arg1)) (m ((c.tc : Thread nD τ).loc main_arg3))
            (m ((c.tc : Thread nD τ).loc main_arg4)) (yrows (m ((c.tc : Thread nD τ).loc main_arg0)))
            (sharedRows (m ((c.tc : Thread nD τ).loc main_arg5)) (m ((c.tc : Thread nD τ).loc main_arg6))
              (m ((c.tc : Thread nD τ).loc main_arg7)) (urows (m ((c.tc : Thread nD τ).loc main_arg2))))) := rfl

/-- Row by row it is the combine. -/
theorem res_apply (r : Fin 16384) (j : Fin 1024) :
    normRows a8 a9 (residRows a1 a3 a4 (yrows a0) (sharedRows a5 a6 a7 (urows a2))) (ix2 r j)
      = combineRow (fun k w => a0 (ix2 ⟨k.val * 16384 + r.val, by omega⟩ w)) (fun k => a1 (ix2 k r))
          (fun w => a2 (ix2 r w)) (fun j => a3 (ix2 r j)) (fun j => a4 (ix3 ⟨r.val / 4096, by omega⟩ 0 j))
          (fun i h => a5 (ix3 0 i h)) (fun i h => a6 (ix3 0 i h)) (fun h i => a7 (ix3 0 h i))
          (fun j => a8 (ix2 0 j)) (fun j => a9 (ix2 0 j)) j := by
  rw [normRows_apply]
  simp only [residRows_apply, sharedRows_apply, yrows_apply, urows_apply]
  rfl

end Cert.CombineRefIdeal.Rows
-- ==== Proof.CombineClaim.lean ====
/-
  The combine's value claim: from arguments that agree, kernel and reference end with equal results.
-/
module

public import proofs.«01_k».proof.Defs
public import proofs.«01_k».proof.Proof.CombineValue
public import proofs.«01_k».proof.Proof.CombineRows
public import Idealize.ShloMosaic.Lib.Quiescent

@[expose] public section

set_option maxRecDepth 16384

noncomputable section

namespace Cert.CombineClaim

open Idealize.ShloMosaic Idealize.ShloMosaic.TcCoe Idealize.SL.Sem
open Cert.CombineIdeal.Arrays (outs)

/-- The reference ends without fault, its arguments kept. -/
theorem frame_ref : @Cert.quiescent_CombineRefIdeal Cert.CombineRefIdeal.Gen.facts := fun m ρ _ =>
  (θ_run Cert.CombineRefIdeal.defs _ _).mono
    (fun r h => ⟨fun c => (h c).2, Idealize.ShloMosaic.sem_eq_zero_of_no_sems (by decide) r.2⟩)
    (Cert.CombineRefIdeal.Value.run (F := Ideal) m ρ)

/-- The kernel ends with its result at the combine's rows, its arguments kept. -/
theorem run_kernel (m : (ℓ : Loc Cert.CombineIdeal.nD Cert.CombineIdeal.τ Cert.CombineIdeal.sig) → Buf (Elt Ideal) ℓ)
    (ρ : Dev Cert.CombineIdeal.nD → PrngReg) :
    θ_run (Cert.CombineIdeal.defs (F := Ideal)) (onTc (τ := Cert.CombineIdeal.τ) (Cert.CombineIdeal.main (F := Ideal)))
      ⟨m, fun _ => 0, ρ⟩ fun r => ∀ c : Dev Cert.CombineIdeal.nD,
      r.2.mem ((c.tc : Thread Cert.CombineIdeal.nD Cert.CombineIdeal.τ).loc Cert.CombineIdeal.main_v12) = outs m c :=
  (θ_run _ _ _).mono (fun r h c => ((h c).1 10).trans (Cert.CombineIdeal.Arrays.final m c))
    (Cert.CombineIdeal.Gen.run_main (F := Ideal) m ρ)

/-- Kernel and reference compute the same array over the extended reals. -/
theorem value : @Cert.algebraic_CombineIdeal_CombineRefIdeal Cert.CombineIdeal.Gen.facts Cert.CombineRefIdeal.Gen.facts := by
  intro m ρ m' ρ' _ hag
  refine ⟨outs m, ?_, ?_⟩
  · exact (θ_run _ _ _).mono (fun r h c => ⟨h.1 c, h.2 c⟩)
      (θ_run_and (run_kernel m ρ) (Cert.CombineIdeal.Gen.unchanged m ρ))
  · refine (θ_run _ _ _).mono (fun r h c => ?_) (Cert.CombineRefIdeal.Value.run (F := Ideal) m' ρ')
    obtain ⟨e0, e1, e2, e3, e4, e5, e6, e7, e8, e9⟩ := hag c
    obtain ⟨h0, hargs⟩ := h c
    refine ⟨h0.trans ?_, hargs⟩
    rw [Cert.CombineRefIdeal.Rows.res_eq, e0, e1, e2, e3, e4, e5, e6, e7, e8, e9]
    funext i
    idx_vars i
    exact Cert.CombineRefIdeal.Rows.res_apply _ _ _ _ _ _ _ _ _ _ i0 i1

end Cert.CombineClaim
-- ==== Proof.InprojHost.lean ====
/-
  The input projection's call, its host side: what the prepared weight matrix and the flattened rows hold when the
  region starts, index by index. The kernel's host code slices the weight's columns into eight groups, pads the sixteen
  time-step columns with zeros to a full lane tile, sets the groups side by side in another order, and casts the
  result to bf16 (the identity over the extended reals).
-/
module

public import proofs.«01_k».proof.Proof.Gen.InprojIdeal.Frame
public import Idealize.ShloMosaic.Lib.Pointwise
public import Idealize.ShloMosaic.Lib.StableHlo.Run

@[expose] public section

set_option maxRecDepth 16384

noncomputable section

namespace Cert.InprojIdeal.Host

open Cert.InprojIdeal Cert.InprojIdeal.Gen Idealize.ShloMosaic Idealize.ShloMosaic.TcCoe Idealize.SL.Sem
open Idealize.ShloMosaic.StableHlo

variable (m : (ℓ : Loc nD τ sig) → Buf (Elt Ideal) ℓ)

/-- The argument arrays, at their types. -/
abbrev X (c : Dev nD) : Vec Ideal S4x4096x1024 .f32 := m ((c : Thread nD τ).loc main_arg0)
abbrev SC (c : Dev nD) : Vec Ideal S4x1x1024 .f32 := m ((c : Thread nD τ).loc main_arg1)
abbrev SH (c : Dev nD) : Vec Ideal S4x1x1024 .f32 := m ((c : Thread nD τ).loc main_arg2)
abbrev WT (c : Dev nD) : Vec Ideal S1x1024x7696 .f32 := m ((c : Thread nD τ).loc main_arg3)

/-- The flattened rows. -/
theorem V_rows (c : Dev nD) (r : Fin 16384) (k : Fin 1024) :
    (V m c main_v0 : Vec Ideal S16384x1024 .f32) (ix2 r k)
      = X m c (ix3 ⟨r.val / 4096, by omega⟩ ⟨r.val % 4096, by omega⟩ k) := by
  have h : (V m c main_v0 : Vec Ideal S16384x1024 .f32) = shapeCast _ (X m c) shapeCasts_S4x4096x1024_S16384x1024 := by
    show StableHlo.after (List.flatten [hostOps0, hostOps0_1, hostOps0_2]) (fun b => m (c, b)) main_v0 = _
    simp only [hostOps0, hostOps0_1, hostOps0_2, List.flatten_cons, List.flatten_nil, List.append_nil, List.cons_append, List.nil_append]
    after_results
    rfl
  rw [h]
  pointwise

/-- The prepared weight matrix at row `k` and column `j`, off the argument `w`: the gate's and the convolution's columns
    where they were, the five attention and gate groups moved up by the sixteen time-step columns, those sixteen behind
    them, and zeros to the end of the lane tile. -/
def wcat (w : Vec Ideal S1x1024x7696 .f32) (k : Fin 1024) (j : Fin 7808) : EReal :=
  if h : j.val < 2560 then w (ix3 0 k ⟨j.val, by omega⟩)
  else if h : j.val < 7680 then w (ix3 0 k ⟨j.val + 16, by omega⟩)
  else if h : j.val < 7696 then w (ix3 0 k ⟨j.val - 5120, by omega⟩)
  else 0

/-- The buffers before the groups are set side by side. -/
abbrev V1 (c : Dev nD) (b : Ref sig .tc) : Buf (Elt Ideal) ((c : Thread nD τ).loc b) :=
  StableHlo.after (List.flatten [hostOps0, hostOps0_1]) (fun b => m (c, b)) b

/-- The weight as a matrix. -/
abbrev WM (c : Dev nD) : Vec Ideal S1024x7696 .f32 := shapeCast _ (WT m c) shapeCasts_S1x1024x7696_S1024x7696

theorem V_cat (c : Dev nD) : (V m c main_v12 : Vec Ideal S1024x7808 .bf16)
    = truncf (F := Ideal) (s := S1024x7808) (φ := .f32) .bf16 (concatenate S1024x7808 1 [⟨S1024x1024, (V1 m c main_v2 : Vec Ideal S1024x1024 .f32)⟩,
        ⟨S1024x1536, (V1 m c main_v3 : Vec Ideal S1024x1536 .f32)⟩, ⟨S1024x1024, (V1 m c main_v5 : Vec Ideal S1024x1024 .f32)⟩,
        ⟨S1024x1024, (V1 m c main_v6 : Vec Ideal S1024x1024 .f32)⟩, ⟨S1024x1024, (V1 m c main_v7 : Vec Ideal S1024x1024 .f32)⟩,
        ⟨S1024x1024, (V1 m c main_v8 : Vec Ideal S1024x1024 .f32)⟩, ⟨S1024x1024, (V1 m c main_v9 : Vec Ideal S1024x1024 .f32)⟩,
        ⟨S1024x128, (V1 m c main_v10 : Vec Ideal S1024x128 .f32)⟩]
        concatenates_S1024x1024_S1024x1536_S1024x1024_S1024x1024_S1024x1024_S1024x1024_S1024x1024_S1024x128_S1024x7808_d1)
        bitsLt_bf16_f32 := by
  show StableHlo.after (List.flatten [hostOps0, hostOps0_1, hostOps0_2]) (fun b => m (c, b)) main_v12 = _
  unfold V1
  simp only [hostOps0, hostOps0_1, hostOps0_2, List.flatten_cons, List.flatten_nil, List.append_nil, List.cons_append, List.nil_append]
  after_results
  rfl

theorem V1_v2 (c : Dev nD) : (V1 m c main_v2 : Vec Ideal S1024x1024 .f32)
    = extractStridedSlice S1024x1024 ![0, 0] (WM m c) slices_S1024x7696_S1024x1024_0_0 := by
  unfold V1
  simp only [hostOps0, hostOps0_1, List.flatten_cons, List.flatten_nil, List.append_nil, List.cons_append, List.nil_append]
  after_results
  rfl

theorem V1_v3 (c : Dev nD) : (V1 m c main_v3 : Vec Ideal S1024x1536 .f32)
    = extractStridedSlice S1024x1536 ![0, 1024] (WM m c) slices_S1024x7696_S1024x1536_0_1024 := by
  unfold V1
  simp only [hostOps0, hostOps0_1, List.flatten_cons, List.flatten_nil, List.append_nil, List.cons_append, List.nil_append]
  after_results
  rfl

theorem V1_v5 (c : Dev nD) : (V1 m c main_v5 : Vec Ideal S1024x1024 .f32)
    = extractStridedSlice S1024x1024 ![0, 2576] (WM m c) slices_S1024x7696_S1024x1024_0_2576 := by
  unfold V1
  simp only [hostOps0, hostOps0_1, List.flatten_cons, List.flatten_nil, List.append_nil, List.cons_append, List.nil_append]
  after_results
  rfl

theorem V1_v6 (c : Dev nD) : (V1 m c main_v6 : Vec Ideal S1024x1024 .f32)
    = extractStridedSlice S1024x1024 ![0, 3600] (WM m c) slices_S1024x7696_S1024x1024_0_3600 := by
  unfold V1
  simp only [hostOps0, hostOps0_1, List.flatten_cons, List.flatten_nil, List.append_nil, List.cons_append, List.nil_append]
  after_results
  rfl

theorem V1_v7 (c : Dev nD) : (V1 m c main_v7 : Vec Ideal S1024x1024 .f32)
    = extractStridedSlice S1024x1024 ![0, 4624] (WM m c) slices_S1024x7696_S1024x1024_0_4624 := by
  unfold V1
  simp only [hostOps0, hostOps0_1, List.flatten_cons, List.flatten_nil, List.append_nil, List.cons_append, List.nil_append]
  after_results
  rfl

theorem V1_v8 (c : Dev nD) : (V1 m c main_v8 : Vec Ideal S1024x1024 .f32)
    = extractStridedSlice S1024x1024 ![0, 5648] (WM m c) slices_S1024x7696_S1024x1024_0_5648 := by
  unfold V1
  simp only [hostOps0, hostOps0_1, List.flatten_cons, List.flatten_nil, List.append_nil, List.cons_append, List.nil_append]
  after_results
  rfl

theorem V1_v9 (c : Dev nD) : (V1 m c main_v9 : Vec Ideal S1024x1024 .f32)
    = extractStridedSlice S1024x1024 ![0, 6672] (WM m c) slices_S1024x7696_S1024x1024_0_6672 := by
  unfold V1
  simp only [hostOps0, hostOps0_1, List.flatten_cons, List.flatten_nil, List.append_nil, List.cons_append, List.nil_append]
  after_results
  rfl

theorem V1_v10 (c : Dev nD) : (V1 m c main_v10 : Vec Ideal S1024x128 .f32)
    = pad S1024x128 ![0, 0] ![0, 112] ![0, 0]
        (extractStridedSlice S1024x16 ![0, 2560] (WM m c) slices_S1024x7696_S1024x16_0_2560)
        (sitofp (F := Ideal) .f32 (constantI S_ 32 0#32)) pads_S1024x16_S1024x128_000_01120 h_S_ := by
  unfold V1
  simp only [hostOps0, hostOps0_1, List.flatten_cons, List.flatten_nil, List.append_nil, List.cons_append, List.nil_append]
  after_results
  rfl

/-- A column found by its position. -/
theorem col_congr (w : Vec Ideal S1x1024x7696 .f32) (k : Fin 1024) {a b : Fin 7696} (h : a.val = b.val) :
    w (ix3 0 k a) = w (ix3 0 k b) := by rw [Fin.ext h]

/-- The eight groups side by side, as one selection on the column's position. -/
theorem cat_eq (w : Vec Ideal S1x1024x7696 .f32) (k : Fin 1024) (j : Fin 7808) (z : EReal) (hz : z = 0) :
    (if h : j.val < 1024 then w (ix3 0 k ⟨j.val, by omega⟩)
     else if h1 : j.val - 1024 < 1536 then w (ix3 0 k ⟨1024 + (j.val - 1024), by omega⟩)
     else if h2 : j.val - 1024 - 1536 < 1024 then w (ix3 0 k ⟨2576 + (j.val - 1024 - 1536), by omega⟩)
     else if h3 : j.val - 1024 - 1536 - 1024 < 1024 then w (ix3 0 k ⟨3600 + (j.val - 1024 - 1536 - 1024), by omega⟩)
     else if h4 : j.val - 1024 - 1536 - 1024 - 1024 < 1024 then
       w (ix3 0 k ⟨4624 + (j.val - 1024 - 1536 - 1024 - 1024), by omega⟩)
     else if h5 : j.val - 1024 - 1536 - 1024 - 1024 - 1024 < 1024 then
       w (ix3 0 k ⟨5648 + (j.val - 1024 - 1536 - 1024 - 1024 - 1024), by omega⟩)
     else if h6 : j.val - 1024 - 1536 - 1024 - 1024 - 1024 - 1024 < 1024 then
       w (ix3 0 k ⟨6672 + (j.val - 1024 - 1536 - 1024 - 1024 - 1024 - 1024), by omega⟩)
     else if h7 : j.val - 1024 - 1536 - 1024 - 1024 - 1024 - 1024 - 1024 < 16 then
       w (ix3 0 k ⟨2560 + (j.val - 1024 - 1536 - 1024 - 1024 - 1024 - 1024 - 1024), by omega⟩)
     else z) = wcat w k j := by
  have hj := j.isLt
  unfold wcat
  by_cases a1 : j.val < 2560
  · rw [dif_pos a1]
    by_cases b1 : j.val < 1024
    · rw [dif_pos b1]
    · rw [dif_neg b1, dif_pos (by omega)]
      exact col_congr w k (by dsimp only; omega)
  rw [dif_neg a1, dif_neg (by omega : ¬ j.val < 1024), dif_neg (by omega : ¬ j.val - 1024 < 1536)]
  by_cases a2 : j.val < 7680
  · rw [dif_pos a2]
    by_cases b2 : j.val - 1024 - 1536 < 1024
    · rw [dif_pos b2]; exact col_congr w k (by dsimp only; omega)
    rw [dif_neg b2]
    by_cases b3 : j.val - 1024 - 1536 - 1024 < 1024
    · rw [dif_pos b3]; exact col_congr w k (by dsimp only; omega)
    rw [dif_neg b3]
    by_cases b4 : j.val - 1024 - 1536 - 1024 - 1024 < 1024
    · rw [dif_pos b4]; exact col_congr w k (by dsimp only; omega)
    rw [dif_neg b4]
    by_cases b5 : j.val - 1024 - 1536 - 1024 - 1024 - 1024 < 1024
    · rw [dif_pos b5]; exact col_congr w k (by dsimp only; omega)
    rw [dif_neg b5, dif_pos (by omega)]
    exact col_congr w k (by dsimp only; omega)
  rw [dif_neg a2, dif_neg (by omega), dif_neg (by omega), dif_neg (by omega), dif_neg (by omega), dif_neg (by omega)]
  by_cases a3 : j.val < 7696
  · rw [dif_pos a3, dif_pos (by omega)]; exact col_congr w k (by dsimp only; omega)
  · rw [dif_neg a3, dif_neg (by omega)]; exact hz

/-- So the matrix the region reads is `wcat` of the argument. -/
theorem V_weights (c : Dev nD) (k : Fin 1024) (j : Fin 7808) :
    (V m c main_v12 : Vec Ideal S1024x7808 .bf16) (ix2 k j) = wcat (WT m c) k j := by
  rw [V_cat, V1_v2, V1_v3, V1_v5, V1_v6, V1_v7, V1_v8, V1_v9, V1_v10]
  unfold WM
  generalize WT m c = w
  pointwise
  exact cat_eq w k j _ ((Ideal.scalar_sitofp_def (φ := .f32) 0#32).trans (by simp))

end Cert.InprojIdeal.Host
-- ==== Proof.InprojValue.lean ====
/-
  The input projection's call over the extended reals: every block a grid point writes, and so each of the ten result
  arrays after the run, as entries of ONE product, the modulated rows times the weight's columns.
-/
module

public import proofs.«01_k».proof.Proof.InprojHost
public import proofs.«01_k».proof.Proof.Gen.InprojIdeal.Value
public import Idealize.ShloMosaic.Lib.Pipeline.ValueKit

@[expose] public section

set_option maxRecDepth 16384

noncomputable section

namespace Cert.InprojIdeal.Arrays

open Cert.InprojIdeal Cert.InprojIdeal.Gen Cert.InprojIdeal.Host Idealize.ShloMosaic Idealize.ShloMosaic.TcCoe Idealize.SL.Sem
open Idealize.ShloMosaic.Pipeline (Dat)

variable (m : (ℓ : Loc nD τ sig) → Buf (Elt Ideal) ℓ)

/-- Row `r` of the modulated input at feature `k`: `x * (1 + sc) + sh`, with the row's batch's scale and shift. -/
def mrow (x : Vec Ideal S4x4096x1024 .f32) (sc sh : Vec Ideal S4x1x1024 .f32) (r : Fin 16384) (k : Fin 1024) : EReal :=
  x (ix3 ⟨r.val / 4096, by omega⟩ ⟨r.val % 4096, by omega⟩ k) * (1 + sc (ix3 ⟨r.val / 4096, by omega⟩ 0 k))
    + sh (ix3 ⟨r.val / 4096, by omega⟩ 0 k)

/-- Entry `(r, j)` of the modulated rows times the weight. -/
def proj (x : Vec Ideal S4x4096x1024 .f32) (sc sh : Vec Ideal S4x1x1024 .f32) (w : Vec Ideal S1x1024x7696 .f32)
    (r : Fin 16384) (j : Fin 7696) : EReal :=
  ∑ k : Fin 1024, mrow x sc sh r k * w (ix3 0 k j)

/-- The windows' index maps, all points at once: point `t` takes rows `256 t …`, its batch is `t / 16`. -/
theorem idx : ∀ t : Fin cfg0.N, win0_0.index t = ![t.val, 0] ∧ win0_1.index t = ![t.val / 16, 0, 0]
    ∧ win0_2.index t = ![t.val / 16, 0, 0] ∧ win0_3.index t = ![0, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] :=
  (by decide +kernel : ∀ t : Fin grid0.N, _)

theorem t_lt (t : Fin cfg0.N) : t.val < 64 := lt_of_lt_of_eq t.isLt N_0

/-- Row `a` of point `t`'s block, in the array. -/
abbrev rowAt (t : Fin cfg0.N) (a : Fin 256) : Fin 16384 := ⟨t.val * 256 + a.val, by have := t_lt t; omega⟩

/-- The blocks of a point, at their types. -/
abbrev B0 (c : Dev nD) (t : Fin cfg0.N) : Vec Ideal S256x1024 .f32 := iblk m c 0 t
abbrev B1 (c : Dev nD) (t : Fin cfg0.N) : Vec Ideal S1x1x1024 .f32 := iblk m c 1 t
abbrev B2 (c : Dev nD) (t : Fin cfg0.N) : Vec Ideal S1x1x1024 .f32 := iblk m c 2 t
abbrev B3 (c : Dev nD) (t : Fin cfg0.N) : Vec Ideal S1024x7808 .bf16 := iblk m c 3 t

/-- The block of rows at point `t`. -/
theorem rows_apply (c : Dev nD) (t : Fin cfg0.N) (a : Fin 256) (k : Fin 1024) :
    B0 m c t (ix2 a k) = X m c (ix3 ⟨(rowAt t a).val / 4096, by have := t_lt t; omega⟩
      ⟨(rowAt t a).val % 4096, by omega⟩ k) := by
  refine Eq.trans ?_ (V_rows m c (rowAt t a) k)
  blk_ext [iblk, idx t]

/-- The scale's block at point `t` is that of the rows' batch, -/
theorem scale_apply (c : Dev nD) (t : Fin cfg0.N) (a : Fin 256) (k : Fin 1024) :
    B1 m c t (ix3 0 0 k) = SC m c (ix3 ⟨(rowAt t a).val / 4096, by have := t_lt t; omega⟩ 0 k) := by
  have ht := t_lt t
  have ha := a.isLt
  blk_ext [iblk, V, idx t]

/-- and so is the shift's. -/
theorem shift_apply (c : Dev nD) (t : Fin cfg0.N) (a : Fin 256) (k : Fin 1024) :
    B2 m c t (ix3 0 0 k) = SH m c (ix3 ⟨(rowAt t a).val / 4096, by have := t_lt t; omega⟩ 0 k) := by
  have ht := t_lt t
  have ha := a.isLt
  blk_ext [iblk, V, idx t]

/-- The weights' one block is the whole prepared matrix. -/
theorem weights_apply (c : Dev nD) (t : Fin cfg0.N) (k : Fin 1024) (j : Fin 7808) :
    B3 m c t (ix2 k j) = wcat (WT m c) k j := by
  refine Eq.trans ?_ (V_weights m c k j)
  blk_ext [iblk, idx t]

/-- Row `a` of the block's modulated input against column `j` of the prepared weights. -/
theorem block_sum (c : Dev nD) (t : Fin cfg0.N) (a : Fin 256) (j : Fin 7808) :
    (∑ k : Fin 1024, (B0 m c t (ix2 a k) * ((1 : EReal) + B1 m c t (ix3 0 0 k)) + B2 m c t (ix3 0 0 k) : EReal) * (B3 m c t (ix2 k j) : EReal))
      = ∑ k : Fin 1024, mrow (X m c) (SC m c) (SH m c) (rowAt t a) k * wcat (WT m c) k j := by
  refine Finset.sum_congr rfl fun k _ => ?_
  rw [rows_apply, scale_apply m c t a, shift_apply m c t a, weights_apply]
  rfl

/-- Product entries at a column below 2560 of the prepared matrix. -/
theorem sum_low (c : Dev nD) (r : Fin 16384) (j : Fin 7808) (h : j.val < 2560) :
    (∑ k : Fin 1024, mrow (X m c) (SC m c) (SH m c) r k * wcat (WT m c) k j)
      = proj (X m c) (SC m c) (SH m c) (WT m c) r ⟨j.val, by omega⟩ :=
  Finset.sum_congr rfl fun k _ => by rw [wcat, dif_pos h]

/-- Product entries at the five groups behind. -/
theorem sum_mid (c : Dev nD) (r : Fin 16384) (j : Fin 7808) (h : 2560 ≤ j.val) (h' : j.val < 7680) :
    (∑ k : Fin 1024, mrow (X m c) (SC m c) (SH m c) r k * wcat (WT m c) k j)
      = proj (X m c) (SC m c) (SH m c) (WT m c) r ⟨j.val + 16, by omega⟩ :=
  Finset.sum_congr rfl fun k _ => by rw [wcat, dif_neg (by omega), dif_pos h']

/-- Product entries at the sixteen time-step columns, -/
theorem sum_dt (c : Dev nD) (r : Fin 16384) (j : Fin 7808) (h : 7680 ≤ j.val) (h' : j.val < 7696) :
    (∑ k : Fin 1024, mrow (X m c) (SC m c) (SH m c) r k * wcat (WT m c) k j)
      = proj (X m c) (SC m c) (SH m c) (WT m c) r ⟨j.val - 5120, by omega⟩ :=
  Finset.sum_congr rfl fun k _ => by rw [wcat, dif_neg (by omega), dif_neg (by omega), dif_pos h']

/-- and at the zero columns behind those. -/
theorem sum_pad (c : Dev nD) (r : Fin 16384) (j : Fin 7808) (h : 7696 ≤ j.val) :
    (∑ k : Fin 1024, mrow (X m c) (SC m c) (SH m c) r k * wcat (WT m c) k j) = 0 :=
  Finset.sum_eq_zero fun k _ => by rw [wcat, dif_neg (by omega), dif_neg (by omega), dif_neg (by omega), mul_zero]

/-- An entry of the product found by its position. -/
theorem proj_congr (x : Vec Ideal S4x4096x1024 .f32) (sc sh : Vec Ideal S4x1x1024 .f32) (w : Vec Ideal S1x1024x7696 .f32)
    {r r' : Fin 16384} {j j' : Fin 7696} (hr : r.val = r'.val) (hj : j.val = j'.val) :
    proj x sc sh w r j = proj x sc sh w r' j' := by rw [Fin.ext hr, Fin.ext hj]

/-- Columns `o` to `o + n - 1` of the product, as an array. -/
def cols (n o : Nat) (h : o + n ≤ 7696) (c : Dev nD) : (⟨2, ![16384, n]⟩ : Shape).Idx → EReal := fun i =>
  proj (X m c) (SC m c) (SH m c) (WT m c) (i 0) ⟨o + (i 1).val, by have : (i 1).val < n := (i 1).isLt; omega⟩

/-- The gate: columns 0 to 1023. What point `t` writes, -/
theorem point4 (c : Dev nD) (t : Fin cfg0.N) (a : Fin 256) (b : Fin 1024) :
    k0_pay2 (B0 m c t) (B1 m c t) (B2 m c t) (View.ld (B3 m c t) r0_2) (ix2 a b)
      = ∑ k : Fin 1024, mrow (X m c) (SC m c) (SH m c) (rowAt t a) k * wcat (WT m c) k ⟨b.val, by omega⟩ := by
  pointwise [k0_pay2, k0_pay1]
  exact block_sum m c t a ⟨b.val, by omega⟩

/-- and the array after the run. -/
theorem final4 (c : Dev nD) : (dats m 0 c).arrAt 4 cfg0.N = cols m 1024 0 (by decide) c := by
  refine (dats m 0 c).arrAt_eq_of_covers 4 _ (by decide +kernel) fun t _ y => ?_
  blk_simp
  rw [after0_4]; frame_out
  idx_vars y
  refine (point4 m c t y0 y1).trans ((sum_low m c _ _ (by dsimp only; omega)).trans (proj_congr _ _ _ _ ?_ ?_))
  · blk_simp [idx t]
  · blk_simp [idx t]

/-- The convolution's input: columns 1024 to 2559. What point `t` writes, -/
theorem point5 (c : Dev nD) (t : Fin cfg0.N) (a : Fin 256) (b : Fin 1536) :
    k0_pay3 (B0 m c t) (B1 m c t) (B2 m c t) (View.ld (B3 m c t) r0_3) (ix2 a b)
      = ∑ k : Fin 1024, mrow (X m c) (SC m c) (SH m c) (rowAt t a) k * wcat (WT m c) k ⟨1024 + b.val, by omega⟩ := by
  pointwise [k0_pay3, k0_pay1]
  exact block_sum m c t a ⟨1024 + b.val, by omega⟩

/-- and the array after the run. -/
theorem final5 (c : Dev nD) : (dats m 0 c).arrAt 5 cfg0.N = cols m 1536 1024 (by decide) c := by
  refine (dats m 0 c).arrAt_eq_of_covers 5 _ (by decide +kernel) fun t _ y => ?_
  blk_simp
  rw [after0_5]; frame_out
  idx_vars y
  refine (point5 m c t y0 y1).trans ((sum_low m c _ _ (by dsimp only; omega)).trans (proj_congr _ _ _ _ ?_ ?_))
  · blk_simp [idx t]
  · blk_simp [idx t]

/-- The keys: columns 3600 to 4623. What point `t` writes, -/
theorem point8 (c : Dev nD) (t : Fin cfg0.N) (a : Fin 256) (b : Fin 1024) :
    k0_pay5 (k0_pay12 (B0 m c t) (B1 m c t) (B2 m c t) (B3 m c t)) (View.ld (B3 m c t) r0_6) (ix2 a b)
      = ∑ k : Fin 1024, mrow (X m c) (SC m c) (SH m c) (rowAt t a) k * wcat (WT m c) k ⟨3584 + b.val, by omega⟩ := by
  pointwise [k0_pay5, k0_pay12, k0_pay1]
  exact block_sum m c t a ⟨3584 + b.val, by omega⟩

/-- and the array after the run. -/
theorem final8 (c : Dev nD) : (dats m 0 c).arrAt 8 cfg0.N = cols m 1024 3600 (by decide) c := by
  refine (dats m 0 c).arrAt_eq_of_covers 8 _ (by decide +kernel) fun t _ y => ?_
  blk_simp
  rw [after0_8]; frame_out
  idx_vars y
  refine (point8 m c t y0 y1).trans ((sum_mid m c _ _ (by dsimp only; omega) (by dsimp only; omega)).trans (proj_congr _ _ _ _ ?_ ?_))
  · blk_simp [idx t]
  · blk_simp [idx t]; dsimp only; omega

/-- The values: columns 4624 to 5647. What point `t` writes, -/
theorem point9 (c : Dev nD) (t : Fin cfg0.N) (a : Fin 256) (b : Fin 1024) :
    k0_pay7 (k0_pay12 (B0 m c t) (B1 m c t) (B2 m c t) (B3 m c t)) (View.ld (B3 m c t) r0_7) (ix2 a b)
      = ∑ k : Fin 1024, mrow (X m c) (SC m c) (SH m c) (rowAt t a) k * wcat (WT m c) k ⟨4608 + b.val, by omega⟩ := by
  pointwise [k0_pay7, k0_pay12, k0_pay1]
  exact block_sum m c t a ⟨4608 + b.val, by omega⟩

/-- and the array after the run. -/
theorem final9 (c : Dev nD) : (dats m 0 c).arrAt 9 cfg0.N = cols m 1024 4624 (by decide) c := by
  refine (dats m 0 c).arrAt_eq_of_covers 9 _ (by decide +kernel) fun t _ y => ?_
  blk_simp
  rw [after0_9]; frame_out
  idx_vars y
  refine (point9 m c t y0 y1).trans ((sum_mid m c _ _ (by dsimp only; omega) (by dsimp only; omega)).trans (proj_congr _ _ _ _ ?_ ?_))
  · blk_simp [idx t]
  · blk_simp [idx t]; dsimp only; omega

/-- The keys again, cast to bf16. What point `t` writes, -/
theorem point10 (c : Dev nD) (t : Fin cfg0.N) (a : Fin 256) (b : Fin 1024) :
    k0_pay6 (k0_pay12 (B0 m c t) (B1 m c t) (B2 m c t) (B3 m c t)) (View.ld (B3 m c t) r0_6) (ix2 a b)
      = ∑ k : Fin 1024, mrow (X m c) (SC m c) (SH m c) (rowAt t a) k * wcat (WT m c) k ⟨3584 + b.val, by omega⟩ := by
  pointwise [k0_pay6, k0_pay5, k0_pay12, k0_pay1]
  exact block_sum m c t a ⟨3584 + b.val, by omega⟩

/-- and the array after the run. -/
theorem final10 (c : Dev nD) : (dats m 0 c).arrAt 10 cfg0.N = cols m 1024 3600 (by decide) c := by
  refine (dats m 0 c).arrAt_eq_of_covers 10 _ (by decide +kernel) fun t _ y => ?_
  blk_simp
  rw [after0_10]; frame_out
  idx_vars y
  refine (point10 m c t y0 y1).trans ((sum_mid m c _ _ (by dsimp only; omega) (by dsimp only; omega)).trans (proj_congr _ _ _ _ ?_ ?_))
  · blk_simp [idx t]
  · blk_simp [idx t]; dsimp only; omega

/-- The values again, cast to bf16. What point `t` writes, -/
theorem point11 (c : Dev nD) (t : Fin cfg0.N) (a : Fin 256) (b : Fin 1024) :
    k0_pay8 (k0_pay12 (B0 m c t) (B1 m c t) (B2 m c t) (B3 m c t)) (View.ld (B3 m c t) r0_7) (ix2 a b)
      = ∑ k : Fin 1024, mrow (X m c) (SC m c) (SH m c) (rowAt t a) k * wcat (WT m c) k ⟨4608 + b.val, by omega⟩ := by
  pointwise [k0_pay8, k0_pay7, k0_pay12, k0_pay1]
  exact block_sum m c t a ⟨4608 + b.val, by omega⟩

/-- and the array after the run. -/
theorem final11 (c : Dev nD) : (dats m 0 c).arrAt 11 cfg0.N = cols m 1024 4624 (by decide) c := by
  refine (dats m 0 c).arrAt_eq_of_covers 11 _ (by decide +kernel) fun t _ y => ?_
  blk_simp
  rw [after0_11]; frame_out
  idx_vars y
  refine (point11 m c t y0 y1).trans ((sum_mid m c _ _ (by dsimp only; omega) (by dsimp only; omega)).trans (proj_congr _ _ _ _ ?_ ?_))
  · blk_simp [idx t]
  · blk_simp [idx t]; dsimp only; omega

/-- The first mixing gate: columns 5648 to 6671. What point `t` writes, -/
theorem point12 (c : Dev nD) (t : Fin cfg0.N) (a : Fin 256) (b : Fin 1024) :
    k0_pay9 (k0_pay12 (B0 m c t) (B1 m c t) (B2 m c t) (B3 m c t)) (View.ld (B3 m c t) r0_8) (ix2 a b)
      = ∑ k : Fin 1024, mrow (X m c) (SC m c) (SH m c) (rowAt t a) k * wcat (WT m c) k ⟨5632 + b.val, by omega⟩ := by
  pointwise [k0_pay9, k0_pay12, k0_pay1]
  exact block_sum m c t a ⟨5632 + b.val, by omega⟩

/-- and the array after the run. -/
theorem final12 (c : Dev nD) : (dats m 0 c).arrAt 12 cfg0.N = cols m 1024 5648 (by decide) c := by
  refine (dats m 0 c).arrAt_eq_of_covers 12 _ (by decide +kernel) fun t _ y => ?_
  blk_simp
  rw [after0_12]; frame_out
  idx_vars y
  refine (point12 m c t y0 y1).trans ((sum_mid m c _ _ (by dsimp only; omega) (by dsimp only; omega)).trans (proj_congr _ _ _ _ ?_ ?_))
  · blk_simp [idx t]
  · blk_simp [idx t]; dsimp only; omega

/-- The second mixing gate: columns 6672 to 7695. What point `t` writes, -/
theorem point13 (c : Dev nD) (t : Fin cfg0.N) (a : Fin 256) (b : Fin 1024) :
    k0_pay10 (k0_pay12 (B0 m c t) (B1 m c t) (B2 m c t) (B3 m c t)) (View.ld (B3 m c t) r0_9) (ix2 a b)
      = ∑ k : Fin 1024, mrow (X m c) (SC m c) (SH m c) (rowAt t a) k * wcat (WT m c) k ⟨6656 + b.val, by omega⟩ := by
  pointwise [k0_pay10, k0_pay12, k0_pay1]
  exact block_sum m c t a ⟨6656 + b.val, by omega⟩

/-- and the array after the run. -/
theorem final13 (c : Dev nD) : (dats m 0 c).arrAt 13 cfg0.N = cols m 1024 6672 (by decide) c := by
  refine (dats m 0 c).arrAt_eq_of_covers 13 _ (by decide +kernel) fun t _ y => ?_
  blk_simp
  rw [after0_13]; frame_out
  idx_vars y
  refine (point13 m c t y0 y1).trans ((sum_mid m c _ _ (by dsimp only; omega) (by dsimp only; omega)).trans (proj_congr _ _ _ _ ?_ ?_))
  · blk_simp [idx t]
  · blk_simp [idx t]; dsimp only; omega

/-- The queries, columns 2576 to 3599, times the attention's scale: what point `t` writes, -/
theorem point7 (c : Dev nD) (t : Fin cfg0.N) (a : Fin 256) (b : Fin 1024) :
    k0_pay4 (B0 m c t) (B1 m c t) (B2 m c t) (View.ld (B3 m c t) r0_5) (ix2 a b)
      = (∑ k : Fin 1024, mrow (X m c) (SC m c) (SH m c) (rowAt t a) k * wcat (WT m c) k ⟨2560 + b.val, by omega⟩)
        * Ideal.ofBits .f32 0x3E38AA3B#32 := by
  pointwise [k0_pay4, k0_pay1]
  rw [← block_sum m c t a ⟨2560 + b.val, by omega⟩]

/-- and the array after the run. -/
theorem final7 (c : Dev nD) : (dats m 0 c).arrAt 7 cfg0.N
    = fun i => cols m 1024 2576 (by decide) c i * Ideal.ofBits .f32 0x3E38AA3B#32 := by
  refine (dats m 0 c).arrAt_eq_of_covers 7 _ (by decide +kernel) fun t _ y => ?_
  blk_simp
  rw [after0_7]; frame_out
  idx_vars y
  refine (point7 m c t y0 y1).trans (congrArg (· * _) ((sum_mid m c _ _ (by dsimp only; omega) (by dsimp only; omega)).trans
    (proj_congr _ _ _ _ ?_ ?_)))
  · blk_simp [idx t]
  · blk_simp [idx t]; dsimp only; omega

/-- The time steps, columns 2560 to 2575, then zeros to the end of the lane tile: what point `t` writes, -/
theorem point6 (c : Dev nD) (t : Fin cfg0.N) (a : Fin 256) (b : Fin 128) :
    k0_pay11 (k0_pay12 (B0 m c t) (B1 m c t) (B2 m c t) (B3 m c t)) (View.ld (B3 m c t) r0_10) (ix2 a b)
      = ∑ k : Fin 1024, mrow (X m c) (SC m c) (SH m c) (rowAt t a) k * wcat (WT m c) k ⟨7680 + b.val, by omega⟩ := by
  pointwise [k0_pay11, k0_pay12, k0_pay1]
  exact block_sum m c t a ⟨7680 + b.val, by omega⟩

/-- Entry `(r, j)` of the time steps' array: sixteen columns of the product, zeros behind. -/
def step (c : Dev nD) (r : Fin 16384) (j : Fin 128) : EReal :=
  if h : j.val < 16 then proj (X m c) (SC m c) (SH m c) (WT m c) r ⟨2560 + j.val, by omega⟩ else 0

theorem step_congr (c : Dev nD) {r r' : Fin 16384} {j j' : Fin 128} (hr : r.val = r'.val)
    (hj : j.val = j'.val) : step m c r j = step m c r' j' := by rw [Fin.ext hr, Fin.ext hj]

/-- The block's entries are the array's. -/
theorem sum_step (c : Dev nD) (r : Fin 16384) (b : Fin 128) :
    (∑ k : Fin 1024, mrow (X m c) (SC m c) (SH m c) r k * wcat (WT m c) k ⟨7680 + b.val, by omega⟩)
      = step m c r b := by
  unfold step
  by_cases h : b.val < 16
  · rw [dif_pos h]
    refine (sum_dt m c _ _ (by dsimp only; omega) (by dsimp only; omega)).trans (proj_congr _ _ _ _ rfl ?_)
    dsimp only; omega
  · rw [dif_neg h]
    exact sum_pad m c _ _ (by dsimp only; omega)

/-- The time steps' array. -/
def steps (c : Dev nD) : S16384x128.Idx → EReal := fun i => step m c (i 0) (i 1)

/-- and the array after the run. -/
theorem final6 (c : Dev nD) : (dats m 0 c).arrAt 6 cfg0.N = steps m c := by
  refine (dats m 0 c).arrAt_eq_of_covers 6 _ (by decide +kernel) fun t _ y => ?_
  blk_simp
  rw [after0_6]; frame_out
  idx_vars y
  refine (point6 m c t y0 y1).trans ((sum_step m c _ _).trans (step_congr m c ?_ ?_))
  · blk_simp [idx t]
  · blk_simp [idx t]

end Cert.InprojIdeal.Arrays
-- ==== Proof.InprojRef.lean ====
/-
  The input projection's reference over the extended reals: every result of its one product, read at an index, is the
  entry of the product that the kernel's result holds there.
-/
module

public import proofs.«01_k».proof.Proof.InprojValue
public import proofs.«01_k».proof.Proof.Gen.InprojRefIdeal.Run

@[expose] public section

set_option maxRecDepth 16384

noncomputable section

namespace Cert.InprojRefIdeal.Product

open Cert.InprojRefIdeal Cert.InprojRefIdeal.Facts Cert.InprojRefIdeal.Gen Idealize.ShloMosaic Idealize.ShloMosaic.TcCoe Idealize.SL.Sem
open Cert.InprojIdeal.Arrays (mrow proj proj_congr)

variable (x : Vec Ideal S4x4096x1024 .f32) (sc sh : Vec Ideal S4x1x1024 .f32) (w : Vec Ideal S1x1024x7696 .f32)

/-- The reference's product, flattened to rows. -/
def full : Vec Ideal S16384x7696 .f32 :=
  shapeCast _ (Host.dotGeneral (F := Ideal) (φ₁ := .f32) (φ₂ := .f32) dot_S4x4096x1024_S1024x7696_S4x4096x7696_2_0_01_1_n_n none (addf (F := Ideal) (mulf (F := Ideal) x (broadcastInDim S4x4096x1024 ![0, 1, 2] bcast_S4x1x1024_S4x4096x1024_0_1_2 (addf (F := Ideal) (broadcastInDim S4x1x1024 ![] bcast_S_S4x1x1024 (constant (F := Ideal) S_ .f32 0x3F800000#32)) sc))) (broadcastInDim S4x4096x1024 ![0, 1, 2] bcast_S4x1x1024_S4x4096x1024_0_1_2 sh)) (shapeCast (α := Ideal .f32) _ w shapeCasts_S1x1024x7696_S1024x7696)) shapeCasts_S4x4096x7696_S16384x7696

/-- Its entries. -/
theorem full_apply (r : Fin 16384) (j : Fin 7696) : full x sc sh w (ix2 r j) = proj x sc sh w r j := by
  unfold full
  pointwise []
  rfl

/-- Columns `o` to `o + n - 1` of the product, as an array. -/
def part (n o : Nat) (h : o + n ≤ 7696) : (⟨2, ![16384, n]⟩ : Shape).Idx → EReal := fun i =>
  proj x sc sh w (i 0) ⟨o + (i 1).val, by have : (i 1).val < n := (i 1).isLt; omega⟩

/-- A slice of 1024 columns of an array of that shape, at an index, -/
theorem slice_apply (A : Vec Ideal S16384x7696 .f32) (o : Nat) (h : o + 1024 ≤ 7696)
    (hs : S16384x7696.Slices ![0, o] S16384x1024) (r : Fin 16384) (j : Fin 1024) :
    extractStridedSlice S16384x1024 ![0, o] A hs (ix2 r j) = A (ix2 r ⟨o + j.val, by omega⟩) := by
  pointwise []

/-- which of the product is the slice of its entries. -/
theorem part_apply (o : Nat) (h : o + 1024 ≤ 7696) (hs : S16384x7696.Slices ![0, o] S16384x1024) (i : S16384x1024.Idx) :
    extractStridedSlice S16384x1024 ![0, o] (full x sc sh w) hs i = part x sc sh w 1024 o h i := by
  idx_vars i
  rw [slice_apply _ o h]
  exact full_apply x sc sh w _ _

/-- The convolution's input, 1536 columns. -/
theorem conv_eq (hs : S16384x7696.Slices ![0, 1024] S16384x1536) :
    extractStridedSlice S16384x1536 ![0, 1024] (full x sc sh w) hs = part x sc sh w 1536 1024 (by decide) := by
  funext i
  idx_vars i
  have e := full_apply x sc sh w i0 ⟨1024 + i1.val, by omega⟩
  generalize full x sc sh w = A at e ⊢
  refine Eq.trans ?_ e
  pointwise []

/-- The queries, scaled. -/
theorem query_eq (hs : S16384x7696.Slices ![0, 2576] S16384x1024) (hb : S_.BroadcastsInDim S16384x1024 ![])
    (ht : FTy.bits .bf16 < FTy.bits .f32) :
    truncf (F := Ideal) (φ := .f32) .bf16 (mulf (F := Ideal) (extractStridedSlice S16384x1024 ![0, 2576] (full x sc sh w) hs)
        (broadcastInDim S16384x1024 ![] hb (constant (F := Ideal) S_ .f32 0x3E38AA3B#32))) ht
      = fun i => part x sc sh w 1024 2576 (by decide) i * Ideal.ofBits .f32 0x3E38AA3B#32 := by
  funext i
  exact congrArg (· * _) (part_apply x sc sh w 2576 (by decide) hs i)

/-- The time steps, sixteen columns and zeros to the end of the lane tile. -/
theorem steps_eq (hs : S16384x7696.Slices ![0, 2560] S16384x16)
    (hp : S16384x16.Pads ![0, 0] ![0, 112] ![0, 0] S16384x128) (h0 : 0 < S_.numel) :
    pad S16384x128 ![0, 0] ![0, 112] ![0, 0] (extractStridedSlice S16384x16 ![0, 2560] (full x sc sh w) hs)
        (sitofp (F := Ideal) .f32 (constantI S_ 32 0#32)) hp h0
      = fun i => if h : (i 1).val < 16 then proj x sc sh w (i 0) ⟨2560 + (i 1).val, by omega⟩ else 0 := by
  funext i
  idx_vars i
  have e : ∀ j : Fin 16, full x sc sh w (ix2 i0 ⟨2560 + j.val, by omega⟩) = proj x sc sh w i0 ⟨2560 + j.val, by omega⟩ :=
    fun j => full_apply x sc sh w i0 _
  generalize full x sc sh w = A at e ⊢
  pointwise []
  by_cases h : i1.val < 16
  · rw [dif_pos h, dif_pos h]; exact e ⟨i1.val, h⟩
  · rw [dif_neg h, dif_neg h]
    show Scalar.sitofp (F := Ideal) .f32 0#32 = 0
    rw [Ideal.scalar_sitofp_def]; simp

end Cert.InprojRefIdeal.Product
-- ==== Proof.InprojClaim.lean ====
/-
  The input projection's value claim: from arguments that agree, kernel and reference end with equal results.
-/
module

public import proofs.«01_k».proof.Defs
public import proofs.«01_k».proof.Proof.InprojRef
public import proofs.«01_k».proof.Proof.Gen.InprojIdeal.Frame
public import Idealize.ShloMosaic.Lib.Quiescent

@[expose] public section

set_option maxRecDepth 16384

noncomputable section

namespace Cert.InprojClaim

open Idealize.ShloMosaic Idealize.ShloMosaic.TcCoe Idealize.SL.Sem
open Cert.InprojIdeal.Arrays (cols steps)
open Cert.InprojRefIdeal.Product

/-- The reference ends without fault, its arguments kept. -/
theorem frame_ref : @Cert.quiescent_InprojRefIdeal Cert.InprojRefIdeal.Gen.facts := fun m ρ _ =>
  (θ_run Cert.InprojRefIdeal.defs _ _).mono
    (fun r h => ⟨fun c => (h c).2.2.2.2.2.2.2.2.2.2, Idealize.ShloMosaic.sem_eq_zero_of_no_sems (by decide) r.2⟩)
    (Cert.InprojRefIdeal.Value.run (F := Ideal) m ρ)

/-- Kernel and reference compute the same ten arrays over the extended reals. -/
theorem value : @Cert.algebraic_InprojIdeal_InprojRefIdeal Cert.InprojIdeal.Gen.facts Cert.InprojRefIdeal.Gen.facts := by
  intro m ρ m' ρ' _ hag
  refine ⟨cols m 1024 0 (by decide), cols m 1536 1024 (by decide), steps m,
    fun c i => cols m 1024 2576 (by decide) c i * Ideal.ofBits .f32 0x3E38AA3B#32, cols m 1024 3600 (by decide),
    cols m 1024 4624 (by decide), cols m 1024 3600 (by decide), cols m 1024 4624 (by decide),
    cols m 1024 5648 (by decide), cols m 1024 6672 (by decide), ?_, ?_⟩
  · refine (θ_run _ _ _).mono (fun r h c => ?_) (Cert.InprojIdeal.Value.run_blocks (F := Ideal) m ρ)
    obtain ⟨h4, h5, h6, h7, h8, h9, h10, h11, h12, h13, hargs⟩ := h c
    exact ⟨h4.trans (Cert.InprojIdeal.Arrays.final4 m c), h5.trans (Cert.InprojIdeal.Arrays.final5 m c),
      h6.trans (Cert.InprojIdeal.Arrays.final6 m c), h7.trans (Cert.InprojIdeal.Arrays.final7 m c),
      h8.trans (Cert.InprojIdeal.Arrays.final8 m c), h9.trans (Cert.InprojIdeal.Arrays.final9 m c),
      h10.trans (Cert.InprojIdeal.Arrays.final10 m c), h11.trans (Cert.InprojIdeal.Arrays.final11 m c),
      h12.trans (Cert.InprojIdeal.Arrays.final12 m c), h13.trans (Cert.InprojIdeal.Arrays.final13 m c), hargs⟩
  · refine (θ_run _ _ _).mono (fun r h c => ?_) (Cert.InprojRefIdeal.Value.run (F := Ideal) m' ρ')
    obtain ⟨e0, e1, e2, e3⟩ := hag c
    obtain ⟨h4, h5, h6, h7, h8, h9, h10, h11, h12, h13, hargs⟩ := h c
    rw [e0, e1, e2, e3] at h4 h5 h6 h7 h8 h9 h10 h11 h12 h13
    exact ⟨h4.trans (funext fun i => part_apply _ _ _ _ 0 (by decide) Cert.InprojRefIdeal.Gen.slices_S16384x7696_S16384x1024_0_0 i), h5.trans (conv_eq _ _ _ _ _),
      h6.trans (steps_eq _ _ _ _ _ _ _), h7.trans (query_eq _ _ _ _ _ _ _),
      h8.trans (funext fun i => part_apply _ _ _ _ 3600 (by decide) Cert.InprojRefIdeal.Gen.slices_S16384x7696_S16384x1024_0_3600 i),
      h9.trans (funext fun i => part_apply _ _ _ _ 4624 (by decide) Cert.InprojRefIdeal.Gen.slices_S16384x7696_S16384x1024_0_4624 i),
      h10.trans (funext fun i => part_apply _ _ _ _ 3600 (by decide) Cert.InprojRefIdeal.Gen.slices_S16384x7696_S16384x1024_0_3600 i),
      h11.trans (funext fun i => part_apply _ _ _ _ 4624 (by decide) Cert.InprojRefIdeal.Gen.slices_S16384x7696_S16384x1024_0_4624 i),
      h12.trans (funext fun i => part_apply _ _ _ _ 5648 (by decide) Cert.InprojRefIdeal.Gen.slices_S16384x7696_S16384x1024_0_5648 i),
      h13.trans (funext fun i => part_apply _ _ _ _ 6672 (by decide) Cert.InprojRefIdeal.Gen.slices_S16384x7696_S16384x1024_0_6672 i), hargs⟩

end Cert.InprojClaim
-- ==== Proof.SsdSpec.lean ====
/-
  The state-space layer's step over the extended reals, one sequence of eight tokens at a time: a causal convolution of
  four taps and silu, a step size for each of sixteen heads, the decay its running sum gives, what a token reads from the
  tokens before it and from the carried state, the state carried on, and the gated normalised output.
-/
module

public import Idealize.ShloMosaic.Lib.Pointwise

@[expose] public section

set_option maxRecDepth 16384

noncomputable section

namespace Cert.SsdStep

open Idealize.ShloMosaic

/-- What one sequence gives the step, and the layer's weights. -/
structure Seq where
  /-- the convolution's input and the three tokens before it -/
  u : Fin 8 → Fin 1536 → EReal
  past : Fin 3 → Fin 1536 → EReal
  /-- the time steps before their bias and softplus -/
  dt : Fin 8 → Fin 16 → EReal
  /-- the gate -/
  z : Fin 8 → Fin 1024 → EReal
  /-- the carried state of each head -/
  h : Fin 16 → Fin 64 → Fin 128 → EReal
  /-- the taps and the convolution's bias -/
  w : Fin 4 → Fin 1536 → EReal
  b : Fin 1536 → EReal
  bias : Fin 16 → EReal
  alog : Fin 16 → EReal
  skip : Fin 16 → EReal
  nw : Fin 1024 → EReal

namespace Seq

variable (q : Seq)

/-- The three tokens before, then the eight. -/
def line (i : Fin 11) (j : Fin 1536) : EReal :=
  if h : i.val < 3 then q.past ⟨i.val, h⟩ j else q.u ⟨i.val - 3, by omega⟩ j

def tap (l : Fin 8) (k : Fin 4) (j : Fin 1536) : EReal := q.line ⟨k.val + l.val, by omega⟩ j * q.w k j

/-- The convolution, and its silu: x, B and C side by side. -/
def conv (l : Fin 8) (j : Fin 1536) : EReal := q.tap l 0 j + q.tap l 1 j + q.tap l 2 j + q.tap l 3 j + q.b j

def act (l : Fin 8) (j : Fin 1536) : EReal := q.conv l j * Ideal.logistic (q.conv l j)

def x (l : Fin 8) (j : Fin 1024) : EReal := q.act l ⟨j.val, by omega⟩
def B (l : Fin 8) (g : Fin 2) (n : Fin 128) : EReal := q.act l ⟨1024 + g.val * 128 + n.val, by omega⟩
def C (l : Fin 8) (g : Fin 2) (n : Fin 128) : EReal := q.act l ⟨1280 + g.val * 128 + n.val, by omega⟩

/-- `log (1 + exp v)`, as both programs compute it. -/
def softplus (v : EReal) : EReal := max v 0 + Ideal.log (1 + Ideal.exp (-(max v (-v))))

def d (l : Fin 8) (h : Fin 16) : EReal := softplus (q.dt l h + q.bias h)

/-- The running sum of the steps times the head's rate. -/
def ac (l : Fin 8) (h : Fin 16) : EReal := ∑ s : Fin 8, if s.val ≤ l.val then q.d s h * -(Ideal.exp (q.alog h)) else 0

/-- What token `l` reads of token `s`, in head `h`. A later token's decay is the exponential of the word of minus infinity,
    as both programs write it. -/
def mix (l s : Fin 8) (h : Fin 16) : EReal :=
  (∑ n : Fin 128, q.C l ⟨h.val / 8, by omega⟩ n * q.B s ⟨h.val / 8, by omega⟩ n)
    * Ideal.exp (if s.val ≤ l.val then q.ac l h - q.ac s h else Ideal.ofBits .f32 0xFF800000#32) * q.d s h

/-- The head of a column. -/
abbrev head (j : Fin 1024) : Fin 16 := ⟨j.val / 64, by omega⟩

/-- The layer's output before the gate, -/
def y (l : Fin 8) (j : Fin 1024) : EReal :=
  ((∑ s : Fin 8, q.mix l s (head j) * q.x s j)
      + (∑ n : Fin 128, q.C l ⟨j.val / 512, by omega⟩ n * q.h (head j) ⟨j.val % 64, by omega⟩ n) * Ideal.exp (q.ac l (head j)))
    + q.skip (head j) * q.x l j

/-- and the state carried on, at a column and a state lane. -/
def next (j : Fin 1024) (n : Fin 128) : EReal :=
  q.h (head j) ⟨j.val % 64, by omega⟩ n * Ideal.exp (q.ac 7 (head j))
    + ∑ s : Fin 8, q.x s j * (Ideal.exp (q.ac 7 (head j) - q.ac s (head j)) * q.d s (head j)) * q.B s ⟨j.val / 512, by omega⟩ n

/-- The gated output, -/
def gated (l : Fin 8) (j : Fin 1024) : EReal := q.y l j * (q.z l j * Ideal.logistic (q.z l j))

/-- the mean of its squares in each of two groups, -/
def meanSq (l : Fin 8) (g : Fin 2) : EReal :=
  Ideal.div (∑ k : Fin 512, q.gated l ⟨g.val * 512 + k.val, by omega⟩ * q.gated l ⟨g.val * 512 + k.val, by omega⟩)
    (Ideal.ofBits .f32 0x44000000#32)

/-- and the normalised output. -/
def out (l : Fin 8) (j : Fin 1024) : EReal :=
  q.gated l j * Ideal.rsqrt (q.meanSq l ⟨j.val / 512, by omega⟩ + Ideal.ofBits .f32 0x3727C5AC#32) * q.nw j

/-- The three tokens the next call finds before its own. -/
def tail (i : Fin 3) (j : Fin 1536) : EReal := q.u ⟨5 + i.val, by omega⟩ j

end Seq

end Cert.SsdStep
-- ==== Proof.SsdSeq.lean ====
/-
  One sequence of the state-space layer's step, off the argument arrays of the whole batch.
-/
module

public import proofs.«01_k».proof.Proof.SsdSpec

@[expose] public section

set_option maxRecDepth 16384

noncomputable section

namespace Cert.SsdStep

open Idealize.ShloMosaic

/-- The step's arguments: the convolution's input, the time steps (sixteen of 128 lanes) and the gate, 32 sequences of
    eight rows; the layer's weights; and, of every sequence, the three tokens before and the carried state. -/
structure Args where
  xbc : Vec Ideal ⟨2, ![256, 1536]⟩ .f32
  dt : Vec Ideal ⟨2, ![256, 128]⟩ .f32
  z : Vec Ideal ⟨2, ![256, 1024]⟩ .bf16
  w : Vec Ideal ⟨3, ![1, 4, 1536]⟩ .f32
  b : Vec Ideal ⟨2, ![1, 1536]⟩ .f32
  bias : Vec Ideal ⟨2, ![1, 16]⟩ .f32
  alog : Vec Ideal ⟨2, ![1, 16]⟩ .f32
  skip : Vec Ideal ⟨2, ![1, 16]⟩ .f32
  nw : Vec Ideal ⟨2, ![1, 1024]⟩ .f32
  past : Vec Ideal ⟨4, ![1, 32, 3, 1536]⟩ .f32
  h : Vec Ideal ⟨5, ![1, 32, 16, 64, 128]⟩ .f32

/-- Sequence `i` of them. -/
def Args.seq (A : Args) (i : Fin 32) : Seq where
  u l j := A.xbc (ix2 ⟨i.val * 8 + l.val, by omega⟩ j)
  past k j := A.past (ix4 0 i k j)
  dt l h := A.dt (ix2 ⟨i.val * 8 + l.val, by omega⟩ ⟨h.val, by omega⟩)
  z l j := A.z (ix2 ⟨i.val * 8 + l.val, by omega⟩ j)
  h g p n := A.h (ix5 0 i g p n)
  w k j := A.w (ix3 0 k j)
  b j := A.b (ix2 0 j)
  bias h := A.bias (ix2 0 h)
  alog h := A.alog (ix2 0 h)
  skip h := A.skip (ix2 0 h)
  nw j := A.nw (ix2 0 j)

/-- The three results, over the batch. -/
def Args.out (A : Args) : Vec Ideal ⟨3, ![32, 8, 1024]⟩ .f32 := fun i => (A.seq (i 0)).out (i 1) (i 2)
def Args.tail (A : Args) : Vec Ideal ⟨3, ![32, 3, 1536]⟩ .f32 := fun i => (A.seq (i 0)).tail (i 1) (i 2)
def Args.next (A : Args) : Vec Ideal ⟨4, ![32, 8, 128, 128]⟩ .f32 :=
  fun i => (A.seq (i 0)).next ⟨(i 1).val * 128 + (i 2).val, by
    have h1 : (i 1).val < 8 := (i 1).isLt
    have h2 : (i 2).val < 128 := (i 2).isLt
    omega⟩ (i 3)

/-- An entry of a result found by its position. -/
theorem Args.out_at (A : Args) (s : Fin 32) (l : Fin 8) (j : Fin 1024) {i : (⟨3, ![32, 8, 1024]⟩ : Shape).Idx}
    (h0 : (i 0).val = s.val) (h1 : (i 1).val = l.val) (h2 : (i 2).val = j.val) : (A.seq s).out l j = A.out i := by
  rw [Args.out, show i 0 = s from Fin.ext h0, show i 1 = l from Fin.ext h1, show i 2 = j from Fin.ext h2]

theorem Args.tail_at (A : Args) (s : Fin 32) (k : Fin 3) (j : Fin 1536) {i : (⟨3, ![32, 3, 1536]⟩ : Shape).Idx}
    (h0 : (i 0).val = s.val) (h1 : (i 1).val = k.val) (h2 : (i 2).val = j.val) : (A.seq s).tail k j = A.tail i := by
  rw [Args.tail, show i 0 = s from Fin.ext h0, show i 1 = k from Fin.ext h1, show i 2 = j from Fin.ext h2]

theorem Args.next_at (A : Args) (s : Fin 32) (j : Fin 1024) (n : Fin 128) {i : (⟨4, ![32, 8, 128, 128]⟩ : Shape).Idx}
    (h0 : (i 0).val = s.val) (h1 : (i 1).val * 128 + (i 2).val = j.val) (h3 : (i 3).val = n.val) : (A.seq s).next j n = A.next i := by
  rw [Args.next, show i 0 = s from Fin.ext h0, show i 3 = n from Fin.ext h3]
  exact congrArg (fun j => (A.seq s).next j n) (Fin.ext h1.symm)

end Cert.SsdStep
-- ==== Proof.SsdHost.lean ====
/-
  The step's call, its host side: what each window's array holds when the region starts, index by index.
-/
module

public import proofs.«01_k».proof.Proof.SsdSeq
public import proofs.«01_k».proof.Proof.Gen.SsdIdeal.Frame
public import Idealize.ShloMosaic.Lib.StableHlo.Run

@[expose] public section

set_option maxRecDepth 16384

noncomputable section

namespace Cert.SsdIdeal.Host

open Cert.SsdIdeal Cert.SsdIdeal.Gen Idealize.ShloMosaic Idealize.ShloMosaic.TcCoe Idealize.SL.Sem
open Idealize.ShloMosaic.StableHlo Cert.SsdStep

variable (m : (ℓ : Loc nD τ sig) → Buf (Elt Ideal) ℓ)

/-- The argument arrays. -/
abbrev args (c : Dev nD) : Args where
  xbc := m ((c : Thread nD τ).loc main_arg0)
  dt := m ((c : Thread nD τ).loc main_arg1)
  z := m ((c : Thread nD τ).loc main_arg2)
  w := m ((c : Thread nD τ).loc main_arg3)
  b := m ((c : Thread nD τ).loc main_arg4)
  bias := m ((c : Thread nD τ).loc main_arg5)
  alog := m ((c : Thread nD τ).loc main_arg6)
  skip := m ((c : Thread nD τ).loc main_arg7)
  nw := m ((c : Thread nD τ).loc main_arg8)
  past := m ((c : Thread nD τ).loc main_arg9)
  h := m ((c : Thread nD τ).loc main_arg10)

/-- A padded vector: its sixteen entries, then zeros. -/
theorem pad_apply (x : Vec Ideal S1x16 .f32) (h : Fin 16) :
    (shapeCast S1x128 (pad S128 ![0] ![112] ![0] (shapeCast S16 x shapeCasts_S1x16_S16) (sitofp (F := Ideal) .f32 (constantI S_ 32 0#32)) pads_S16_S128_01120 h_S_)
      shapeCasts_S128_S1x128 : Vec Ideal S1x128 .f32) (ix2 0 ⟨h.val, by omega⟩) = x (ix2 0 h) := by
  pointwise

theorem V_u (c : Dev nD) (i : Fin 32) (l : Fin 8) (j : Fin 1536) :
    ((V m c main_v9 : Vec Ideal S32x8x1536 .f32) (ix3 i l j) : EReal) = ((args m c).seq i).u l j := by
  have h : (V m c main_v9 : Vec Ideal S32x8x1536 .f32) = shapeCast _ (args m c).xbc shapeCasts_S256x1536_S32x8x1536 := by
    show StableHlo.after (List.flatten [hostOps0, hostOps0_1, hostOps0_2, hostOps0_3, hostOps0_4]) (fun b => m (c, b)) main_v9 = _
    simp only [hostOps0, hostOps0_1, hostOps0_2, hostOps0_3, hostOps0_4, List.flatten_cons, List.flatten_nil, List.append_nil, List.cons_append, List.nil_append]
    after_results
    rfl
  rw [h]
  show _ = (args m c).xbc _
  pointwise

theorem V_dt (c : Dev nD) (i : Fin 32) (l : Fin 8) (h : Fin 16) :
    ((V m c main_v10 : Vec Ideal S32x8x128 .f32) (ix3 i l ⟨h.val, by omega⟩) : EReal) = ((args m c).seq i).dt l h := by
  have h : (V m c main_v10 : Vec Ideal S32x8x128 .f32) = shapeCast _ (args m c).dt shapeCasts_S256x128_S32x8x128 := by
    show StableHlo.after (List.flatten [hostOps0, hostOps0_1, hostOps0_2, hostOps0_3, hostOps0_4]) (fun b => m (c, b)) main_v10 = _
    simp only [hostOps0, hostOps0_1, hostOps0_2, hostOps0_3, hostOps0_4, List.flatten_cons, List.flatten_nil, List.append_nil, List.cons_append, List.nil_append]
    after_results
    rfl
  rw [h]
  show _ = (args m c).dt _
  pointwise

theorem V_z (c : Dev nD) (i : Fin 32) (l : Fin 8) (j : Fin 1024) :
    ((V m c main_v11 : Vec Ideal S32x8x1024 .f32) (ix3 i l j) : EReal) = ((args m c).seq i).z l j := by
  have h : (V m c main_v11 : Vec Ideal S32x8x1024 .f32) = shapeCast _ (extf (F := Ideal) (s := S256x1024) (φ := .bf16) .f32 (args m c).z bitsLt_bf16_f32) shapeCasts_S256x1024_S32x8x1024 := by
    show StableHlo.after (List.flatten [hostOps0, hostOps0_1, hostOps0_2, hostOps0_3, hostOps0_4]) (fun b => m (c, b)) main_v11 = _
    simp only [hostOps0, hostOps0_1, hostOps0_2, hostOps0_3, hostOps0_4, List.flatten_cons, List.flatten_nil, List.append_nil, List.cons_append, List.nil_append]
    after_results
    rfl
  rw [h]
  show _ = (args m c).z _
  pointwise

theorem V_w (c : Dev nD) (i : Fin 32) (k : Fin 4) (j : Fin 1536) :
    ((V m c main_v0 : Vec Ideal S4x1536 .f32) (ix2 k j) : EReal) = ((args m c).seq i).w k j := by
  have h : (V m c main_v0 : Vec Ideal S4x1536 .f32) = shapeCast _ (args m c).w shapeCasts_S1x4x1536_S4x1536 := by
    show StableHlo.after (List.flatten [hostOps0, hostOps0_1, hostOps0_2, hostOps0_3, hostOps0_4]) (fun b => m (c, b)) main_v0 = _
    simp only [hostOps0, hostOps0_1, hostOps0_2, hostOps0_3, hostOps0_4, List.flatten_cons, List.flatten_nil, List.append_nil, List.cons_append, List.nil_append]
    after_results
    rfl
  rw [h]
  show _ = (args m c).w _
  pointwise

theorem V_b (c : Dev nD) (i : Fin 32) (j : Fin 1536) :
    ((V m c main_v12 : Vec Ideal S1x1536 .f32) (ix2 0 j) : EReal) = ((args m c).seq i).b j := by
  have h : (V m c main_v12 : Vec Ideal S1x1536 .f32) = shapeCast _ (shapeCast S1536 (args m c).b shapeCasts_S1x1536_S1536) shapeCasts_S1536_S1x1536 := by
    show StableHlo.after (List.flatten [hostOps0, hostOps0_1, hostOps0_2, hostOps0_3, hostOps0_4]) (fun b => m (c, b)) main_v12 = _
    simp only [hostOps0, hostOps0_1, hostOps0_2, hostOps0_3, hostOps0_4, List.flatten_cons, List.flatten_nil, List.append_nil, List.cons_append, List.nil_append]
    after_results
    rfl
  rw [h]
  show _ = (args m c).b _
  pointwise

theorem V_bias (c : Dev nD) (i : Fin 32) (h : Fin 16) :
    ((V m c main_v14 : Vec Ideal S1x128 .f32) (ix2 0 ⟨h.val, by omega⟩) : EReal) = ((args m c).seq i).bias h := by
  have h : (V m c main_v14 : Vec Ideal S1x128 .f32) = shapeCast S1x128 (pad S128 ![0] ![112] ![0] (shapeCast S16 (args m c).bias shapeCasts_S1x16_S16) (sitofp (F := Ideal) .f32 (constantI S_ 32 0#32)) pads_S16_S128_01120 h_S_) shapeCasts_S128_S1x128 := by
    show StableHlo.after (List.flatten [hostOps0, hostOps0_1, hostOps0_2, hostOps0_3, hostOps0_4]) (fun b => m (c, b)) main_v14 = _
    simp only [hostOps0, hostOps0_1, hostOps0_2, hostOps0_3, hostOps0_4, List.flatten_cons, List.flatten_nil, List.append_nil, List.cons_append, List.nil_append]
    after_results
    rfl
  rw [h]
  exact pad_apply _ _

theorem V_alog (c : Dev nD) (i : Fin 32) (h : Fin 16) :
    ((V m c main_v16 : Vec Ideal S1x128 .f32) (ix2 0 ⟨h.val, by omega⟩) : EReal) = ((args m c).seq i).alog h := by
  have h : (V m c main_v16 : Vec Ideal S1x128 .f32) = shapeCast S1x128 (pad S128 ![0] ![112] ![0] (shapeCast S16 (args m c).alog shapeCasts_S1x16_S16) (sitofp (F := Ideal) .f32 (constantI S_ 32 0#32)) pads_S16_S128_01120 h_S_) shapeCasts_S128_S1x128 := by
    show StableHlo.after (List.flatten [hostOps0, hostOps0_1, hostOps0_2, hostOps0_3, hostOps0_4]) (fun b => m (c, b)) main_v16 = _
    simp only [hostOps0, hostOps0_1, hostOps0_2, hostOps0_3, hostOps0_4, List.flatten_cons, List.flatten_nil, List.append_nil, List.cons_append, List.nil_append]
    after_results
    rfl
  rw [h]
  exact pad_apply _ _

theorem V_skip (c : Dev nD) (i : Fin 32) (j : Fin 1024) :
    ((V m c main_v19 : Vec Ideal S1x1024 .f32) (ix2 0 j) : EReal) = ((args m c).seq i).skip (Seq.head j) := by
  have h : (V m c main_v19 : Vec Ideal S1x1024 .f32) = shapeCast _ (shapeCast S1024 (broadcastInDim S16x64 ![0] bcast_S16_S16x64_0 (shapeCast S16 (args m c).skip shapeCasts_S1x16_S16)) shapeCasts_S16x64_S1024) shapeCasts_S1024_S1x1024 := by
    show StableHlo.after (List.flatten [hostOps0, hostOps0_1, hostOps0_2, hostOps0_3, hostOps0_4]) (fun b => m (c, b)) main_v19 = _
    simp only [hostOps0, hostOps0_1, hostOps0_2, hostOps0_3, hostOps0_4, List.flatten_cons, List.flatten_nil, List.append_nil, List.cons_append, List.nil_append]
    after_results
    rfl
  rw [h]
  show _ = (args m c).skip _
  pointwise

theorem V_nw (c : Dev nD) (i : Fin 32) (j : Fin 1024) :
    ((V m c main_v20 : Vec Ideal S1x1024 .f32) (ix2 0 j) : EReal) = ((args m c).seq i).nw j := by
  have h : (V m c main_v20 : Vec Ideal S1x1024 .f32) = shapeCast _ (shapeCast S1024 (args m c).nw shapeCasts_S1x1024_S1024) shapeCasts_S1024_S1x1024 := by
    show StableHlo.after (List.flatten [hostOps0, hostOps0_1, hostOps0_2, hostOps0_3, hostOps0_4]) (fun b => m (c, b)) main_v20 = _
    simp only [hostOps0, hostOps0_1, hostOps0_2, hostOps0_3, hostOps0_4, List.flatten_cons, List.flatten_nil, List.append_nil, List.cons_append, List.nil_append]
    after_results
    rfl
  rw [h]
  show _ = (args m c).nw _
  pointwise

theorem V_past (c : Dev nD) (i : Fin 32) (k : Fin 3) (j : Fin 1536) :
    ((V m c main_v6 : Vec Ideal S32x3x1536 .f32) (ix3 i k j) : EReal) = ((args m c).seq i).past k j := by
  have h : (V m c main_v6 : Vec Ideal S32x3x1536 .f32) = shapeCast _ (args m c).past shapeCasts_S1x32x3x1536_S32x3x1536 := by
    show StableHlo.after (List.flatten [hostOps0, hostOps0_1, hostOps0_2, hostOps0_3, hostOps0_4]) (fun b => m (c, b)) main_v6 = _
    simp only [hostOps0, hostOps0_1, hostOps0_2, hostOps0_3, hostOps0_4, List.flatten_cons, List.flatten_nil, List.append_nil, List.cons_append, List.nil_append]
    after_results
    rfl
  rw [h]
  show _ = (args m c).past _
  pointwise

theorem V_h (c : Dev nD) (i : Fin 32) (p : Fin 8) (r n : Fin 128) :
    ((V m c main_v21 : Vec Ideal S32x8x128x128 .f32) (ix4 i p r n) : EReal) = ((args m c).seq i).h ⟨(p.val * 128 + r.val) / 64, by omega⟩ ⟨(p.val * 128 + r.val) % 64, by omega⟩ n := by
  have h : (V m c main_v21 : Vec Ideal S32x8x128x128 .f32) = shapeCast _ (shapeCast S32x16x64x128 (args m c).h shapeCasts_S1x32x16x64x128_S32x16x64x128) shapeCasts_S32x16x64x128_S32x8x128x128 := by
    show StableHlo.after (List.flatten [hostOps0, hostOps0_1, hostOps0_2, hostOps0_3, hostOps0_4]) (fun b => m (c, b)) main_v21 = _
    simp only [hostOps0, hostOps0_1, hostOps0_2, hostOps0_3, hostOps0_4, List.flatten_cons, List.flatten_nil, List.append_nil, List.cons_append, List.nil_append]
    after_results
    rfl
  rw [h]
  show _ = (args m c).h _
  pointwise
  refine congrArg (args m c).h ?_
  funext a
  fin_cases a
  · rfl
  · rfl
  · exact Fin.ext (by show p.val * 2 + r.val / 64 = (p.val * 128 + r.val) / 64; omega)
  · exact Fin.ext (by show r.val % 64 = (p.val * 128 + r.val) % 64; omega)
  · rfl

end Cert.SsdIdeal.Host
-- ==== Proof.SsdMid.lean ====
/-
  What the step's body computes before the pairs of heads: the convolution, the step sizes and their running sum by a
  triangular product, the per-column factors by a product with the heads' selection. The body works on 128 rows, of which
  eight are the sequence's tokens; the step sizes of the others are set to zero.
-/
module

public import proofs.«01_k».proof.Proof.SsdSpec
public import proofs.«01_k».proof.Proof.Gen.SsdIdeal.Skeleton
public import Idealize.ShloMosaic.Lib.Pipeline.ValueKit
public import Idealize.ShloMosaic.Lib.WordCmp

@[expose] public section

set_option maxRecDepth 16384

noncomputable section

namespace Cert.SsdIdeal.Mid

open Cert.SsdIdeal Cert.SsdIdeal.Gen Idealize.ShloMosaic Idealize.ShloMosaic.TcCoe Idealize.SL.Sem
open Cert.SsdStep Cert.SsdStep.Seq

/-- A token as a row of 128, and a head as a lane of 128. -/
abbrev up (l : Fin 8) : Fin 128 := ⟨l.val, by omega⟩
abbrev lane (h : Fin 16) : Fin 128 := ⟨h.val, by omega⟩

/-- The row numbers, as the body makes them. -/
abbrev I0 : IVec S128x128 32 := iota .tc S128x128 32 [0] iota_S128x128_d0_w32
abbrev J0 : IVec S128x1024 32 := iota .tc S128x1024 32 [0] iota_S128x1024_d0_w32

/-- A sum over the rows whose terms vanish past the eighth. -/
theorem sum_rows (f : Fin 128 → EReal) (h : ∀ s : Fin 128, 8 ≤ s.val → f s = 0) : ∑ s, f s = ∑ s : Fin 8, f (up s) := by
  refine (Fin.sum_univ_add (a := 8) (b := 120) f).trans ?_
  rw [Finset.sum_eq_zero (s := (Finset.univ : Finset (Fin 120)))
    (fun s _ => h (Fin.natAdd 8 s) (by simp)), add_zero]
  rfl

/-- The word of a comparison, as a number. -/
theorem bit_val (p : Prop) [Decidable p] (b : BitVec 1) (h : b = 1#1 ↔ p) :
    (FloatOps.sitofp (F := Ideal) .f32 (BitVec.setWidth 32 b) : EReal) = if p then 1 else 0 := by
  show (Scalar.sitofp (F := Ideal) .f32 (BitVec.setWidth 32 b) : EReal) = _
  rw [Ideal.scalar_sitofp_def]
  by_cases hp : p
  · rw [h.2 hp, if_pos hp]; simp
  · have hb : ∀ b : BitVec 1, ¬b = 1#1 → b = 0#1 := by decide
    rw [hb b (mt h.1 hp), if_neg hp]; simp

/-- The lower triangle, -/
theorem tri_val (l s : Fin 128) :
    (FloatOps.sitofp (F := Ideal) .f32 (BitVec.setWidth 32 (IntOp.cmpi .sge (BitVec.ofNat 32 l.val) (BitVec.ofNat 32 s.val))) : EReal)
      = if s.val ≤ l.val then 1 else 0 :=
  bit_val _ _ (by word_cmp)

/-- and the heads' selection: the quotient of a column by 64, whose rounding correction never applies. -/
theorem sel_val (l : Fin 128) (j : Fin 1024) :
    (k0_pay31 (F := Ideal) J0 k0_pay28 k0_pay29 k0_pay30 (ix2 l j) : EReal) = if l.val = j.val / 64 then 1 else 0 := by
  have hq : ∀ j : Fin 1024, (Idealize.ShloMosaic.select k0_pay29 k0_pay30 k0_pay28 (ix2 0 j) : BitVec 32) = BitVec.ofNat 32 (j.val / 64) := by
    decide +kernel
  have e : (k0_pay31 (F := Ideal) J0 k0_pay28 k0_pay29 k0_pay30 (ix2 l j) : EReal)
      = FloatOps.sitofp (F := Ideal) .f32 (BitVec.setWidth 32 (IntOp.cmpi .eq (BitVec.ofNat 32 l.val)
          (Idealize.ShloMosaic.select k0_pay29 k0_pay30 k0_pay28 (ix2 0 j)))) := by
    pointwise [k0_pay31, k0_pay30, k0_pay29, k0_pay28]
  rw [e, hq]
  exact bit_val _ _ (by word_cmp)

/-- A product with the selection is the entry at the column's head. -/
theorem sum_sel (f : Fin 128 → EReal) (j : Fin 1024) :
    ∑ x : Fin 128, f x * (if x.val = j.val / 64 then (1 : EReal) else 0) = f (lane (head j)) := by
  rw [Finset.sum_eq_single (lane (head j))]
  · rw [if_pos rfl, mul_one]
  · intro b _ hb
    rw [if_neg fun h => hb (Fin.ext h), mul_zero]
  · intro h; exact absurd (Finset.mem_univ _) h

/-- The values the pairs of heads share, named as the body's. -/
structure Shared (q : Seq) (X : Vec Ideal S128x1024 .f32) (B0 B1 C0 C1 : Vec Ideal S128x128 .bf16)
    (D A AT DT : Vec Ideal S128x128 .f32) (E W : Vec Ideal S128x1024 .f32) (L : Vec Ideal S1x128 .f32)
    (G0 G1 : Vec Ideal S128x128 .f32) : Prop where
  x : ∀ l j, (X (ix2 (up l) j) : EReal) = q.x l j
  b0 : ∀ l n, (B0 (ix2 (up l) n) : EReal) = q.B l 0 n
  b1 : ∀ l n, (B1 (ix2 (up l) n) : EReal) = q.B l 1 n
  c0 : ∀ l n, (C0 (ix2 (up l) n) : EReal) = q.C l 0 n
  c1 : ∀ l n, (C1 (ix2 (up l) n) : EReal) = q.C l 1 n
  d : ∀ l h, (D (ix2 (up l) (lane h)) : EReal) = q.d l h
  d0 : ∀ s h : Fin 128, 8 ≤ s.val → (D (ix2 s h) : EReal) = 0
  a : ∀ l h, (A (ix2 (up l) (lane h)) : EReal) = q.ac l h
  at' : ∀ l h, (AT (ix2 (lane h) (up l)) : EReal) = q.ac l h
  dt : ∀ l h, (DT (ix2 (lane h) (up l)) : EReal) = q.d l h
  dt0 : ∀ s h : Fin 128, 8 ≤ s.val → (DT (ix2 h s) : EReal) = 0
  e : ∀ l j, (E (ix2 (up l) j) : EReal) = Ideal.exp (q.ac l (head j))
  w : ∀ l j, (W (ix2 (up l) j) : EReal) = Ideal.exp (q.ac 7 (head j) - q.ac l (head j)) * q.d l (head j)
  w0 : ∀ (s : Fin 128) (j : Fin 1024), 8 ≤ s.val → (W (ix2 s j) : EReal) = 0
  last : ∀ h, (L (ix2 0 (lane h)) : EReal) = Ideal.exp (q.ac 7 h)
  g0 : ∀ l s, (G0 (ix2 (up l) (up s)) : EReal) = ∑ n : Fin 128, q.C l 0 n * q.B s 0 n
  g1 : ∀ l s, (G1 (ix2 (up l) (up s)) : EReal) = ∑ n : Fin 128, q.C l 1 n * q.B s 1 n

section conv

variable {q : Seq} {t0 t1 t2 t3 : Vec Ideal S128x1536 .f32} {w0 w1 w2 w3 b : Vec Ideal S1x1536 .f32}

/-- The convolution's four shifted reads and its weights, at the eight tokens. -/
structure Taps (q : Seq) (t0 t1 t2 t3 : Vec Ideal S128x1536 .f32) (w0 w1 w2 w3 b : Vec Ideal S1x1536 .f32) : Prop where
  t0 : ∀ l j, (t0 (ix2 (up l) j) : EReal) = q.line ⟨l.val, by omega⟩ j
  t1 : ∀ l j, (t1 (ix2 (up l) j) : EReal) = q.line ⟨1 + l.val, by omega⟩ j
  t2 : ∀ l j, (t2 (ix2 (up l) j) : EReal) = q.line ⟨2 + l.val, by omega⟩ j
  t3 : ∀ l j, (t3 (ix2 (up l) j) : EReal) = q.line ⟨3 + l.val, by omega⟩ j
  w0 : ∀ j, (w0 (ix2 0 j) : EReal) = q.w 0 j
  w1 : ∀ j, (w1 (ix2 0 j) : EReal) = q.w 1 j
  w2 : ∀ j, (w2 (ix2 0 j) : EReal) = q.w 2 j
  w3 : ∀ j, (w3 (ix2 0 j) : EReal) = q.w 3 j
  b : ∀ j, (b (ix2 0 j) : EReal) = q.b j

/-- The convolved and gated rows. The body adds the newest token's tap first. -/
theorem act_apply (T : Taps q t0 t1 t2 t3 w0 w1 w2 w3 b) (l : Fin 8) (j : Fin 1536) :
    (k0_pay11 (k0_pay9 t3 w3 t0 w0) t1 (k0_pay10 w1) t2 w2 b (ix2 (up l) j) : EReal) = q.act l j := by
  have e : (t3 (ix2 (up l) j) * w3 (ix2 0 j) + t0 (ix2 (up l) j) * w0 (ix2 0 j) + t1 (ix2 (up l) j) * w1 (ix2 0 j)
      + t2 (ix2 (up l) j) * w2 (ix2 0 j) + b (ix2 0 j) : EReal) = q.conv l j := by
    rw [T.t0, T.t1, T.t2, T.t3, T.w0, T.w1, T.w2, T.w3, T.b]
    simp only [conv, tap]
    rw [show (⟨(0 : Fin 4).val + l.val, by omega⟩ : Fin 11) = ⟨l.val, by omega⟩ from Fin.ext (Nat.zero_add _)]
    rw [add_assoc (_ * _) (_ * _) (q.line _ j * q.w 1 j), add_assoc (_ * _) (_ + _) (q.line _ j * q.w 2 j), add_comm (q.line _ j * q.w 3 j)]
    rfl
  pointwise [k0_pay11, k0_pay9, k0_pay10]
  exact congrArg₂ (fun u v : EReal => u * Ideal.logistic v) e e

theorem x_apply (T : Taps q t0 t1 t2 t3 w0 w1 w2 w3 b) (l : Fin 8) (j : Fin 1024) :
    (k0_pay12 (k0_pay9 t3 w3 t0 w0) t1 (k0_pay10 w1) t2 w2 b (ix2 (up l) j) : EReal) = q.x l j := by
  refine Eq.trans ?_ (act_apply T l ⟨j.val, by omega⟩)
  generalize hA : k0_pay11 (F := Ideal) (k0_pay9 t3 w3 t0 w0) t1 (k0_pay10 w1) t2 w2 b = A
  pointwise [k0_pay12, hA]

theorem b0_apply (T : Taps q t0 t1 t2 t3 w0 w1 w2 w3 b) (l : Fin 8) (n : Fin 128) :
    (k0_pay13 (k0_pay9 t3 w3 t0 w0) t1 (k0_pay10 w1) t2 w2 b (ix2 (up l) n) : EReal) = q.B l 0 n := by
  refine Eq.trans ?_ (act_apply T l ⟨1024 + (0 : Fin 2).val * 128 + n.val, by simp; omega⟩)
  generalize hA : k0_pay11 (F := Ideal) (k0_pay9 t3 w3 t0 w0) t1 (k0_pay10 w1) t2 w2 b = A
  pointwise [k0_pay13, hA]

theorem b1_apply (T : Taps q t0 t1 t2 t3 w0 w1 w2 w3 b) (l : Fin 8) (n : Fin 128) :
    (k0_pay14 (k0_pay9 t3 w3 t0 w0) t1 (k0_pay10 w1) t2 w2 b (ix2 (up l) n) : EReal) = q.B l 1 n := by
  refine Eq.trans ?_ (act_apply T l ⟨1024 + (1 : Fin 2).val * 128 + n.val, by simp; omega⟩)
  generalize hA : k0_pay11 (F := Ideal) (k0_pay9 t3 w3 t0 w0) t1 (k0_pay10 w1) t2 w2 b = A
  pointwise [k0_pay14, hA]

theorem c0_apply (T : Taps q t0 t1 t2 t3 w0 w1 w2 w3 b) (l : Fin 8) (n : Fin 128) :
    (k0_pay15 (k0_pay9 t3 w3 t0 w0) t1 (k0_pay10 w1) t2 w2 b (ix2 (up l) n) : EReal) = q.C l 0 n := by
  refine Eq.trans ?_ (act_apply T l ⟨1280 + (0 : Fin 2).val * 128 + n.val, by simp; omega⟩)
  generalize hA : k0_pay11 (F := Ideal) (k0_pay9 t3 w3 t0 w0) t1 (k0_pay10 w1) t2 w2 b = A
  pointwise [k0_pay15, hA]

theorem c1_apply (T : Taps q t0 t1 t2 t3 w0 w1 w2 w3 b) (l : Fin 8) (n : Fin 128) :
    (k0_pay16 (k0_pay9 t3 w3 t0 w0) t1 (k0_pay10 w1) t2 w2 b (ix2 (up l) n) : EReal) = q.C l 1 n := by
  refine Eq.trans ?_ (act_apply T l ⟨1280 + (1 : Fin 2).val * 128 + n.val, by simp; omega⟩)
  generalize hA : k0_pay11 (F := Ideal) (k0_pay9 t3 w3 t0 w0) t1 (k0_pay10 w1) t2 w2 b = A
  pointwise [k0_pay16, hA]

end conv

section steps

variable {q : Seq} {x1 : Vec Ideal S1x8x128 .f32} {x5 x6 : Vec Ideal S1x128 .f32}

/-- The time steps, their bias and the heads' rates, at the first sixteen lanes. -/
structure Steps (q : Seq) (x1 : Vec Ideal S1x8x128 .f32) (x5 x6 : Vec Ideal S1x128 .f32) : Prop where
  dt : ∀ l h, (x1 (ix3 0 l (lane h)) : EReal) = q.dt l h
  bias : ∀ h, (x5 (ix2 0 (lane h)) : EReal) = q.bias h
  alog : ∀ h, (x6 (ix2 0 (lane h)) : EReal) = q.alog h

theorem d_read (x1 : Vec Ideal S1x8x128 .f32) (x5 : Vec Ideal S1x128 .f32) (l h : Fin 128) :
    (k0_pay23 (F := Ideal) I0 (k0_pay21 x1 x5) (k0_pay22 x1 x5) (ix2 l h) : EReal)
      = if hl : l.val < 8 then softplus (x1 (ix3 0 ⟨l.val, hl⟩ h) + x5 (ix2 0 h)) else 0 := by
  pointwise [k0_pay23, k0_pay22, k0_pay21, k0_pay20]
  by_cases hl : l.val < 8
  · simp only [dif_pos hl]
    have : IntOp.cmpi .slt (BitVec.ofNat 32 l.val) 8#32 = 1#1 := by word_cmp
    rw [this]
    refine (if_pos rfl).trans ?_
    rw [zero_sub]
    rfl
  · have : IntOp.cmpi .slt (BitVec.ofNat 32 l.val) 8#32 = 0#1 := by word_cmp
    simp only [dif_neg hl]
    rw [this]
    exact if_neg (by decide)

theorem d_apply (S : Steps q x1 x5 x6) (l : Fin 8) (h : Fin 16) :
    (k0_pay23 (F := Ideal) I0 (k0_pay21 x1 x5) (k0_pay22 x1 x5) (ix2 (up l) (lane h)) : EReal) = q.d l h := by
  rw [d_read, dif_pos l.isLt]
  exact congrArg₂ (fun u v : EReal => softplus (u + v)) (S.dt l h) (S.bias h)

theorem d_zero (s h : Fin 128) (hs : 8 ≤ s.val) :
    (k0_pay23 (F := Ideal) I0 (k0_pay21 x1 x5) (k0_pay22 x1 x5) (ix2 s h) : EReal) = 0 := by
  rw [d_read, dif_neg (by omega)]

/-- The running sum, by the lower triangle: at any row it is that of the tokens up to it. -/
theorem a_read (S : Steps q x1 x5 x6) (l : Fin 128) (h : Fin 16) :
    (k0_pay24 (F := Ideal) I0 k0_pay17 (k0_pay21 x1 x5) (k0_pay22 x1 x5) x6 (ix2 l (lane h)) : EReal)
      = ∑ s : Fin 8, if s.val ≤ l.val then q.d s h * -(Ideal.exp (q.alog h)) else 0 := by
  have hz := fun s => d_zero (x1 := x1) (x5 := x5) s (lane h)
  have hd := fun s => d_apply S s h
  generalize hD : k0_pay23 (F := Ideal) I0 (k0_pay21 x1 x5) (k0_pay22 x1 x5) = D at hz hd
  have e : (k0_pay24 (F := Ideal) I0 k0_pay17 (k0_pay21 x1 x5) (k0_pay22 x1 x5) x6 (ix2 l (lane h)) : EReal)
      = ∑ x : Fin 128, FloatOps.sitofp (F := Ideal) .f32 (BitVec.setWidth 32 (IntOp.cmpi .sge (BitVec.ofNat 32 l.val) (BitVec.ofNat 32 x.val)))
          * (D (ix2 x (lane h)) * (0 - Ideal.exp (x6 (ix2 0 (lane h))))) := by
    pointwise [k0_pay24, k0_pay17, hD]
  rw [e, sum_rows]
  · refine Finset.sum_congr rfl fun s _ => ?_
    rw [tri_val, hd, S.alog, zero_sub]
    exact (ite_mul _ _ _ _).trans (by rw [one_mul, zero_mul])
  · intro s hs
    rw [hz s hs, zero_mul, mul_zero]

theorem a_apply (S : Steps q x1 x5 x6) (l : Fin 8) (h : Fin 16) :
    (k0_pay24 (F := Ideal) I0 k0_pay17 (k0_pay21 x1 x5) (k0_pay22 x1 x5) x6 (ix2 (up l) (lane h)) : EReal) = q.ac l h :=
  a_read S (up l) h

/-- The last row holds the sum of all eight. -/
theorem last_apply (S : Steps q x1 x5 x6) (h : Fin 16) :
    (k0_pay27 (F := Ideal) I0 k0_pay17 (k0_pay21 x1 x5) (k0_pay22 x1 x5) x6 (ix2 0 (lane h)) : EReal) = q.ac 7 h := by
  refine Eq.trans ?_ ((a_read S 127 h).trans ?_)
  · generalize hA : k0_pay24 (F := Ideal) I0 k0_pay17 (k0_pay21 x1 x5) (k0_pay22 x1 x5) x6 = A
    pointwise [k0_pay27, hA]
  · refine Finset.sum_congr rfl fun s _ => ?_
    have := s.isLt
    rw [if_pos (by show s.val ≤ 127; omega), if_pos (by show s.val ≤ 7; omega)]

end steps

section factors

variable (D A : Vec Ideal S128x128 .f32) (L : Vec Ideal S1x128 .f32)

/-- The per-column factors read at the column's head. -/
theorem e_read (s : Fin 128) (j : Fin 1024) :
    (k0_pay32 (F := Ideal) A J0 k0_pay28 k0_pay29 k0_pay30 (ix2 s j) : EReal) = Ideal.exp (A (ix2 s (lane (head j)))) := by
  have hs := fun x => sel_val x j
  generalize hK : k0_pay31 (F := Ideal) J0 k0_pay28 k0_pay29 k0_pay30 = K at hs
  refine Eq.trans ?_ (sum_sel (fun x => Ideal.exp (A (ix2 s x))) j)
  simp only [← hs]
  pointwise [k0_pay32, hK]

theorem w_read (s : Fin 128) (j : Fin 1024) :
    (k0_pay33 (F := Ideal) D A L J0 k0_pay28 k0_pay29 k0_pay30 (ix2 s j) : EReal)
      = Ideal.exp (L (ix2 0 (lane (head j))) - A (ix2 s (lane (head j)))) * D (ix2 s (lane (head j))) := by
  have hs := fun x => sel_val x j
  generalize hK : k0_pay31 (F := Ideal) J0 k0_pay28 k0_pay29 k0_pay30 = K at hs
  refine Eq.trans ?_ (sum_sel (fun x => Ideal.exp (L (ix2 0 x) - A (ix2 s x)) * D (ix2 s x)) j)
  simp only [← hs]
  pointwise [k0_pay33, hK]

end factors

/-- All the shared values. -/
theorem shared {q : Seq} {t0 t1 t2 t3 : Vec Ideal S128x1536 .f32} {w0 w1 w2 w3 b : Vec Ideal S1x1536 .f32}
    {x1 : Vec Ideal S1x8x128 .f32} {x5 x6 : Vec Ideal S1x128 .f32}
    (T : Taps q t0 t1 t2 t3 w0 w1 w2 w3 b) (S : Steps q x1 x5 x6) :
    Shared q (k0_pay12 (k0_pay9 t3 w3 t0 w0) t1 (k0_pay10 w1) t2 w2 b)
      (k0_pay13 (k0_pay9 t3 w3 t0 w0) t1 (k0_pay10 w1) t2 w2 b) (k0_pay14 (k0_pay9 t3 w3 t0 w0) t1 (k0_pay10 w1) t2 w2 b)
      (k0_pay15 (k0_pay9 t3 w3 t0 w0) t1 (k0_pay10 w1) t2 w2 b) (k0_pay16 (k0_pay9 t3 w3 t0 w0) t1 (k0_pay10 w1) t2 w2 b)
      (k0_pay23 I0 (k0_pay21 x1 x5) (k0_pay22 x1 x5)) (k0_pay24 I0 k0_pay17 (k0_pay21 x1 x5) (k0_pay22 x1 x5) x6)
      (k0_pay25 I0 k0_pay17 (k0_pay21 x1 x5) (k0_pay22 x1 x5) x6) (k0_pay26 I0 (k0_pay21 x1 x5) (k0_pay22 x1 x5))
      (k0_pay32 (k0_pay24 I0 k0_pay17 (k0_pay21 x1 x5) (k0_pay22 x1 x5) x6) J0 k0_pay28 k0_pay29 k0_pay30)
      (k0_pay33 (k0_pay23 I0 (k0_pay21 x1 x5) (k0_pay22 x1 x5)) (k0_pay24 I0 k0_pay17 (k0_pay21 x1 x5) (k0_pay22 x1 x5) x6)
        (k0_pay27 I0 k0_pay17 (k0_pay21 x1 x5) (k0_pay22 x1 x5) x6) J0 k0_pay28 k0_pay29 k0_pay30)
      (k0_pay34 (k0_pay27 I0 k0_pay17 (k0_pay21 x1 x5) (k0_pay22 x1 x5) x6))
      (k0_pay35 (k0_pay13 (k0_pay9 t3 w3 t0 w0) t1 (k0_pay10 w1) t2 w2 b) (k0_pay15 (k0_pay9 t3 w3 t0 w0) t1 (k0_pay10 w1) t2 w2 b))
      (k0_pay36 (k0_pay14 (k0_pay9 t3 w3 t0 w0) t1 (k0_pay10 w1) t2 w2 b) (k0_pay16 (k0_pay9 t3 w3 t0 w0) t1 (k0_pay10 w1) t2 w2 b)) where
  x := x_apply T
  b0 := b0_apply T
  b1 := b1_apply T
  c0 := c0_apply T
  c1 := c1_apply T
  d := d_apply S
  d0 := d_zero
  a := a_apply S
  at' := by
    intro l h
    refine Eq.trans ?_ (a_apply S l h)
    generalize hA : k0_pay24 (F := Ideal) I0 k0_pay17 (k0_pay21 x1 x5) (k0_pay22 x1 x5) x6 = A
    pointwise [k0_pay25, hA]
  dt := by
    intro l h
    refine Eq.trans ?_ (d_apply S l h)
    generalize hD : k0_pay23 (F := Ideal) I0 (k0_pay21 x1 x5) (k0_pay22 x1 x5) = D
    pointwise [k0_pay26, hD]
  dt0 := by
    intro s h hs
    refine Eq.trans ?_ (d_zero (x1 := x1) (x5 := x5) s h hs)
    generalize hD : k0_pay23 (F := Ideal) I0 (k0_pay21 x1 x5) (k0_pay22 x1 x5) = D
    pointwise [k0_pay26, hD]
  e := by
    intro l j
    rw [e_read, a_apply S]
  w := by
    intro l j
    rw [w_read, a_apply S, d_apply S, last_apply S]
  w0 := by
    intro s j hs
    rw [w_read, d_zero s _ hs, mul_zero]
  last := by
    intro h
    rw [← last_apply S]
    generalize k0_pay27 (F := Ideal) I0 k0_pay17 (k0_pay21 x1 x5) (k0_pay22 x1 x5) x6 = L
    pointwise [k0_pay34]
  g0 := by
    intro l s
    simp only [← b0_apply T, ← c0_apply T]
    generalize k0_pay13 (F := Ideal) (k0_pay9 t3 w3 t0 w0) t1 (k0_pay10 w1) t2 w2 b = B
    generalize k0_pay15 (F := Ideal) (k0_pay9 t3 w3 t0 w0) t1 (k0_pay10 w1) t2 w2 b = C
    pointwise [k0_pay35]
  g1 := by
    intro l s
    simp only [← b1_apply T, ← c1_apply T]
    generalize k0_pay14 (F := Ideal) (k0_pay9 t3 w3 t0 w0) t1 (k0_pay10 w1) t2 w2 b = B
    generalize k0_pay16 (F := Ideal) (k0_pay9 t3 w3 t0 w0) t1 (k0_pay10 w1) t2 w2 b = C
    pointwise [k0_pay36]

end Cert.SsdIdeal.Mid
-- ==== Proof.SsdPairs.lean ====
/-
  The body's eight pairs of heads: each pair's 128 columns of the state carried on and of the output before the gate. The
  output sums a masked product for either head of the pair, a column belonging to one of them.
-/
module

public import proofs.«01_k».proof.Proof.SsdMid

@[expose] public section

set_option maxRecDepth 16384

noncomputable section

namespace Cert.SsdIdeal.Pairs

open Cert.SsdIdeal Cert.SsdIdeal.Gen Idealize.ShloMosaic Idealize.ShloMosaic.TcCoe Idealize.SL.Sem
open Cert.SsdStep Cert.SsdStep.Seq Cert.SsdIdeal.Mid

/-- Column `r` of pair `p`. -/
abbrev col (p : Fin 8) (r : Fin 128) : Fin 1024 := ⟨p.val * 128 + r.val, by omega⟩

/-- A pair's two carried states, one above the other. -/
def Carried (q : Seq) (p : Fin 8) (V : Vec Ideal S1x128x128 .f32) : Prop :=
  ∀ r n, (V (ix3 0 r n) : EReal) = q.h (head (col p r)) ⟨(col p r).val % 64, by omega⟩ n

variable {q : Seq} {X : Vec Ideal S128x1024 .f32} {B0 B1 C0 C1 : Vec Ideal S128x128 .bf16}
  {D A AT DT : Vec Ideal S128x128 .f32} {E W : Vec Ideal S128x1024 .f32} {L : Vec Ideal S1x128 .f32}
  {G0 G1 : Vec Ideal S128x128 .f32}

/-- A pair's weights of the tokens themselves. -/
def Skip (q : Seq) (p : Fin 8) (K : Vec Ideal S1x128 .f32) : Prop := ∀ r, (K (ix2 0 r) : EReal) = q.skip (head (col p r))

theorem slt_one {r : Fin 128} (h : r.val < 64) : IntOp.cmpi .slt (BitVec.ofNat 32 r.val) 64#32 = 1#1 := by word_cmp
theorem slt_zero {r : Fin 128} (h : ¬r.val < 64) : IntOp.cmpi .slt (BitVec.ofNat 32 r.val) 64#32 = 0#1 := by word_cmp

/-- The state carried on, from its parts. -/
theorem next_fold (S : Shared q X B0 B1 C0 C1 D A AT DT E W L G0 G1) (p : Fin 8) (r n : Fin 128) {B : Vec Ideal S128x128 .bf16}
    (hB : ∀ l n, (B (ix2 (up l) n) : EReal) = q.B l ⟨p.val / 4, by omega⟩ n) {V : Vec Ideal S1x128x128 .f32} (hV : Carried q p V)
    {a b : Fin 128} {j : Fin 1024} (ha : a.val = 2 * p.val) (hb : b.val = 2 * p.val + 1) (hj : j.val = p.val * 128 + r.val) :
    (V (ix3 0 r n) * Scalar.select (IntOp.cmpi .slt (BitVec.ofNat 32 r.val) 64#32) (L (ix2 0 a) : EReal) (L (ix2 0 b) : EReal)
      + ∑ x : Fin 128, X (ix2 x j) * W (ix2 x j) * B (ix2 x n) : EReal) = q.next (col p r) n := by
  have hp := p.isLt
  have hr := r.isLt
  obtain rfl : j = col p r := Fin.ext hj
  have hl : (Scalar.select (IntOp.cmpi .slt (BitVec.ofNat 32 r.val) 64#32) (L (ix2 0 a) : EReal) (L (ix2 0 b) : EReal) : EReal)
      = Ideal.exp (q.ac 7 (head (col p r))) := by
    by_cases h : r.val < 64
    · rw [slt_one h]
      refine (if_pos rfl).trans ?_
      rw [← S.last, show a = lane (head (col p r)) from Fin.ext (by simp only [ha]; omega)]
    · rw [slt_zero h]
      refine (if_neg (by decide)).trans ?_
      rw [← S.last, show b = lane (head (col p r)) from Fin.ext (by simp only [hb]; omega)]
  rw [hl, hV, sum_rows _ (fun s hs => by rw [S.w0 s _ hs, mul_zero, zero_mul]), next]
  refine congrArg _ (Finset.sum_congr rfl fun s _ => ?_)
  rw [S.x, S.w, hB, show (⟨p.val / 4, by omega⟩ : Fin 2) = ⟨(col p r).val / 512, by omega⟩ from Fin.ext (by dsimp only; omega)]

theorem h0 (S : Shared q X B0 B1 C0 C1 D A AT DT E W L G0 G1) {V : Vec Ideal S1x128x128 .f32} (hV : Carried q 0 V) (r n : Fin 128) :
    (k0_pay43 B0 k0_pay19 W L (k0_pay37 X) V (ix3 0 r n) : EReal) = q.next (col 0 r) n := by
  pointwise [k0_pay43, k0_pay42, k0_pay37, k0_pay19]
  exact next_fold S 0 r n S.b0 hV rfl rfl (by simp)

theorem h1 (S : Shared q X B0 B1 C0 C1 D A AT DT E W L G0 G1) {V : Vec Ideal S1x128x128 .f32} (hV : Carried q 1 V) (r n : Fin 128) :
    (k0_pay53 (k0_pay52 B0 k0_pay19 W L (k0_pay45 X) V) (ix3 0 r n) : EReal) = q.next (col 1 r) n := by
  pointwise [k0_pay53, k0_pay52, k0_pay50, k0_pay45, k0_pay19]
  exact next_fold S 1 r n S.b0 hV rfl rfl rfl

theorem h2 (S : Shared q X B0 B1 C0 C1 D A AT DT E W L G0 G1) {V : Vec Ideal S1x128x128 .f32} (hV : Carried q 2 V) (r n : Fin 128) :
    (k0_pay60 B0 k0_pay19 W L (k0_pay55 X) V (ix3 0 r n) : EReal) = q.next (col 2 r) n := by
  pointwise [k0_pay60, k0_pay59, k0_pay55, k0_pay19]
  exact next_fold S 2 r n S.b0 hV rfl rfl rfl

theorem h3 (S : Shared q X B0 B1 C0 C1 D A AT DT E W L G0 G1) {V : Vec Ideal S1x128x128 .f32} (hV : Carried q 3 V) (r n : Fin 128) :
    (k0_pay70 (k0_pay69 B0 k0_pay19 W L (k0_pay62 X) V) (ix3 0 r n) : EReal) = q.next (col 3 r) n := by
  pointwise [k0_pay70, k0_pay69, k0_pay67, k0_pay62, k0_pay19]
  exact next_fold S 3 r n S.b0 hV rfl rfl rfl

theorem h4 (S : Shared q X B0 B1 C0 C1 D A AT DT E W L G0 G1) {V : Vec Ideal S1x128x128 .f32} (hV : Carried q 4 V) (r n : Fin 128) :
    (k0_pay76 B1 k0_pay19 W L (k0_pay72 X) V (ix3 0 r n) : EReal) = q.next (col 4 r) n := by
  pointwise [k0_pay76, k0_pay75, k0_pay72, k0_pay19]
  exact next_fold S 4 r n S.b1 hV rfl rfl rfl

theorem h5 (S : Shared q X B0 B1 C0 C1 D A AT DT E W L G0 G1) {V : Vec Ideal S1x128x128 .f32} (hV : Carried q 5 V) (r n : Fin 128) :
    (k0_pay86 B1 k0_pay19 W L (k0_pay78 X) V (ix3 0 r n) : EReal) = q.next (col 5 r) n := by
  pointwise [k0_pay86, k0_pay84, k0_pay78, k0_pay19]
  exact next_fold S 5 r n S.b1 hV rfl rfl rfl

theorem h6 (S : Shared q X B0 B1 C0 C1 D A AT DT E W L G0 G1) {V : Vec Ideal S1x128x128 .f32} (hV : Carried q 6 V) (r n : Fin 128) :
    (k0_pay92 B1 k0_pay19 W L (k0_pay88 X) V (ix3 0 r n) : EReal) = q.next (col 6 r) n := by
  pointwise [k0_pay92, k0_pay91, k0_pay88, k0_pay19]
  exact next_fold S 6 r n S.b1 hV rfl rfl rfl

theorem h7 (S : Shared q X B0 B1 C0 C1 D A AT DT E W L G0 G1) {V : Vec Ideal S1x128x128 .f32} (hV : Carried q 7 V) (r n : Fin 128) :
    (k0_pay99 B1 k0_pay19 W L (k0_pay94 X) V (ix3 0 r n) : EReal) = q.next (col 7 r) n := by
  pointwise [k0_pay99, k0_pay98, k0_pay94, k0_pay19]
  exact next_fold S 7 r n S.b1 hV rfl rfl rfl

/-- The output before the gate, from its parts. -/
theorem y_fold (S : Shared q X B0 B1 C0 C1 D A AT DT E W L G0 G1) (p : Fin 8) (l : Fin 8) (r : Fin 128) {C G : Vec Ideal S128x128 .f32}
    (hC : ∀ l n, (C (ix2 (up l) n) : EReal) = q.C l ⟨p.val / 4, by omega⟩ n)
    (hG : ∀ l s, (G (ix2 (up l) (up s)) : EReal) = ∑ n : Fin 128, q.C l ⟨p.val / 4, by omega⟩ n * q.B s ⟨p.val / 4, by omega⟩ n)
    {V : Vec Ideal S1x128x128 .f32} (hV : Carried q p V) {K : Vec Ideal S1x128 .f32} (hK : Skip q p K)
    {a b : Fin 128} {j : Fin 1024} (ha : a.val = 2 * p.val) (hb : b.val = 2 * p.val + 1) (hj : j.val = p.val * 128 + r.val) :
    ((∑ x : Fin 128, Scalar.select (IntOp.cmpi .slt (BitVec.ofNat 32 r.val) 64#32)
          (G (ix2 (up l) x) * Ideal.exp (Scalar.select (IntOp.cmpi .sge (BitVec.ofNat 32 l.val) (BitVec.ofNat 32 x.val))
              (A (ix2 (up l) a) - AT (ix2 a x)) (Ideal.ofBits .f32 0xFF800000#32)) * DT (ix2 a x) * X (ix2 x j) : EReal) 0)
        + (∑ x : Fin 128, Scalar.select (IntOp.cmpi .slt (BitVec.ofNat 32 r.val) 64#32) (0 : EReal)
          (G (ix2 (up l) x) * Ideal.exp (Scalar.select (IntOp.cmpi .sge (BitVec.ofNat 32 l.val) (BitVec.ofNat 32 x.val))
              (A (ix2 (up l) b) - AT (ix2 b x)) (Ideal.ofBits .f32 0xFF800000#32)) * DT (ix2 b x) * X (ix2 x j)))
        + (∑ x : Fin 128, C (ix2 (up l) x) * V (ix3 0 r x)) * E (ix2 (up l) j)
      + K (ix2 0 r) * X (ix2 (up l) j) : EReal) = q.y l (col p r) := by
  have hp := p.isLt
  have hr := r.isLt
  obtain rfl : j = col p r := Fin.ext hj
  have term : ∀ (c : Fin 128) (hc : c = lane (head (col p r))) (s : Fin 8),
      (G (ix2 (up l) (up s)) * Ideal.exp (Scalar.select (IntOp.cmpi .sge (BitVec.ofNat 32 l.val) (BitVec.ofNat 32 (up s).val))
          (A (ix2 (up l) c) - AT (ix2 c (up s))) (Ideal.ofBits .f32 0xFF800000#32)) * DT (ix2 c (up s)) * X (ix2 (up s) (col p r)) : EReal)
        = q.mix l s (head (col p r)) * q.x s (col p r) := by
    intro c hc s
    subst hc
    rw [hG, S.a, S.at', S.dt, S.x, mix]
    have hs : (Scalar.select (IntOp.cmpi .sge (BitVec.ofNat 32 l.val) (BitVec.ofNat 32 (up s).val))
          (q.ac l (head (col p r)) - q.ac s (head (col p r))) (Ideal.ofBits .f32 0xFF800000#32) : EReal)
        = if s.val ≤ l.val then q.ac l (head (col p r)) - q.ac s (head (col p r)) else Ideal.ofBits .f32 0xFF800000#32 := by
      by_cases h : s.val ≤ l.val
      · rw [if_pos h]
        have : IntOp.cmpi .sge (BitVec.ofNat 32 l.val) (BitVec.ofNat 32 (up s).val) = 1#1 := by word_cmp
        rw [this]
        exact if_pos rfl
      · rw [if_neg h]
        have : IntOp.cmpi .sge (BitVec.ofNat 32 l.val) (BitVec.ofNat 32 (up s).val) = 0#1 := by word_cmp
        rw [this]
        exact if_neg (by decide)
    rw [hs, show (⟨(head (col p r)).val / 8, by omega⟩ : Fin 2) = ⟨p.val / 4, by omega⟩ from Fin.ext (by dsimp only; omega)]
  have zero : ∀ (c s : Fin 128) (f : EReal), 8 ≤ s.val → f * DT (ix2 c s) * X (ix2 s (col p r)) = 0 := by
    intro c s f hs
    rw [S.dt0 s c hs, mul_zero, zero_mul]
  rw [S.e, S.x, hK, y]
  refine congrArg₂ (· + ·) (congrArg₂ (· + ·) ?_ ?_) rfl
  · by_cases h : r.val < 64
    · have hc : a = lane (head (col p r)) := Fin.ext (by simp only [ha]; omega)
      rw [slt_one h]
      refine Eq.trans (congrArg₂ (· + ·) (Finset.sum_congr rfl fun x _ => if_pos rfl)
        (Finset.sum_eq_zero fun x _ => if_pos rfl)) ?_
      rw [add_zero, sum_rows _ fun s hs => zero a s _ hs]
      exact Finset.sum_congr rfl fun s _ => term a hc s
    · have hc : b = lane (head (col p r)) := Fin.ext (by simp only [hb]; omega)
      rw [slt_zero h]
      refine Eq.trans (congrArg₂ (· + ·) (Finset.sum_eq_zero fun x _ => if_neg (by decide))
        (Finset.sum_congr rfl fun x _ => if_neg (by decide))) ?_
      rw [zero_add, sum_rows _ fun s hs => zero b s _ hs]
      exact Finset.sum_congr rfl fun s _ => term b hc s
  · refine congrArg (· * _) (Finset.sum_congr rfl fun n _ => ?_)
    rw [hC, hV, show (⟨p.val / 4, by omega⟩ : Fin 2) = ⟨(col p r).val / 512, by omega⟩ from Fin.ext (by dsimp only; omega)]

theorem y0 (S : Shared q X B0 B1 C0 C1 D A AT DT E W L G0 G1) (hG : k0_pay35 (F := Ideal) B0 C0 = G0)
    {V : Vec Ideal S1x128x128 .f32} (hV : Carried q 0 V) {K : Vec Ideal S1x128 .f32} (hK : Skip q 0 K) (l : Fin 8) (r : Fin 128) :
    (k0_pay44 C0 E (k0_pay37 X) (k0_pay38 X k0_pay18) (k0_pay39 X B0 C0 k0_pay17 k0_pay18 A AT DT) (k0_pay40 B0 C0 k0_pay17 A AT) (k0_pay41 DT) V K
      (ix2 (up l) r) : EReal) = q.y l (col 0 r) := by
  pointwise [k0_pay44, k0_pay42, k0_pay41, k0_pay40, k0_pay39, k0_pay38, k0_pay37, k0_pay18, k0_pay17, hG]
  exact y_fold S 0 l r S.c0 S.g0 hV hK rfl rfl (by simp)

theorem y1 (S : Shared q X B0 B1 C0 C1 D A AT DT E W L G0 G1) {V : Vec Ideal S1x128x128 .f32} (hV : Carried q 1 V)
    {K : Vec Ideal S1x128 .f32} (hK : Skip q 1 K) (l : Fin 8) (r : Fin 128) :
    (k0_pay54 (k0_pay45 X) (k0_pay49 k0_pay17 A AT DT G0 (k0_pay46 X k0_pay18) (k0_pay47 X k0_pay18) (k0_pay48 A)) (k0_pay51 C0 E V) K
      (ix2 (up l) r) : EReal) = q.y l (col 1 r) := by
  pointwise [k0_pay54, k0_pay51, k0_pay50, k0_pay49, k0_pay48, k0_pay47, k0_pay46, k0_pay45, k0_pay18, k0_pay17]
  exact y_fold S 1 l r S.c0 S.g0 hV hK rfl rfl rfl

theorem y2 (S : Shared q X B0 B1 C0 C1 D A AT DT E W L G0 G1) {V : Vec Ideal S1x128x128 .f32} (hV : Carried q 2 V)
    {K : Vec Ideal S1x128 .f32} (hK : Skip q 2 K) (l : Fin 8) (r : Fin 128) :
    (k0_pay61 C0 E (k0_pay55 X) (k0_pay56 X k0_pay18) (k0_pay57 X k0_pay17 k0_pay18 A AT DT G0) (k0_pay58 k0_pay17 A AT DT G0) V K
      (ix2 (up l) r) : EReal) = q.y l (col 2 r) := by
  pointwise [k0_pay61, k0_pay59, k0_pay58, k0_pay57, k0_pay56, k0_pay55, k0_pay18, k0_pay17]
  exact y_fold S 2 l r S.c0 S.g0 hV hK rfl rfl rfl

theorem y3 (S : Shared q X B0 B1 C0 C1 D A AT DT E W L G0 G1) {V : Vec Ideal S1x128x128 .f32} (hV : Carried q 3 V)
    {K : Vec Ideal S1x128 .f32} (hK : Skip q 3 K) (l : Fin 8) (r : Fin 128) :
    (k0_pay71 (k0_pay62 X) (k0_pay66 k0_pay17 A AT DT G0 (k0_pay63 X k0_pay18) (k0_pay64 X k0_pay18) (k0_pay65 A)) (k0_pay68 C0 E V) K
      (ix2 (up l) r) : EReal) = q.y l (col 3 r) := by
  pointwise [k0_pay71, k0_pay68, k0_pay67, k0_pay66, k0_pay65, k0_pay64, k0_pay63, k0_pay62, k0_pay18, k0_pay17]
  exact y_fold S 3 l r S.c0 S.g0 hV hK rfl rfl rfl

theorem y4 (S : Shared q X B0 B1 C0 C1 D A AT DT E W L G0 G1) {V : Vec Ideal S1x128x128 .f32} (hV : Carried q 4 V)
    {K : Vec Ideal S1x128 .f32} (hK : Skip q 4 K) (l : Fin 8) (r : Fin 128) :
    (k0_pay77 C1 E (k0_pay72 X) (k0_pay73 X k0_pay17 k0_pay18 A AT DT G1) (k0_pay74 X k0_pay17 k0_pay18 A AT DT G1) V K
      (ix2 (up l) r) : EReal) = q.y l (col 4 r) := by
  pointwise [k0_pay77, k0_pay75, k0_pay74, k0_pay73, k0_pay72, k0_pay18, k0_pay17]
  exact y_fold S 4 l r S.c1 S.g1 hV hK rfl rfl rfl

theorem y5 (S : Shared q X B0 B1 C0 C1 D A AT DT E W L G0 G1) {V : Vec Ideal S1x128x128 .f32} (hV : Carried q 5 V)
    {K : Vec Ideal S1x128 .f32} (hK : Skip q 5 K) (l : Fin 8) (r : Fin 128) :
    (k0_pay87 (k0_pay78 X) (k0_pay83 k0_pay17 A AT DT G1 (k0_pay79 X k0_pay18) (k0_pay80 X k0_pay18) (k0_pay81 A) (k0_pay82 AT)) (k0_pay85 C1 E V) K
      (ix2 (up l) r) : EReal) = q.y l (col 5 r) := by
  pointwise [k0_pay87, k0_pay85, k0_pay84, k0_pay83, k0_pay82, k0_pay81, k0_pay80, k0_pay79, k0_pay78, k0_pay18, k0_pay17]
  exact y_fold S 5 l r S.c1 S.g1 hV hK rfl rfl rfl

theorem y6 (S : Shared q X B0 B1 C0 C1 D A AT DT E W L G0 G1) {V : Vec Ideal S1x128x128 .f32} (hV : Carried q 6 V)
    {K : Vec Ideal S1x128 .f32} (hK : Skip q 6 K) (l : Fin 8) (r : Fin 128) :
    (k0_pay93 C1 (k0_pay88 X) (k0_pay89 X k0_pay17 k0_pay18 A AT DT G1) (k0_pay90 E) V K (ix2 (up l) r) : EReal) = q.y l (col 6 r) := by
  pointwise [k0_pay93, k0_pay91, k0_pay90, k0_pay89, k0_pay88, k0_pay18, k0_pay17]
  exact y_fold S 6 l r S.c1 S.g1 hV hK rfl rfl rfl

theorem y7 (S : Shared q X B0 B1 C0 C1 D A AT DT E W L G0 G1) {V : Vec Ideal S1x128x128 .f32} (hV : Carried q 7 V)
    {K : Vec Ideal S1x128 .f32} (hK : Skip q 7 K) (l : Fin 8) (r : Fin 128) :
    (k0_pay101 (k0_pay94 X) (k0_pay100 C1 k0_pay17 A AT DT E G1 (k0_pay95 X k0_pay18) (k0_pay96 X k0_pay18) (k0_pay97 A AT)
      (Scalar.ofBits (F := Ideal) .f32 0xFF800000#32) V) K (ix2 (up l) r) : EReal) = q.y l (col 7 r) := by
  pointwise [k0_pay101, k0_pay100, k0_pay98, k0_pay97, k0_pay96, k0_pay95, k0_pay94, k0_pay18, k0_pay17]
  exact y_fold S 7 l r S.c1 S.g1 hV hK rfl rfl rfl

end Cert.SsdIdeal.Pairs
-- ==== Proof.SsdScratch.lean ====
/-
  What the step's body reads back from its own scratch arrays: the rows of the convolution's line, the eight pairs of the
  state and the eight pairs of the output.
-/
module

public import proofs.«01_k».proof.Proof.SsdPairs
public import Idealize.ShloMosaic.Lib.Pipeline.ReadBack
public import Idealize.ShloMosaic.Lib.Ring
public import Idealize.ShloMosaic.Lib.Pipeline.ValueKit

@[expose] public section

set_option maxRecDepth 16384

noncomputable section

namespace Cert.SsdIdeal.Scratch

open Cert.SsdIdeal Cert.SsdIdeal.Gen Idealize.ShloMosaic Idealize.ShloMosaic.TcCoe Idealize.SL.Sem
open Cert.SsdStep Cert.SsdStep.Seq Cert.SsdIdeal.Mid Cert.SsdIdeal.Pairs

variable {q : Seq}

/-- The convolution's input and the tokens before it, as one sequence's blocks. -/
structure Line (q : Seq) (u : Vec Ideal S1x8x1536 .f32) (past : Vec Ideal S1x3x1536 .f32) : Prop where
  u : ∀ l j, (u (ix3 0 l j) : EReal) = q.u l j
  past : ∀ i j, (past (ix3 0 i j) : EReal) = q.past i j

/-- The line's rows 5 to 15, -/
theorem row {u : Vec Ideal S1x8x1536 .f32} {past : Vec Ideal S1x3x1536 .f32} (H : Line q u past) (i : Fin 11) (j : Fin 1536) :
    (View.canon (Val := Elt Ideal) (e := .f32) [⟨Rect.unit ![16, 0] ![120, 1536] inb_S136x1536_S120x1536_16_0, k0_pay8 (F := Ideal)⟩,
      ⟨Rect.unit ![8, 0] ![8, 1536] inb_S136x1536_S8x1536_8_0, k0_pay7 (F := Ideal) u⟩,
      ⟨Rect.unit ![5, 0] ![3, 1536] inb_S136x1536_S3x1536_5_0, k0_pay4 (F := Ideal) past⟩] (ix2 (⟨5 + i.val, by omega⟩ : Fin 136) j) : EReal)
      = q.line i j := by
  have hi := i.isLt
  have hc : ∃ p ∈ ([⟨Rect.unit ![16, 0] ![120, 1536] inb_S136x1536_S120x1536_16_0, k0_pay8 (F := Ideal)⟩,
      ⟨Rect.unit ![8, 0] ![8, 1536] inb_S136x1536_S8x1536_8_0, k0_pay7 (F := Ideal) u⟩,
      ⟨Rect.unit ![5, 0] ![3, 1536] inb_S136x1536_S3x1536_5_0, k0_pay4 (F := Ideal) past⟩] : List (View.Piece (Elt Ideal) S136x1536 .f32)),
      (ix2 (⟨5 + i.val, by omega⟩ : Fin 136) j) ∈ p.1.set := by
    by_cases h : i.val < 3
    · refine ⟨_, .tail _ (.tail _ (.head _)), ?_⟩
      refine (Rect.mem_set_unit (inb := inb_S136x1536_S3x1536_5_0)).2 fun a => ?_
      fin_cases a
      · show 5 ≤ 5 + i.val ∧ 5 + i.val < 5 + 3; omega
      · show 0 ≤ j.val ∧ j.val < 0 + 1536; omega
    · refine ⟨_, .tail _ (.head _), ?_⟩
      refine (Rect.mem_set_unit (inb := inb_S136x1536_S8x1536_8_0)).2 fun a => ?_
      fin_cases a
      · show 8 ≤ 5 + i.val ∧ 5 + i.val < 8 + 8; omega
      · show 0 ≤ j.val ∧ j.val < 0 + 1536; omega
  canon_tiles x h using hc
  · have h0' : 5 + i.val = 16 + (x 0).val := h0
    omega
  · have h0' : 5 + i.val = 8 + (x 0).val := h0
    have h1' : j.val = (x 1).val := h1
    idx_vars x
    have e : (k0_pay7 u (ix2 x0 x1) : EReal) = u (ix3 0 x0 x1) := by pointwise [k0_pay7]
    rw [e, H.u, line, dif_neg (by show ¬i.val < 3; omega)]
    congr 1
    · exact Fin.ext (by show x0.val = i.val - 3; have : 5 + i.val = 8 + x0.val := h0'; omega)
    · exact Fin.ext h1'.symm
  · have h0' : 5 + i.val = 5 + (x 0).val := h0
    have h1' : j.val = (x 1).val := h1
    idx_vars x
    have e : (k0_pay4 past (ix2 x0 x1) : EReal) = past (ix3 0 x0 x1) := by pointwise [k0_pay4]
    have hx : i.val = x0.val := by have : 5 + i.val = 5 + x0.val := h0'; omega
    rw [e, H.past, line, dif_pos (by show i.val < 3; omega)]
    congr 1
    · exact Fin.ext hx.symm
    · exact Fin.ext h1'.symm

/-- The load of the whole state. -/
abbrev allState : LoadRect S8x128x128 := (Rect.unit ![0, 0, 0] ![8, 128, 128] inb_S8x128x128_S8x128x128_0_0_0).toLoadRect

/-- The state's eight pairs, written over the carried state, read back as one array. -/
theorem state_read {P0 P1 P2 P3 P4 P5 P6 P7 : Vec Ideal S1x128x128 .f32} {Z : Vec Ideal S8x128x128 .f32}
    (v : View sig .tc .vmem S8x128x128 .f32) (G : Fin 1024 → Fin 128 → EReal)
    (e0 : ∀ r n, (P0 (ix3 0 r n) : EReal) = G (col 0 r) n) (e1 : ∀ r n, (P1 (ix3 0 r n) : EReal) = G (col 1 r) n)
    (e2 : ∀ r n, (P2 (ix3 0 r n) : EReal) = G (col 2 r) n) (e3 : ∀ r n, (P3 (ix3 0 r n) : EReal) = G (col 3 r) n)
    (e4 : ∀ r n, (P4 (ix3 0 r n) : EReal) = G (col 4 r) n) (e5 : ∀ r n, (P5 (ix3 0 r n) : EReal) = G (col 5 r) n)
    (e6 : ∀ r n, (P6 (ix3 0 r n) : EReal) = G (col 6 r) n) (e7 : ∀ r n, (P7 (ix3 0 r n) : EReal) = G (col 7 r) n)
    (p : Fin 8) (r n : Fin 128) :
    ((v.readCov (Val := Elt Ideal)
      [⟨Rect.unit ![7, 0, 0] ![1, 128, 128] inb_S8x128x128_S1x128x128_7_0_0, P7⟩,
        ⟨Rect.unit ![6, 0, 0] ![1, 128, 128] inb_S8x128x128_S1x128x128_6_0_0, P6⟩,
        ⟨Rect.unit ![5, 0, 0] ![1, 128, 128] inb_S8x128x128_S1x128x128_5_0_0, P5⟩,
        ⟨Rect.unit ![4, 0, 0] ![1, 128, 128] inb_S8x128x128_S1x128x128_4_0_0, P4⟩,
        ⟨Rect.unit ![3, 0, 0] ![1, 128, 128] inb_S8x128x128_S1x128x128_3_0_0, P3⟩,
        ⟨Rect.unit ![2, 0, 0] ![1, 128, 128] inb_S8x128x128_S1x128x128_2_0_0, P2⟩,
        ⟨Rect.unit ![1, 0, 0] ![1, 128, 128] inb_S8x128x128_S1x128x128_1_0_0, P1⟩,
        ⟨Rect.unit ![0, 0, 0] ![1, 128, 128] inb_S8x128x128_S1x128x128_0_0_0, P0⟩,
        ⟨Rect.unit ![0, 0, 0] ![8, 128, 128] inb_S8x128x128_S8x128x128_0_0_0, Z⟩]
      allState : Vec Ideal S8x128x128 .f32) (ix3 p r n) : EReal)
      = G (col p r) n := by
  rw [View.readCov_eq_canon']
  have piece : ∀ (P : Vec Ideal S1x128x128 .f32) (o : Fin 8) (inb : ∀ a : Fin 3, (![o.val, 0, 0] : Fin 3 → ℕ) a + (![1, 128, 128] : Fin 3 → ℕ) a ≤ S8x128x128.size a)
      (_ : ∀ r n, (P (ix3 0 r n) : EReal) = G (col o r) n) (x : S1x128x128.Idx),
      (P x : EReal) = G (col ((Rect.unit (s := S8x128x128) ![o.val, 0, 0] ![1, 128, 128] inb).emb x 0)
        ((Rect.unit (s := S8x128x128) ![o.val, 0, 0] ![1, 128, 128] inb).emb x 1)) ((Rect.unit (s := S8x128x128) ![o.val, 0, 0] ![1, 128, 128] inb).emb x 2) := by
    intro P o inb e x
    idx_vars x
    obtain rfl : x0 = 0 := Subsingleton.elim _ _
    rw [e]
    have h0 : (Rect.unit (s := S8x128x128) ![o.val, 0, 0] ![1, 128, 128] inb).emb (ix3 0 x1 x2) 0 = o :=
      Fin.ext ((Rect.idx_unit_val (s := S8x128x128) ![o.val, 0, 0] ![1, 128, 128] inb (ix3 0 x1 x2) 0).trans (Nat.add_zero _))
    have h1 : (Rect.unit (s := S8x128x128) ![o.val, 0, 0] ![1, 128, 128] inb).emb (ix3 0 x1 x2) 1 = x1 :=
      Fin.ext ((Rect.idx_unit_val (s := S8x128x128) ![o.val, 0, 0] ![1, 128, 128] inb (ix3 0 x1 x2) 1).trans (Nat.zero_add _))
    have h2 : (Rect.unit (s := S8x128x128) ![o.val, 0, 0] ![1, 128, 128] inb).emb (ix3 0 x1 x2) 2 = x2 :=
      Fin.ext ((Rect.idx_unit_val (s := S8x128x128) ![o.val, 0, 0] ![1, 128, 128] inb (ix3 0 x1 x2) 2).trans (Nat.zero_add _))
    rw [h0, h1, h2]
  refine (View.canon_append_of_piecesOf (Val := Elt Ideal) (e := .f32) (fun i : S8x128x128.Idx => G (col (i 0) (i 1)) (i 2))
    [⟨Rect.unit ![0, 0, 0] ![8, 128, 128] inb_S8x128x128_S8x128x128_0_0_0, Z⟩]
    [⟨Rect.unit ![7, 0, 0] ![1, 128, 128] inb_S8x128x128_S1x128x128_7_0_0, P7⟩,
        ⟨Rect.unit ![6, 0, 0] ![1, 128, 128] inb_S8x128x128_S1x128x128_6_0_0, P6⟩,
        ⟨Rect.unit ![5, 0, 0] ![1, 128, 128] inb_S8x128x128_S1x128x128_5_0_0, P5⟩,
        ⟨Rect.unit ![4, 0, 0] ![1, 128, 128] inb_S8x128x128_S1x128x128_4_0_0, P4⟩,
        ⟨Rect.unit ![3, 0, 0] ![1, 128, 128] inb_S8x128x128_S1x128x128_3_0_0, P3⟩,
        ⟨Rect.unit ![2, 0, 0] ![1, 128, 128] inb_S8x128x128_S1x128x128_2_0_0, P2⟩,
        ⟨Rect.unit ![1, 0, 0] ![1, 128, 128] inb_S8x128x128_S1x128x128_1_0_0, P1⟩,
        ⟨Rect.unit ![0, 0, 0] ![1, 128, 128] inb_S8x128x128_S1x128x128_0_0_0, P0⟩]
    ⟨piece P7 7 inb_S8x128x128_S1x128x128_7_0_0 e7, piece P6 6 inb_S8x128x128_S1x128x128_6_0_0 e6, piece P5 5 inb_S8x128x128_S1x128x128_5_0_0 e5, piece P4 4 inb_S8x128x128_S1x128x128_4_0_0 e4, piece P3 3 inb_S8x128x128_S1x128x128_3_0_0 e3, piece P2 2 inb_S8x128x128_S1x128x128_2_0_0 e2, piece P1 1 inb_S8x128x128_S1x128x128_1_0_0 e1, piece P0 0 inb_S8x128x128_S1x128x128_0_0_0 e0, trivial⟩ _
    (View.cover_of_tiledL _ ![1, 128, 128] (by rfl) _)).trans ?_
  have h0 : allState.idx (ix3 p r n) 0 = p := Fin.ext ((Rect.idx_unit_val (s := S8x128x128) _ _ _ (ix3 p r n) 0).trans (Nat.zero_add _))
  have h1 : allState.idx (ix3 p r n) 1 = r := Fin.ext ((Rect.idx_unit_val (s := S8x128x128) _ _ _ (ix3 p r n) 1).trans (Nat.zero_add _))
  have h2 : allState.idx (ix3 p r n) 2 = n := Fin.ext ((Rect.idx_unit_val (s := S8x128x128) _ _ _ (ix3 p r n) 2).trans (Nat.zero_add _))
  show G (col (allState.idx (ix3 p r n) 0) (allState.idx (ix3 p r n) 1)) (allState.idx (ix3 p r n) 2) = _
  rw [h0, h1, h2]

/-- A pair of the carried state, -/
theorem state_pair {x10 : Vec Ideal S1x8x128x128 .f32}
    (H : ∀ (p : Fin 8) (r n : Fin 128), (x10 (ix4 0 p r n) : EReal) = q.h (head (col p r)) ⟨(col p r).val % 64, by omega⟩ n)
    (p : Fin 8) (inb : ∀ a : Fin 3, (![p.val, 0, 0] : Fin 3 → ℕ) a + (![1, 128, 128] : Fin 3 → ℕ) a ≤ S8x128x128.size a) :
    Carried q p (View.ld (Val := Elt Ideal) (e' := .f32) (k0_pay5 (F := Ideal) x10) (Rect.unit (s := S8x128x128) ![p.val, 0, 0] ![1, 128, 128] inb)) := by
  intro r n
  refine (View.ld_unit_apply_of (Val := Elt Ideal) (e := .f32) (k0_pay5 (F := Ideal) x10) ![p.val, 0, 0] ![1, 128, 128] inb (ix3 0 r n) (ix3 p r n) ?_).trans
    (Eq.trans ?_ (H p r n))
  · intro a
    fin_cases a
    · rfl
    · exact (Nat.zero_add _).symm
    · exact (Nat.zero_add _).symm
  · pointwise [k0_pay5]

/-- the skip of a pair, -/
theorem skip_pair {x7 : Vec Ideal S1x1024 .f32} (H : ∀ j, (x7 (ix2 0 j) : EReal) = q.skip (head j))
    (p : Fin 8) (inb : ∀ a : Fin 2, (![0, p.val * 128] : Fin 2 → ℕ) a + (![1, 128] : Fin 2 → ℕ) a ≤ S1x1024.size a) :
    Skip q p (View.ld (Val := Elt Ideal) (e' := .f32) x7 (Rect.unit (s := S1x1024) ![0, p.val * 128] ![1, 128] inb)) := by
  intro r
  refine (View.ld_unit_apply_of (Val := Elt Ideal) (e := .f32) x7 ![0, p.val * 128] ![1, 128] inb (ix2 0 r) (ix2 0 (col p r)) ?_).trans (H _)
  intro a
  fin_cases a <;> rfl

/-- a tap's weights, -/
theorem weight_row {x3 : Vec Ideal S4x1536 .f32} (H : ∀ k j, (x3 (ix2 k j) : EReal) = q.w k j)
    (k : Fin 4) (inb : ∀ a : Fin 2, (![k.val, 0] : Fin 2 → ℕ) a + (![1, 1536] : Fin 2 → ℕ) a ≤ S4x1536.size a) (j : Fin 1536) :
    ((View.ld (Val := Elt Ideal) (e' := .f32) x3 (Rect.unit (s := S4x1536) ![k.val, 0] ![1, 1536] inb) : Vec Ideal S1x1536 .f32) (ix2 0 j) : EReal) = q.w k j := by
  refine (View.ld_unit_apply_of (Val := Elt Ideal) (e := .f32) x3 ![k.val, 0] ![1, 1536] inb (ix2 0 j) (ix2 k j) ?_).trans (H _ _)
  intro a
  fin_cases a
  · rfl
  · exact (Nat.zero_add _).symm

/-- and a shifted read of the line. -/
theorem tap_read {u : Vec Ideal S1x8x1536 .f32} {past : Vec Ideal S1x3x1536 .f32} (H : Line q u past) (v : View sig .tc .vmem S136x1536 .f32)
    (k : Fin 4) (inb : ∀ a : Fin 2, (![5 + k.val, 0] : Fin 2 → ℕ) a + (![128, 1536] : Fin 2 → ℕ) a ≤ S136x1536.size a) (l : Fin 8) (j : Fin 1536) :
    ((v.readCov (Val := Elt Ideal) [⟨Rect.unit ![16, 0] ![120, 1536] inb_S136x1536_S120x1536_16_0, k0_pay8 (F := Ideal)⟩,
      ⟨Rect.unit ![8, 0] ![8, 1536] inb_S136x1536_S8x1536_8_0, k0_pay7 (F := Ideal) u⟩,
      ⟨Rect.unit ![5, 0] ![3, 1536] inb_S136x1536_S3x1536_5_0, k0_pay4 (F := Ideal) past⟩]
      (Rect.unit (s := S136x1536) ![5 + k.val, 0] ![128, 1536] inb).toLoadRect : Vec Ideal S128x1536 .f32) (ix2 (up l) j) : EReal)
      = q.line ⟨k.val + l.val, by omega⟩ j := by
  rw [View.readCov_eq_canon']
  refine Eq.trans ?_ (row H ⟨k.val + l.val, by omega⟩ j)
  refine congrArg (View.canon (Val := Elt Ideal) (e := .f32) _) ?_
  have h0 := Rect.idx_unit_val (s := S136x1536) ![5 + k.val, 0] ![128, 1536] inb (ix2 (up l) j) 0
  have h1 := Rect.idx_unit_val (s := S136x1536) ![5 + k.val, 0] ![128, 1536] inb (ix2 (up l) j) 1
  funext a
  fin_cases a
  · exact Fin.ext (h0.trans (Nat.add_assoc _ _ _))
  · exact Fin.ext (h1.trans (Nat.zero_add _))

/-- The line's last three rows. -/
theorem last_read {u : Vec Ideal S1x8x1536 .f32} {past : Vec Ideal S1x3x1536 .f32} (H : Line q u past) (v : View sig .tc .vmem S136x1536 .f32)
    (i : Fin 3) (j : Fin 1536) :
    ((v.readCov (Val := Elt Ideal) [
      ⟨Rect.unit ![8, 0] ![8, 1536] inb_S136x1536_S8x1536_8_0, k0_pay7 (F := Ideal) u⟩,
      ⟨Rect.unit ![5, 0] ![3, 1536] inb_S136x1536_S3x1536_5_0, k0_pay4 (F := Ideal) past⟩]
      (Rect.unit (s := S136x1536) ![13, 0] ![3, 1536] inb_S136x1536_S3x1536_13_0).toLoadRect : Vec Ideal S3x1536 .f32) (ix2 i j) : EReal)
      = q.u ⟨5 + i.val, by omega⟩ j := by
  have h0 := Rect.idx_unit_val (s := S136x1536) ![13, 0] ![3, 1536] inb_S136x1536_S3x1536_13_0 (ix2 i j) 0
  have h1 := Rect.idx_unit_val (s := S136x1536) ![13, 0] ![3, 1536] inb_S136x1536_S3x1536_13_0 (ix2 i j) 1
  rw [View.readCov_eq_canon']
  have hj : (Rect.unit (s := S136x1536) ![13, 0] ![3, 1536] inb_S136x1536_S3x1536_13_0).idx (ix2 i j) = ix2 (⟨13 + i.val, by omega⟩ : Fin 136) j := by
    funext a
    fin_cases a
    · exact Fin.ext h0
    · exact Fin.ext (h1.trans (Nat.zero_add _))
  refine (congrArg (View.canon (Val := Elt Ideal) (e := .f32) _) hj).trans ?_
  clear h0 h1
  have hc : ∃ p ∈ ([⟨Rect.unit ![8, 0] ![8, 1536] inb_S136x1536_S8x1536_8_0, k0_pay7 (F := Ideal) u⟩,
      ⟨Rect.unit ![5, 0] ![3, 1536] inb_S136x1536_S3x1536_5_0, k0_pay4 (F := Ideal) past⟩] : List (View.Piece (Elt Ideal) S136x1536 .f32)),
      (ix2 (⟨13 + i.val, by omega⟩ : Fin 136) j) ∈ p.1.set := by
    refine ⟨_, .head _, ?_⟩
    refine (Rect.mem_set_unit (inb := inb_S136x1536_S8x1536_8_0)).2 fun a => ?_
    fin_cases a
    · show 8 ≤ 13 + i.val ∧ 13 + i.val < 8 + 8; omega
    · show 0 ≤ j.val ∧ j.val < 0 + 1536; omega
  canon_tiles x h using hc
  · have h0' : 13 + i.val = 8 + (x 0).val := h0
    have h1' : j.val = (x 1).val := h1
    idx_vars x
    have e : (k0_pay7 u (ix2 x0 x1) : EReal) = u (ix3 0 x0 x1) := by pointwise [k0_pay7]
    rw [e, H.u]
    congr 1
    · exact Fin.ext (by show x0.val = 5 + i.val; have : 13 + i.val = 8 + x0.val := h0'; omega)
    · exact Fin.ext h1'.symm
  · have h0' : 13 + i.val = 5 + (x 0).val := h0
    have hx : (x 0).val < 3 := (x 0).isLt
    omega

/-- The load of the output's eight rows. -/
abbrev eightRows : LoadRect S128x1024 := (Rect.unit ![0, 0] ![8, 1024] inb_S128x1024_S8x1024_0_0).toLoadRect

/-- The output's eight pairs, read back at the eight tokens. -/
theorem y_read {P0 P1 P2 P3 P4 P5 P6 P7 : Vec Ideal S128x128 .f32} (v : View sig .tc .vmem S128x1024 .f32) (G : Fin 8 → Fin 1024 → EReal)
    (e0 : ∀ l r, (P0 (ix2 (up l) r) : EReal) = G l (col 0 r)) (e1 : ∀ l r, (P1 (ix2 (up l) r) : EReal) = G l (col 1 r))
    (e2 : ∀ l r, (P2 (ix2 (up l) r) : EReal) = G l (col 2 r)) (e3 : ∀ l r, (P3 (ix2 (up l) r) : EReal) = G l (col 3 r))
    (e4 : ∀ l r, (P4 (ix2 (up l) r) : EReal) = G l (col 4 r)) (e5 : ∀ l r, (P5 (ix2 (up l) r) : EReal) = G l (col 5 r))
    (e6 : ∀ l r, (P6 (ix2 (up l) r) : EReal) = G l (col 6 r)) (e7 : ∀ l r, (P7 (ix2 (up l) r) : EReal) = G l (col 7 r))
    (l : Fin 8) (j : Fin 1024) :
    ((v.readCov (Val := Elt Ideal)
      [⟨Rect.unit ![0, 896] ![128, 128] inb_S128x1024_S128x128_0_896, P7⟩,
        ⟨Rect.unit ![0, 768] ![128, 128] inb_S128x1024_S128x128_0_768, P6⟩,
        ⟨Rect.unit ![0, 640] ![128, 128] inb_S128x1024_S128x128_0_640, P5⟩,
        ⟨Rect.unit ![0, 512] ![128, 128] inb_S128x1024_S128x128_0_512, P4⟩,
        ⟨Rect.unit ![0, 384] ![128, 128] inb_S128x1024_S128x128_0_384, P3⟩,
        ⟨Rect.unit ![0, 256] ![128, 128] inb_S128x1024_S128x128_0_256, P2⟩,
        ⟨Rect.unit ![0, 128] ![128, 128] inb_S128x1024_S128x128_0_128, P1⟩,
        ⟨Rect.unit ![0, 0] ![128, 128] inb_S128x1024_S128x128_0_0, P0⟩]
      eightRows : Vec Ideal S8x1024 .f32) (ix2 l j) : EReal) = G l j := by
  have h0 : (eightRows.idx (ix2 l j) 0 : ℕ) = l.val := (Rect.idx_unit_val (s := S128x1024) _ _ _ (ix2 l j) 0).trans (Nat.zero_add _)
  have h1 : (eightRows.idx (ix2 l j) 1 : ℕ) = j.val := (Rect.idx_unit_val (s := S128x1024) _ _ _ (ix2 l j) 1).trans (Nat.zero_add _)
  have piece : ∀ (P : Vec Ideal S128x128 .f32) (p : Fin 8) (_ : ∀ l r, (P (ix2 (up l) r) : EReal) = G l (col p r)) (x : S128x128.Idx)
      (_ : l.val = (x 0).val) (_ : j.val = p.val * 128 + (x 1).val), (P x : EReal) = G l j := by
    intro P p e x hx hy
    idx_vars x
    have hr : x0 = up l := Fin.ext hx.symm
    rw [hr, e]
    exact congrArg (G l) (Fin.ext hy.symm)
  rw [View.readCov_eq_canon']
  show View.canon (Val := Elt Ideal) (e := .f32) _ (eightRows.idx (ix2 l j)) = _
  rename' h0 => k0, h1 => k1
  canon_tiles x h
  · exact piece P7 7 e7 x (k0.symm.trans h0) (k1.symm.trans h1)
  · exact piece P6 6 e6 x (k0.symm.trans h0) (k1.symm.trans h1)
  · exact piece P5 5 e5 x (k0.symm.trans h0) (k1.symm.trans h1)
  · exact piece P4 4 e4 x (k0.symm.trans h0) (k1.symm.trans h1)
  · exact piece P3 3 e3 x (k0.symm.trans h0) (k1.symm.trans h1)
  · exact piece P2 2 e2 x (k0.symm.trans h0) (k1.symm.trans h1)
  · exact piece P1 1 e1 x (k0.symm.trans h0) (k1.symm.trans h1)
  · exact piece P0 0 e0 x (k0.symm.trans h0) (k1.symm.trans (h1.trans (Nat.zero_add _).symm))

end Cert.SsdIdeal.Scratch
-- ==== Proof.SsdOut.lean ====
/-
  The step's gated normalised output, as a block of one sequence: each half of the columns is a group of its own.
-/
module

public import proofs.«01_k».proof.Proof.SsdSpec
public import proofs.«01_k».proof.Proof.Gen.SsdIdeal.Value
public import Idealize.ShloMosaic.Lib.Pipeline.ReadBack
public import Idealize.ShloMosaic.Lib.Pipeline.ValueKit

@[expose] public section

set_option maxRecDepth 16384

noncomputable section

namespace Cert.SsdIdeal.Out

open Cert.SsdIdeal Cert.SsdIdeal.Gen Idealize.ShloMosaic Idealize.ShloMosaic.TcCoe Idealize.SL.Sem
open Cert.SsdStep Cert.SsdStep.Seq

variable {q : Seq} {Z : Vec Ideal S1x8x1024 .f32} {Y : Vec Ideal S8x1024 .f32}

theorem gated_apply (hZ : ∀ l j, (Z (ix3 0 l j) : EReal) = q.z l j) (hY : ∀ l j, (Y (ix2 l j) : EReal) = q.y l j) (l : Fin 8) (j : Fin 1024) :
    (k0_pay102 Z Y (ix2 l j) : EReal) = q.gated l j := by
  pointwise [k0_pay102]
  exact congrArg₂ (fun u v : EReal => u * (v * Ideal.logistic v)) (hY l j) (hZ l j)

/-- The first group, -/
theorem low (hZ : ∀ l j, (Z (ix3 0 l j) : EReal) = q.z l j) (hY : ∀ l j, (Y (ix2 l j) : EReal) = q.y l j)
    {w : Vec Ideal S1x512 .f32} (hw : ∀ k : Fin 512, (w (ix2 0 k) : EReal) = q.nw ⟨k.val, by omega⟩) (l : Fin 8) (k : Fin 512) :
    (k0_pay103 Z Y w (ix3 0 l k) : EReal) = q.out l ⟨k.val, by omega⟩ := by
  have hG := gated_apply hZ hY
  generalize hg : k0_pay102 (F := Ideal) Z Y = G at hG
  pointwise [k0_pay103, hg]
  simp only [hG, hw]
  have hk : (⟨k.val / 512, by omega⟩ : Fin 2) = 0 := Fin.ext (by show k.val / 512 = 0; omega)
  show _ = q.gated l _ * Ideal.rsqrt (q.meanSq l _ + _) * q.nw _
  rw [hk]
  simp only [meanSq, Fin.val_zero, Nat.zero_mul, Nat.zero_add]

/-- and the second. -/
theorem high (hZ : ∀ l j, (Z (ix3 0 l j) : EReal) = q.z l j) (hY : ∀ l j, (Y (ix2 l j) : EReal) = q.y l j)
    {w : Vec Ideal S1x512 .f32} (hw : ∀ k : Fin 512, (w (ix2 0 k) : EReal) = q.nw ⟨512 + k.val, by omega⟩) (l : Fin 8) (k : Fin 512) :
    (k0_pay1 (k0_pay104 Z Y) (k0_pay105 Z Y) (Scalar.ofBits (F := Ideal) .f32 0x3727C5AC#32) w (ix3 0 l k) : EReal) = q.out l ⟨512 + k.val, by omega⟩ := by
  have hG := gated_apply hZ hY
  generalize hg : k0_pay102 (F := Ideal) Z Y = G at hG
  pointwise [k0_pay1, k0_pay105, k0_pay104, hg]
  simp only [hG, hw]
  have hk : (⟨(512 + k.val) / 512, by omega⟩ : Fin 2) = 1 := Fin.ext (by show (512 + k.val) / 512 = 1; omega)
  show _ = q.gated l _ * Ideal.rsqrt (q.meanSq l _ + _) * q.nw _
  rw [hk]
  rfl

end Cert.SsdIdeal.Out
-- ==== Proof.SsdBlocks.lean ====
/-
  The step's blocks at a grid point: a point is a sequence.
-/
module

public import proofs.«01_k».proof.Proof.SsdHost
public import proofs.«01_k».proof.Proof.SsdScratch
public import proofs.«01_k».proof.Proof.SsdOut

@[expose] public section

set_option maxRecDepth 16384

noncomputable section

namespace Cert.SsdIdeal.Arrays

open Cert.SsdIdeal Cert.SsdIdeal.Gen Idealize.ShloMosaic Idealize.ShloMosaic.TcCoe Idealize.SL.Sem
open Cert.SsdStep Cert.SsdStep.Seq Cert.SsdIdeal.Host Cert.SsdIdeal.Mid Cert.SsdIdeal.Pairs Cert.SsdIdeal.Scratch
open Idealize.ShloMosaic.Pipeline (Dat)

variable (m : (ℓ : Loc nD τ sig) → Buf (Elt Ideal) ℓ)

/-- The windows' index maps, all points at once. -/
theorem idx : ∀ t : Fin cfg0.N, win0_0.index t = ![t.val, 0, 0] ∧ win0_1.index t = ![t.val, 0, 0]
    ∧ win0_2.index t = ![t.val, 0, 0] ∧ win0_3.index t = ![0, 0] ∧ win0_4.index t = ![0, 0]
    ∧ win0_5.index t = ![0, 0] ∧ win0_6.index t = ![0, 0] ∧ win0_7.index t = ![0, 0]
    ∧ win0_8.index t = ![0, 0] ∧ win0_9.index t = ![t.val, 0, 0] ∧ win0_10.index t = ![t.val, 0, 0, 0]
    ∧ win0_11.index t = ![t.val, 0, 0] ∧ win0_12.index t = ![t.val, 0, 0] ∧ win0_13.index t = ![t.val, 0, 0, 0] :=
  (by decide +kernel : ∀ t : Fin grid0.N, _)

theorem t_lt (t : Fin cfg0.N) : t.val < 32 := lt_of_lt_of_eq t.isLt N_0

/-- Point `t`'s sequence. -/
abbrev sq (c : Dev nD) (t : Fin cfg0.N) : Seq := (args m c).seq ⟨t.val, t_lt t⟩

/-- Its blocks, at their types. -/
abbrev B0 (c : Dev nD) (t : Fin cfg0.N) : Vec Ideal S1x8x1536 .f32 := iblk m c 0 t
abbrev B1 (c : Dev nD) (t : Fin cfg0.N) : Vec Ideal S1x8x128 .f32 := iblk m c 1 t
abbrev B2 (c : Dev nD) (t : Fin cfg0.N) : Vec Ideal S1x8x1024 .f32 := iblk m c 2 t
abbrev B3 (c : Dev nD) (t : Fin cfg0.N) : Vec Ideal S4x1536 .f32 := iblk m c 3 t
abbrev B4 (c : Dev nD) (t : Fin cfg0.N) : Vec Ideal S1x1536 .f32 := iblk m c 4 t
abbrev B5 (c : Dev nD) (t : Fin cfg0.N) : Vec Ideal S1x128 .f32 := iblk m c 5 t
abbrev B6 (c : Dev nD) (t : Fin cfg0.N) : Vec Ideal S1x128 .f32 := iblk m c 6 t
abbrev B7 (c : Dev nD) (t : Fin cfg0.N) : Vec Ideal S1x1024 .f32 := iblk m c 7 t
abbrev B8 (c : Dev nD) (t : Fin cfg0.N) : Vec Ideal S1x1024 .f32 := iblk m c 8 t
abbrev B9 (c : Dev nD) (t : Fin cfg0.N) : Vec Ideal S1x3x1536 .f32 := iblk m c 9 t
abbrev B10 (c : Dev nD) (t : Fin cfg0.N) : Vec Ideal S1x8x128x128 .f32 := iblk m c 10 t

theorem b0 (c : Dev nD) (t : Fin cfg0.N) (l : Fin 8) (j : Fin 1536) : (B0 m c t (ix3 0 l j) : EReal) = (sq m c t).u l j := by
  refine Eq.trans ?_ (V_u m c ⟨t.val, t_lt t⟩ l j)
  blk_ext [iblk, idx t]

theorem b1 (c : Dev nD) (t : Fin cfg0.N) (l : Fin 8) (h : Fin 16) : (B1 m c t (ix3 0 l (lane h)) : EReal) = (sq m c t).dt l h := by
  refine Eq.trans ?_ (V_dt m c ⟨t.val, t_lt t⟩ l h)
  blk_ext [iblk, idx t]

theorem b2 (c : Dev nD) (t : Fin cfg0.N) (l : Fin 8) (j : Fin 1024) : (B2 m c t (ix3 0 l j) : EReal) = (sq m c t).z l j := by
  refine Eq.trans ?_ (V_z m c ⟨t.val, t_lt t⟩ l j)
  blk_ext [iblk, idx t]

theorem b3 (c : Dev nD) (t : Fin cfg0.N) (k : Fin 4) (j : Fin 1536) : (B3 m c t (ix2 k j) : EReal) = (sq m c t).w k j := by
  refine Eq.trans ?_ (V_w m c ⟨t.val, t_lt t⟩ k j)
  blk_ext [iblk, idx t]

theorem b4 (c : Dev nD) (t : Fin cfg0.N) (j : Fin 1536) : (B4 m c t (ix2 0 j) : EReal) = (sq m c t).b j := by
  refine Eq.trans ?_ (V_b m c ⟨t.val, t_lt t⟩ j)
  blk_ext [iblk, idx t]

theorem b5 (c : Dev nD) (t : Fin cfg0.N) (h : Fin 16) : (B5 m c t (ix2 0 (lane h)) : EReal) = (sq m c t).bias h := by
  refine Eq.trans ?_ (V_bias m c ⟨t.val, t_lt t⟩ h)
  blk_ext [iblk, idx t]

theorem b6 (c : Dev nD) (t : Fin cfg0.N) (h : Fin 16) : (B6 m c t (ix2 0 (lane h)) : EReal) = (sq m c t).alog h := by
  refine Eq.trans ?_ (V_alog m c ⟨t.val, t_lt t⟩ h)
  blk_ext [iblk, idx t]

theorem b7 (c : Dev nD) (t : Fin cfg0.N) (j : Fin 1024) : (B7 m c t (ix2 0 j) : EReal) = (sq m c t).skip (head j) := by
  refine Eq.trans ?_ (V_skip m c ⟨t.val, t_lt t⟩ j)
  blk_ext [iblk, idx t]

theorem b8 (c : Dev nD) (t : Fin cfg0.N) (j : Fin 1024) : (B8 m c t (ix2 0 j) : EReal) = (sq m c t).nw j := by
  refine Eq.trans ?_ (V_nw m c ⟨t.val, t_lt t⟩ j)
  blk_ext [iblk, idx t]

theorem b9 (c : Dev nD) (t : Fin cfg0.N) (k : Fin 3) (j : Fin 1536) : (B9 m c t (ix3 0 k j) : EReal) = (sq m c t).past k j := by
  refine Eq.trans ?_ (V_past m c ⟨t.val, t_lt t⟩ k j)
  blk_ext [iblk, idx t]

theorem b10 (c : Dev nD) (t : Fin cfg0.N) (p : Fin 8) (r n : Fin 128) :
    (B10 m c t (ix4 0 p r n) : EReal) = (sq m c t).h (head (col p r)) ⟨(col p r).val % 64, by omega⟩ n := by
  refine Eq.trans ?_ (V_h m c ⟨t.val, t_lt t⟩ p r n)
  blk_ext [iblk, idx t]

theorem line (c : Dev nD) (t : Fin cfg0.N) : Line (sq m c t) (B0 m c t) (B9 m c t) := ⟨b0 m c t, b9 m c t⟩

/-- The line's three stores, -/
abbrev stores (c : Dev nD) (t : Fin cfg0.N) : List (View.Piece (Elt Ideal) S136x1536 .f32) :=
  [⟨Rect.unit ![16, 0] ![120, 1536] inb_S136x1536_S120x1536_16_0, k0_pay8 (F := Ideal)⟩,
    ⟨Rect.unit ![8, 0] ![8, 1536] inb_S136x1536_S8x1536_8_0, k0_pay7 (F := Ideal) (B0 m c t)⟩,
    ⟨Rect.unit ![5, 0] ![3, 1536] inb_S136x1536_S3x1536_5_0, k0_pay4 (F := Ideal) (B9 m c t)⟩]

/-- The four loads of the line, -/
abbrev rows0 : LoadRect S136x1536 := (Rect.unit ![5, 0] ![128, 1536] inb_S136x1536_S128x1536_5_0).toLoadRect
abbrev rows1 : LoadRect S136x1536 := (Rect.unit ![6, 0] ![128, 1536] inb_S136x1536_S128x1536_6_0).toLoadRect
abbrev rows2 : LoadRect S136x1536 := (Rect.unit ![7, 0] ![128, 1536] inb_S136x1536_S128x1536_7_0).toLoadRect
abbrev rows3 : LoadRect S136x1536 := (Rect.unit ![8, 0] ![128, 1536] inb_S136x1536_S128x1536_8_0).toLoadRect

/-- the four shifted reads of them, -/
abbrev tap0 (c : Dev nD) (t : Fin cfg0.N) : Vec Ideal S128x1536 .f32 :=
  (View.whole cc0_scratch0 : View sig .tc .vmem S136x1536 .f32).readCov (Val := Elt Ideal) (stores m c t) rows0
abbrev tap1 (c : Dev nD) (t : Fin cfg0.N) : Vec Ideal S128x1536 .f32 :=
  (View.whole cc0_scratch0 : View sig .tc .vmem S136x1536 .f32).readCov (Val := Elt Ideal) (stores m c t) rows1
abbrev tap2 (c : Dev nD) (t : Fin cfg0.N) : Vec Ideal S128x1536 .f32 :=
  (View.whole cc0_scratch0 : View sig .tc .vmem S136x1536 .f32).readCov (Val := Elt Ideal) (stores m c t) rows2
abbrev tap3 (c : Dev nD) (t : Fin cfg0.N) : Vec Ideal S128x1536 .f32 :=
  (View.whole cc0_scratch0 : View sig .tc .vmem S136x1536 .f32).readCov (Val := Elt Ideal) (stores m c t) rows3

/-- the taps' weights, -/
abbrev weight0 (c : Dev nD) (t : Fin cfg0.N) : Vec Ideal S1x1536 .f32 :=
  View.ld (Val := Elt Ideal) (e' := .f32) (B3 m c t) (Rect.unit (s := S4x1536) ![0, 0] ![1, 1536] inb_S4x1536_S1x1536_0_0)
abbrev weight1 (c : Dev nD) (t : Fin cfg0.N) : Vec Ideal S1x1536 .f32 :=
  View.ld (Val := Elt Ideal) (e' := .f32) (B3 m c t) (Rect.unit (s := S4x1536) ![1, 0] ![1, 1536] inb_S4x1536_S1x1536_1_0)
abbrev weight2 (c : Dev nD) (t : Fin cfg0.N) : Vec Ideal S1x1536 .f32 :=
  View.ld (Val := Elt Ideal) (e' := .f32) (B3 m c t) (Rect.unit (s := S4x1536) ![2, 0] ![1, 1536] inb_S4x1536_S1x1536_2_0)
abbrev weight3 (c : Dev nD) (t : Fin cfg0.N) : Vec Ideal S1x1536 .f32 :=
  View.ld (Val := Elt Ideal) (e' := .f32) (B3 m c t) (Rect.unit (s := S4x1536) ![3, 0] ![1, 1536] inb_S4x1536_S1x1536_3_0)

/-- and what they hold. -/
theorem taps (c : Dev nD) (t : Fin cfg0.N) : Taps (sq m c t) (tap0 m c t) (tap1 m c t) (tap2 m c t) (tap3 m c t)
    (weight0 m c t) (weight1 m c t) (weight2 m c t) (weight3 m c t) (B4 m c t) where
  t0 l j := (tap_read (line m c t) _ 0 inb_S136x1536_S128x1536_5_0 l j).trans (congrArg (fun i => (sq m c t).line i j) (Fin.ext (show 0 + l.val = l.val from Nat.zero_add _)))
  t1 := tap_read (line m c t) _ 1 inb_S136x1536_S128x1536_6_0
  t2 := tap_read (line m c t) _ 2 inb_S136x1536_S128x1536_7_0
  t3 := tap_read (line m c t) _ 3 inb_S136x1536_S128x1536_8_0
  w0 := weight_row (b3 m c t) 0 inb_S4x1536_S1x1536_0_0
  w1 := weight_row (b3 m c t) 1 inb_S4x1536_S1x1536_1_0
  w2 := weight_row (b3 m c t) 2 inb_S4x1536_S1x1536_2_0
  w3 := weight_row (b3 m c t) 3 inb_S4x1536_S1x1536_3_0
  b := b4 m c t

theorem steps (c : Dev nD) (t : Fin cfg0.N) : Steps (sq m c t) (B1 m c t) (B5 m c t) (B6 m c t) := ⟨b1 m c t, b5 m c t, b6 m c t⟩

end Cert.SsdIdeal.Arrays
-- ==== Proof.SsdValue.lean ====
/-
  The step's call over the extended reals: each of its three result arrays after the run.
-/
module

public import proofs.«01_k».proof.Proof.SsdBlocks

@[expose] public section

set_option maxRecDepth 200000

noncomputable section

namespace Cert.SsdIdeal.Arrays

open Cert.SsdIdeal Cert.SsdIdeal.Gen Idealize.ShloMosaic Idealize.ShloMosaic.TcCoe Idealize.SL.Sem
open Cert.SsdStep Cert.SsdStep.Seq Cert.SsdIdeal.Host Cert.SsdIdeal.Mid Cert.SsdIdeal.Pairs Cert.SsdIdeal.Scratch
open Idealize.ShloMosaic.Pipeline (Dat)

variable (m : (ℓ : Loc nD τ sig) → Buf (Elt Ideal) ℓ)

theorem state_out (X : Vec Ideal S8x128x128 .f32) (p : Fin 8) (r n : Fin 128) : k0_pay3 X (ix4 0 p r n) = X (ix3 p r n) := by
  pointwise [k0_pay3]

theorem tail_out (X : Vec Ideal S3x1536 .f32) (i : Fin 3) (j : Fin 1536) : k0_pay2 X (ix3 0 i j) = X (ix2 i j) := by
  pointwise [k0_pay2]

/-- The state point `t` writes, -/
theorem after13 (c : Dev nD) (t : Fin cfg0.N) (p : Fin 8) (r n : Fin 128) :
    ((dats m 0 c).after 13 t (ix4 0 p r n) : EReal) = (sq m c t).next (col p r) n := by
  have S := shared (taps m c t) (steps m c t)
  have hV := fun (p : Fin 8) inb => state_pair (b10 m c t) p inb
  rw [after0_13]; unfold outsAt0; frame_out
  simp (disch := decide) only [↓View.readCov_skip, ↓View.readCov_fill]
  refine (state_out _ p r n).trans ?_
  exact state_read _ (fun j n => (sq m c t).next j n)
    (h0 S (hV 0 inb_S8x128x128_S1x128x128_0_0_0)) (h1 S (hV 1 inb_S8x128x128_S1x128x128_1_0_0))
    (h2 S (hV 2 inb_S8x128x128_S1x128x128_2_0_0)) (h3 S (hV 3 inb_S8x128x128_S1x128x128_3_0_0))
    (h4 S (hV 4 inb_S8x128x128_S1x128x128_4_0_0)) (h5 S (hV 5 inb_S8x128x128_S1x128x128_5_0_0))
    (h6 S (hV 6 inb_S8x128x128_S1x128x128_6_0_0)) (h7 S (hV 7 inb_S8x128x128_S1x128x128_7_0_0)) p r n

/-- the tokens it carries on, -/
theorem after12 (c : Dev nD) (t : Fin cfg0.N) (i : Fin 3) (j : Fin 1536) :
    ((dats m 0 c).after 12 t (ix3 0 i j) : EReal) = (sq m c t).tail i j := by
  rw [after0_12]; unfold outsAt0; frame_out
  simp (disch := decide) only [↓View.readCov_skip, ↓View.readCov_fill]
  exact (tail_out _ i j).trans (last_read (line m c t) _ i j)

/-- a half of the output's weight, -/
theorem norm_half (c : Dev nD) (t : Fin cfg0.N) (o : ℕ) (ho : o ≤ 512) (inb : ∀ a : Fin 2, (![0, o] : Fin 2 → ℕ) a + (![1, 512] : Fin 2 → ℕ) a ≤ S1x1024.size a)
    (k : Fin 512) :
    ((View.ld (Val := Elt Ideal) (e' := .f32) (B8 m c t) (Rect.unit (s := S1x1024) ![0, o] ![1, 512] inb) : Vec Ideal S1x512 .f32) (ix2 0 k) : EReal)
      = (sq m c t).nw ⟨o + k.val, by omega⟩ := by
  refine (View.ld_unit_apply_of (Val := Elt Ideal) (e := .f32) (B8 m c t) ![0, o] ![1, 512] inb (ix2 0 k) (ix2 0 ⟨o + k.val, by omega⟩) ?_).trans (b8 m c t _)
  intro a
  fin_cases a <;> rfl

/-- and the output. -/
theorem after11 (c : Dev nD) (t : Fin cfg0.N) (l : Fin 8) (j : Fin 1024) :
    ((dats m 0 c).after 11 t (ix3 0 l j) : EReal) = (sq m c t).out l j := by
  have S := shared (taps m c t) (steps m c t)
  have hV := fun (p : Fin 8) inb => state_pair (b10 m c t) p inb
  have hK := fun (p : Fin 8) inb => skip_pair (b7 m c t) p inb
  have hY := fun v => y_read v (fun l j => (sq m c t).y l j)
    (y0 S rfl (hV 0 inb_S8x128x128_S1x128x128_0_0_0) (hK 0 inb_S1x1024_S1x128_0_0)) (y1 S (hV 1 inb_S8x128x128_S1x128x128_1_0_0) (hK 1 inb_S1x1024_S1x128_0_128))
    (y2 S (hV 2 inb_S8x128x128_S1x128x128_2_0_0) (hK 2 inb_S1x1024_S1x128_0_256)) (y3 S (hV 3 inb_S8x128x128_S1x128x128_3_0_0) (hK 3 inb_S1x1024_S1x128_0_384))
    (y4 S (hV 4 inb_S8x128x128_S1x128x128_4_0_0) (hK 4 inb_S1x1024_S1x128_0_512)) (y5 S (hV 5 inb_S8x128x128_S1x128x128_5_0_0) (hK 5 inb_S1x1024_S1x128_0_640))
    (y6 S (hV 6 inb_S8x128x128_S1x128x128_6_0_0) (hK 6 inb_S1x1024_S1x128_0_768)) (y7 S (hV 7 inb_S8x128x128_S1x128x128_7_0_0) (hK 7 inb_S1x1024_S1x128_0_896))
  have hn0 := norm_half m c t 0 (by omega) inb_S1x1024_S1x512_0_0
  have hn1 := norm_half m c t 512 le_rfl inb_S1x1024_S1x512_0_512
  have hlow := Out.low (b2 m c t) (hY (View.whole cc0_scratch2)) (fun k => (hn0 k).trans (congrArg (sq m c t).nw (Fin.ext (Nat.zero_add _))))
  have hhigh := Out.high (b2 m c t) (hY (View.whole cc0_scratch2)) hn1
  rw [after0_11]; unfold outsAt0; frame_out
  simp (disch := decide) only [↓View.readCov_skip, ↓View.readCov_fill]
  generalize (sq m c t).out = g at *
  clear hn0 hn1 hY S hV hK
  canon_tiles x h
  · idx_vars x
    obtain rfl : x0 = 0 := Subsingleton.elim _ _
    exact (hhigh x1 x2).trans (congrArg₂ g (Fin.ext h1.symm) (Fin.ext h2.symm))
  · idx_vars x
    obtain rfl : x0 = 0 := Subsingleton.elim _ _
    exact (hlow x1 x2).trans (congrArg₂ g (Fin.ext h1.symm) (Fin.ext h2.symm))

/-- The three arrays after the run. -/
theorem final11 (c : Dev nD) : (dats m 0 c).arrAt 11 cfg0.N = (args m c).out := by
  refine (dats m 0 c).arrAt_eq_of_covers 11 _ (by decide +kernel) fun t _ y => ?_
  idx_vars y
  obtain rfl : y0 = 0 := Subsingleton.elim _ _
  refine (after11 m c t y1 y2).trans ((args m c).out_at ⟨t.val, t_lt t⟩ y1 y2 ?_ ?_ ?_) <;> blk_simp [idx t]
  rfl

theorem final12 (c : Dev nD) : (dats m 0 c).arrAt 12 cfg0.N = (args m c).tail := by
  refine (dats m 0 c).arrAt_eq_of_covers 12 _ (by decide +kernel) fun t _ y => ?_
  idx_vars y
  obtain rfl : y0 = 0 := Subsingleton.elim _ _
  refine (after12 m c t y1 y2).trans ((args m c).tail_at ⟨t.val, t_lt t⟩ y1 y2 ?_ ?_ ?_) <;> blk_simp [idx t]
  rfl

theorem final13 (c : Dev nD) : (dats m 0 c).arrAt 13 cfg0.N = (args m c).next := by
  refine (dats m 0 c).arrAt_eq_of_covers 13 _ (by decide +kernel) fun t _ y => ?_
  idx_vars y
  obtain rfl : y0 = 0 := Subsingleton.elim _ _
  refine (after13 m c t y1 y2 y3).trans ((args m c).next_at ⟨t.val, t_lt t⟩ (col y1 y2) y3 ?_ ?_ ?_) <;> blk_simp [idx t]
  rfl

end Cert.SsdIdeal.Arrays
-- ==== Proof.SsdRef.lean ====
/-
  The step's reference over the extended reals, read at an index: every intermediate array is one of the quantities of
  the sequence it belongs to.
-/
module

public import proofs.«01_k».proof.Proof.SsdSeq
public import proofs.«01_k».proof.Proof.Gen.SsdRefIdeal.Run

@[expose] public section

set_option maxRecDepth 16384

noncomputable section

namespace Cert.SsdRefIdeal.Step

open Cert.SsdRefIdeal Cert.SsdRefIdeal.Facts Cert.SsdRefIdeal.Gen Cert.SsdRefIdeal.Value Idealize.ShloMosaic Idealize.ShloMosaic.TcCoe Idealize.SL.Sem
open Cert.SsdStep Cert.SsdStep.Seq

variable (V0 : Valuation τ sig (Elt Ideal))

/-- The argument arrays. -/
abbrev args : Args where
  xbc := V0 (Proc.devRef .tc main_arg0)
  dt := V0 (Proc.devRef .tc main_arg1)
  z := V0 (Proc.devRef .tc main_arg2)
  w := V0 (Proc.devRef .tc main_arg3)
  b := V0 (Proc.devRef .tc main_arg4)
  bias := V0 (Proc.devRef .tc main_arg5)
  alog := V0 (Proc.devRef .tc main_arg6)
  skip := V0 (Proc.devRef .tc main_arg7)
  nw := V0 (Proc.devRef .tc main_arg8)
  past := V0 (Proc.devRef .tc main_arg9)
  h := V0 (Proc.devRef .tc main_arg10)

/-- The convolution's line, -/
theorem line_apply (i : Fin 32) (k : Fin 11) (j : Fin 1536) :
    ((res_main_v2 V0 : Vec Ideal S32x11x1536 .f32) (ix3 i k j) : EReal) = ((args V0).seq i).line k j := by
  unfold res_main_v2
  have e1 := fun (k : Fin 3) => show ((shapeCast S32x3x1536 (args V0).past shapeCasts_S1x32x3x1536_S32x3x1536 : Vec Ideal S32x3x1536 .f32) (ix3 i k j) : EReal)
      = ((args V0).seq i).past k j by
    show _ = (args V0).past _
    pointwise
  have e2 := fun (l : Fin 8) => show ((shapeCast S32x8x1536 (args V0).xbc shapeCasts_S256x1536_S32x8x1536 : Vec Ideal S32x8x1536 .f32) (ix3 i l j) : EReal)
      = ((args V0).seq i).u l j by
    show _ = (args V0).xbc _
    pointwise
  generalize shapeCast S32x3x1536 (args V0).past shapeCasts_S1x32x3x1536_S32x3x1536 = P at e1 ⊢
  generalize shapeCast S32x8x1536 (args V0).xbc shapeCasts_S256x1536_S32x8x1536 = U at e2 ⊢
  pointwise
  simp only [e1, e2]
  rfl

/-- the convolution, -/
theorem conv_apply (i : Fin 32) (l : Fin 8) (j : Fin 1536) :
    ((res_main_v36 V0 : Vec Ideal S32x8x1536 .f32) (ix3 i l j) : EReal) = ((args V0).seq i).conv l j := by
  have e := line_apply V0 i
  unfold res_main_v36
  generalize res_main_v2 V0 = A at e ⊢
  pointwise
  refine (congrArg₂ (fun u v : EReal => u + v) (congrArg₂ (fun u v : EReal => u + v) (congrArg₂ (fun u v : EReal => u + v) (congrArg₂ (fun u v : EReal => u + v)
    (congrArg (fun u : EReal => u * ((args V0).seq i).w 0 j) ((e _ j).trans (congrArg (fun k => ((args V0).seq i).line k j) ?_)))
    (congrArg (fun u : EReal => u * ((args V0).seq i).w 1 j) (e _ j))) (congrArg (fun u : EReal => u * ((args V0).seq i).w 2 j) (e _ j)))
    (congrArg (fun u : EReal => u * ((args V0).seq i).w 3 j) (e _ j))) rfl)
  exact Fin.ext (show l.val = 0 + l.val from (Nat.zero_add _).symm)

/-- its silu, -/
theorem act_apply (i : Fin 32) (l : Fin 8) (j : Fin 1536) :
    ((res_main_v37 V0 : Vec Ideal S32x8x1536 .f32) (ix3 i l j) : EReal) = ((args V0).seq i).act l j := by
  have e := conv_apply V0 i l j
  unfold res_main_v37
  generalize res_main_v36 V0 = A at e ⊢
  pointwise
  exact congrArg₂ (fun u v : EReal => u * Ideal.logistic v) e e

/-- and its three parts, -/
theorem x_apply (i : Fin 32) (l : Fin 8) (j : Fin 1024) :
    ((res_main_v38 V0 : Vec Ideal S32x8x1024 .f32) (ix3 i l j) : EReal) = ((args V0).seq i).x l j := by
  refine Eq.trans ?_ (act_apply V0 i l ⟨j.val, by omega⟩)
  unfold res_main_v38
  generalize res_main_v37 V0 = A
  pointwise

theorem x5_apply (i : Fin 32) (l : Fin 8) (g : Fin 2) (r : Fin 8) (p : Fin 64) :
    ((res_main_v41 V0 : Vec Ideal S32x8x2x8x64 .f32) (ix5 i l g r p) : EReal) = ((args V0).seq i).x l ⟨g.val * 512 + r.val * 64 + p.val, by omega⟩ := by
  refine Eq.trans ?_ (x_apply V0 i l _)
  unfold res_main_v41
  generalize res_main_v38 V0 = A
  pointwise

theorem B_apply (i : Fin 32) (l : Fin 8) (g : Fin 2) (n : Fin 128) :
    ((res_main_v42 V0 : Vec Ideal S32x8x2x128 .f32) (ix4 i l g n) : EReal) = ((args V0).seq i).B l g n := by
  refine Eq.trans ?_ (act_apply V0 i l _)
  unfold res_main_v42
  generalize res_main_v37 V0 = A
  pointwise
  exact congrArg (fun j => A (ix3 i l j)) (Fin.ext (Nat.add_assoc 1024 (g.val * 128) n.val).symm)

theorem C_apply (i : Fin 32) (l : Fin 8) (g : Fin 2) (n : Fin 128) :
    ((res_main_v43 V0 : Vec Ideal S32x8x2x128 .f32) (ix4 i l g n) : EReal) = ((args V0).seq i).C l g n := by
  refine Eq.trans ?_ (act_apply V0 i l _)
  unfold res_main_v43
  generalize res_main_v37 V0 = A
  pointwise
  exact congrArg (fun j => A (ix3 i l j)) (Fin.ext (Nat.add_assoc 1280 (g.val * 128) n.val).symm)

/-- The time steps with their bias, -/
theorem raw_apply (i : Fin 32) (l : Fin 8) (h : Fin 16) :
    ((res_main_v49 V0 : Vec Ideal S32x8x16 .f32) (ix3 i l h) : EReal) = ((args V0).seq i).dt l h + ((args V0).seq i).bias h := by
  show _ = (args V0).dt _ + (args V0).bias _
  unfold res_main_v49
  pointwise

/-- after softplus, -/
theorem d_apply (i : Fin 32) (l : Fin 8) (g : Fin 2) (r : Fin 8) :
    ((res_main_v51 V0 : Vec Ideal S32x8x2x8 .f32) (ix4 i l g r) : EReal) = ((args V0).seq i).d l ⟨g.val * 8 + r.val, by omega⟩ := by
  have e := raw_apply V0 i l ⟨g.val * 8 + r.val, by omega⟩
  unfold res_main_v51 res_main_call1_v3 res_main_call1_cst
  generalize res_main_v49 V0 = A at e ⊢
  pointwise
  rw [if_neg (fun h => h rfl), e]
  rfl

/-- A running sum along the tokens: the windows of eight that end at each, zeros before the first. -/
theorem running_sum (A : Vec Ideal S32x8x2x8 .f32) (z : Vec Ideal S_ .f32) (hz : ∀ i, (z i : EReal) = 0) (i : Fin 32) (l : Fin 8) (g : Fin 2) (r : Fin 8) :
    ((Host.reduceWindowAdd (F := Ideal) (φ := .f32) ![1, 8, 1, 1] ![1, 1, 1, 1] ![0, 7, 0, 0] ![0, 0, 0, 0] A z
      reduceWindows_S32x8x2x8_S32x8x2x8_w1s1p0_0_w8s1p7_0_w1s1p0_0_w1s1p0_0 h_S_ : Vec Ideal S32x8x2x8 .f32) (ix4 i l g r) : EReal)
      = ∑ s : Fin 8, if s.val ≤ l.val then (A (ix4 i s g r) : EReal) else 0 := by
  have fold : ∀ (n : ℕ) (f : Fin n → EReal) (v : EReal), (List.finRange n).foldl (fun a k => a + f k) v = v + ∑ k, f k := by
    intro n f v
    rw [← List.sum_ofFn, List.ofFn_eq_map]
    generalize List.finRange n = L
    induction L generalizing v with
    | nil => simp
    | cons k L ih => simp [ih, add_assoc]
  let F : (⟨4, ![1, 8, 1, 1]⟩ : Shape).Idx → EReal := fun w =>
    if hin : ∀ a : Fin 4, (![0, 7, 0, 0] : Fin 4 → ℕ) a ≤ (ix4 i l g r a).val * (![1, 1, 1, 1] : Fin 4 → ℕ) a + (w a).val
        ∧ (ix4 i l g r a).val * (![1, 1, 1, 1] : Fin 4 → ℕ) a + (w a).val - (![0, 7, 0, 0] : Fin 4 → ℕ) a < S32x8x2x8.size a
      then A (fun a => ⟨(ix4 i l g r a).val * (![1, 1, 1, 1] : Fin 4 → ℕ) a + (w a).val - (![0, 7, 0, 0] : Fin 4 → ℕ) a, (hin a).2⟩)
      else z (Shape.Idx.first h_S_)
  have Fp : ∀ w (hin : ∀ a : Fin 4, (![0, 7, 0, 0] : Fin 4 → ℕ) a ≤ (ix4 i l g r a).val * (![1, 1, 1, 1] : Fin 4 → ℕ) a + (w a).val
        ∧ (ix4 i l g r a).val * (![1, 1, 1, 1] : Fin 4 → ℕ) a + (w a).val - (![0, 7, 0, 0] : Fin 4 → ℕ) a < S32x8x2x8.size a), F w = A (fun a => ⟨(ix4 i l g r a).val * (![1, 1, 1, 1] : Fin 4 → ℕ) a + (w a).val - (![0, 7, 0, 0] : Fin 4 → ℕ) a, (hin a).2⟩) :=
    fun w hin => dif_pos hin
  have Fn : ∀ w (hin : ¬∀ a : Fin 4, (![0, 7, 0, 0] : Fin 4 → ℕ) a ≤ (ix4 i l g r a).val * (![1, 1, 1, 1] : Fin 4 → ℕ) a + (w a).val
        ∧ (ix4 i l g r a).val * (![1, 1, 1, 1] : Fin 4 → ℕ) a + (w a).val - (![0, 7, 0, 0] : Fin 4 → ℕ) a < S32x8x2x8.size a), F w = z (Shape.Idx.first h_S_) := fun w hin => dif_neg hin
  have step : ∀ k : Fin 8, F (ix4 0 k 0 0) = if h : 7 ≤ l.val + k.val then (A (ix4 i ⟨l.val + k.val - 7, by omega⟩ g r) : EReal) else 0 := by
    intro k
    by_cases h : 7 ≤ l.val + k.val
    · have hin : ∀ a : Fin 4, (![0, 7, 0, 0] : Fin 4 → ℕ) a ≤ (ix4 i l g r a).val * (![1, 1, 1, 1] : Fin 4 → ℕ) a + ((ix4 0 k 0 0 : (⟨4, ![1, 8, 1, 1]⟩ : Shape).Idx) a).val
        ∧ (ix4 i l g r a).val * (![1, 1, 1, 1] : Fin 4 → ℕ) a + ((ix4 0 k 0 0 : (⟨4, ![1, 8, 1, 1]⟩ : Shape).Idx) a).val - (![0, 7, 0, 0] : Fin 4 → ℕ) a < S32x8x2x8.size a := by
        intro a
        fin_cases a
        · show 0 ≤ i.val * 1 + 0 ∧ i.val * 1 + 0 - 0 < 32; omega
        · show 7 ≤ l.val * 1 + k.val ∧ l.val * 1 + k.val - 7 < 8; omega
        · show 0 ≤ g.val * 1 + 0 ∧ g.val * 1 + 0 - 0 < 2; omega
        · show 0 ≤ r.val * 1 + 0 ∧ r.val * 1 + 0 - 0 < 8; omega
      refine (dif_pos hin).trans ?_
      rw [dif_pos h]
      refine congrArg A (funext fun a => Fin.ext ?_)
      fin_cases a
      · show i.val * 1 + 0 - 0 = i.val; omega
      · show l.val * 1 + k.val - 7 = l.val + k.val - 7; omega
      · show g.val * 1 + 0 - 0 = g.val; omega
      · show r.val * 1 + 0 - 0 = r.val; omega
    · rw [dif_neg h]
      refine (dif_neg fun hin => h ?_).trans (hz _)
      have : 7 ≤ l.val * 1 + k.val := (hin 1).1
      omega
  have e : ((Host.reduceWindowAdd (F := Ideal) (φ := .f32) ![1, 8, 1, 1] ![1, 1, 1, 1] ![0, 7, 0, 0] ![0, 0, 0, 0] A z
      reduceWindows_S32x8x2x8_S32x8x2x8_w1s1p0_0_w8s1p7_0_w1s1p0_0_w1s1p0_0 h_S_ : Vec Ideal S32x8x2x8 .f32) (ix4 i l g r) : EReal)
      = (List.finRange (⟨4, ![1, 8, 1, 1]⟩ : Shape).numel).foldl (fun a n => a + F ((⟨4, ![1, 8, 1, 1]⟩ : Shape).rowMajor.symm n)) (z (Shape.Idx.first h_S_)) := by
    unfold Host.reduceWindowAdd
    rw [Ideal.hostReduceWindowAdd_def]
    unfold Ideal.hostReduceWindowAdd Host.reduceWindow
    refine congrArg (fun f : EReal → Fin (⟨4, ![1, 8, 1, 1]⟩ : Shape).numel → EReal => (List.finRange _).foldl f (z (Shape.Idx.first h_S_))) (funext fun a => funext fun n => ?_)
    refine congrArg (fun b : EReal => a + b) ?_
    split
    · next hin => exact (Fp _ hin).symm
    · next hin => exact (Fn _ hin).symm
  rw [e, fold, hz, zero_add, Equiv.sum_comp (⟨4, ![1, 8, 1, 1]⟩ : Shape).rowMajor.symm F]
  have tr : ∑ w, F w = ∑ k : Fin 8, F (ix4 0 k 0 0) := by
    refine (Fintype.sum_bijective (fun k : Fin 8 => (ix4 0 k 0 0 : (⟨4, ![1, 8, 1, 1]⟩ : Shape).Idx)) ⟨fun a b h => congrFun h 1, fun w => ⟨w 1, ?_⟩⟩ _ _ fun _ => rfl).symm
    idx_vars w
    obtain rfl : w0 = 0 := Subsingleton.elim _ _
    obtain rfl : w2 = 0 := Subsingleton.elim _ _
    obtain rfl : w3 = 0 := Subsingleton.elim _ _
    rfl
  rw [tr]
  simp only [step]
  fin_cases l <;> simp [Fin.sum_univ_eight]

/-- The running sums of the steps times the heads' rates. -/
theorem ac_apply (i : Fin 32) (l : Fin 8) (g : Fin 2) (r : Fin 8) :
    ((res_main_v59 V0 : Vec Ideal S32x8x2x8 .f32) (ix4 i l g r) : EReal) = ((args V0).seq i).ac l ⟨g.val * 8 + r.val, by omega⟩ := by
  have e := fun s => d_apply V0 i s g r
  unfold res_main_v59
  generalize res_main_v51 V0 = A at e ⊢
  refine (running_sum _ _ ?_ i l g r).trans ?_
  · intro j
    pointwise
  · refine Finset.sum_congr rfl fun s _ => ?_
    refine if_congr Iff.rfl ?_ rfl
    show _ = _ * -(Ideal.exp ((args V0).alog _))
    pointwise
    rw [e]

/-- The carried state, -/
theorem h_apply (i : Fin 32) (g : Fin 2) (r : Fin 8) (p : Fin 64) (n : Fin 128) :
    ((res_main_v90 V0 : Vec Ideal S32x2x8x64x128 .f32) (ix5 i g r p n) : EReal) = ((args V0).seq i).h ⟨g.val * 8 + r.val, by omega⟩ p n := by
  show _ = (args V0).h _
  unfold res_main_v90
  pointwise

/-- and the gate. -/
theorem z_apply (i : Fin 32) (l : Fin 8) (j : Fin 1024) :
    ((res_main_v115 V0 : Vec Ideal S32x8x1024 .f32) (ix3 i l j) : EReal) = ((args V0).seq i).z l j := by
  show _ = (args V0).z _
  unfold res_main_v115
  pointwise

end Cert.SsdRefIdeal.Step
-- ==== Proof.SsdGate.lean ====
/-
  The step's reference over the extended reals, its three results: what a token reads of the others and of the carried
  state, the gate and the normalisation; the last tokens of the convolution's line; the state carried on.
-/
module

public import proofs.«01_k».proof.Proof.SsdRef
public import Idealize.ShloMosaic.Lib.WordCmp

@[expose] public section

set_option maxRecDepth 16384

noncomputable section

namespace Cert.SsdRefIdeal.Step

open Cert.SsdRefIdeal Cert.SsdRefIdeal.Facts Cert.SsdRefIdeal.Gen Cert.SsdRefIdeal.Value Idealize.ShloMosaic Idealize.ShloMosaic.TcCoe Idealize.SL.Sem
open Cert.SsdStep Cert.SsdStep.Seq

section Arrays

variable (X : Vec Ideal S32x8x2x8x64 .f32) (B C : Vec Ideal S32x8x2x128 .f32) (D A : Vec Ideal S32x8x2x8 .f32) (H : Vec Ideal S32x2x8x64x128 .f32)
  (M : Vec Ideal S32x8x8x2x8 .f32) (Z X3 : Vec Ideal S32x8x1024 .f32) (sk : Vec Ideal S1x16 .f32) (nw : Vec Ideal S1x1024 .f32)

/-- The products of tokens' B and C, -/
def pairDot : Vec Ideal S32x2x8x8 .f32 :=
  Host.dotGeneral (F := Ideal) (φ₁ := .f32) (φ₂ := .f32) dot_S32x8x2x128_S32x8x2x128_S32x2x8x8_3_3_1_1_02_02 none B C

theorem pairDot_apply (i : Fin 32) (g : Fin 2) (s l : Fin 8) :
    (pairDot B C (ix4 i g s l) : EReal) = ∑ n : Fin 128, C (ix4 i l g n) * B (ix4 i s g n) := by
  unfold pairDot
  pointwise []
  exact Finset.sum_congr rfl fun n _ => mul_comm _ _

/-- the decay from one token to another, -/
def decay : Vec Ideal S32x8x8x2x8 .f32 :=
  Host.exp (F := Ideal) (φ := .f32) (select (broadcastInDim S32x8x8x2x8 ![1, 2, 3, 4] bcast_S8x8x1x1_S32x8x8x2x8_1_2_3_4 (broadcastInDim S8x8x1x1 ![0, 1] bcast_S8x8_S8x8x1x1_0_1 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))) (subf (F := Ideal) (φ := .f32) (broadcastInDim S32x8x8x2x8 ![0, 1, 2, 3, 4] bcast_S32x8x1x2x8_S32x8x8x2x8_0_1_2_3_4 (broadcastInDim S32x8x1x2x8 ![0, 1, 3, 4] bcast_S32x8x2x8_S32x8x1x2x8_0_1_3_4 A)) (broadcastInDim S32x8x8x2x8 ![0, 1, 2, 3, 4] bcast_S32x1x8x2x8_S32x8x8x2x8_0_1_2_3_4 (broadcastInDim S32x1x8x2x8 ![0, 2, 3, 4] bcast_S32x8x2x8_S32x1x8x2x8_0_2_3_4 A))) (broadcastInDim S32x8x8x2x8 ![] bcast_S_S32x8x8x2x8 (id (constant (F := Ideal) S_ .f32 0xFF800000#32))))

theorem decay_apply (i : Fin 32) (l s : Fin 8) (g : Fin 2) (r : Fin 8) :
    (decay A (ix5 i l s g r) : EReal)
      = Ideal.exp (if s.val ≤ l.val then (A (ix4 i l g r) : EReal) - A (ix4 i s g r) else Ideal.ofBits .f32 0xFF800000#32) := by
  unfold decay
  pointwise []
  have hb : IntOp.cmpi .sge (IntOp.addi (BitVec.ofNat 32 l.val) 0#32) (BitVec.ofNat 32 s.val) = 1#1 ↔ s.val ≤ l.val := by
    rw [show IntOp.addi (BitVec.ofNat 32 l.val) 0#32 = BitVec.ofNat 32 l.val from BitVec.add_zero _]
    word_cmp
  have h0 : ∀ b : BitVec 1, ¬b = 1#1 → b = 0#1 := by decide
  refine congrArg Ideal.exp ?_
  by_cases h : s.val ≤ l.val
  · rw [if_pos h, hb.2 h]
    rfl
  · rw [if_neg h, h0 _ (mt hb.1 h)]
    rfl

/-- what a token reads of another, -/
def mixed : Vec Ideal S32x8x8x2x8 .f32 :=
  mulf (F := Ideal) (φ := .f32) (mulf (F := Ideal) (φ := .f32) (broadcastInDim S32x8x8x2x8 ![0, 1, 2, 3, 4] bcast_S32x8x8x2x1_S32x8x8x2x8_0_1_2_3_4 (broadcastInDim S32x8x8x2x1 ![0, 1, 2, 3] bcast_S32x8x8x2_S32x8x8x2x1_0_1_2_3 (transpose S32x8x8x2 [0, 3, 2, 1] (pairDot B C) transposes_S32x2x8x8_S32x8x8x2_0_3_2_1))) (decay A)) (broadcastInDim S32x8x8x2x8 ![0, 1, 2, 3, 4] bcast_S32x1x8x2x8_S32x8x8x2x8_0_1_2_3_4 (broadcastInDim S32x1x8x2x8 ![0, 2, 3, 4] bcast_S32x8x2x8_S32x1x8x2x8_0_2_3_4 D))

theorem mixed_apply (i : Fin 32) (l s : Fin 8) (g : Fin 2) (r : Fin 8) :
    (mixed B C D A (ix5 i l s g r) : EReal) = pairDot B C (ix4 i g s l) * decay A (ix5 i l s g r) * D (ix4 i s g r) := by
  unfold mixed
  generalize pairDot B C = P
  generalize decay A = E
  pointwise []

/-- of all of them and of the carried state, -/
def reads : Vec Ideal S32x8x2x8x64 .f32 :=
  addf (F := Ideal) (φ := .f32) (transpose S32x8x2x8x64 [0, 4, 1, 2, 3] (Host.dotGeneral (F := Ideal) (φ₁ := .f32) (φ₂ := .f32) dot_S32x8x2x8x64_S32x8x8x2x8_S32x2x8x64x8_1_2_4_1_023_034 none X M) transposes_S32x2x8x64x8_S32x8x2x8x64_0_4_1_2_3) (mulf (F := Ideal) (φ := .f32) (transpose S32x8x2x8x64 [0, 4, 1, 2, 3] (Host.dotGeneral (F := Ideal) (φ₁ := .f32) (φ₂ := .f32) dot_S32x2x8x64x128_S32x8x2x128_S32x2x8x64x8_4_3_23_1_01_02 none H C) transposes_S32x2x8x64x8_S32x8x2x8x64_0_4_1_2_3) (broadcastInDim S32x8x2x8x64 ![0, 1, 2, 3, 4] bcast_S32x8x2x8x1_S32x8x2x8x64_0_1_2_3_4 (broadcastInDim S32x8x2x8x1 ![0, 1, 2, 3] bcast_S32x8x2x8_S32x8x2x8x1_0_1_2_3 (Host.exp (F := Ideal) (φ := .f32) A))))

theorem reads_apply (i : Fin 32) (l : Fin 8) (g : Fin 2) (r : Fin 8) (p : Fin 64) :
    (reads X C A H M (ix5 i l g r p) : EReal) = (∑ s : Fin 8, M (ix5 i l s g r) * X (ix5 i s g r p))
      + (∑ n : Fin 128, C (ix4 i l g n) * H (ix5 i g r p n)) * Ideal.exp (A (ix4 i l g r)) := by
  unfold reads
  pointwise []
  refine congrArg₂ (fun u v : EReal => u + v * _) (Finset.sum_congr rfl fun n _ => mul_comm _ _) (Finset.sum_congr rfl fun n _ => mul_comm _ _)

/-- with what it skips to itself, -/
def skipped (Y : Vec Ideal S32x8x2x8x64 .f32) : Vec Ideal S32x8x16x64 .f32 :=
  addf (F := Ideal) (φ := .f32) (shapeCast (α := Ideal .f32) _ Y shapeCasts_S32x8x2x8x64_S32x8x16x64) (mulf (F := Ideal) (φ := .f32) (broadcastInDim S32x8x16x64 ![0, 1, 2, 3] bcast_S1x1x16x1_S32x8x16x64_0_1_2_3 (broadcastInDim S1x1x16x1 ![2, 3] bcast_S16x1_S1x1x16x1_2_3 (broadcastInDim S16x1 ![0] bcast_S16_S16x1_0 (shapeCast (α := Ideal .f32) _ sk shapeCasts_S1x16_S16)))) (shapeCast (α := Ideal .f32) _ X3 shapeCasts_S32x8x1024_S32x8x16x64))

theorem skipped_apply (Y : Vec Ideal S32x8x2x8x64 .f32) (i : Fin 32) (l : Fin 8) (g : Fin 2) (r : Fin 8) (p : Fin 64) :
    (skipped X3 sk Y (ix4 i l ⟨g.val * 8 + r.val, by omega⟩ p) : EReal)
      = Y (ix5 i l g r p) + sk (ix2 0 ⟨g.val * 8 + r.val, by omega⟩) * X3 (ix3 i l ⟨(g.val * 8 + r.val) * 64 + p.val, by omega⟩) := by
  unfold skipped
  pointwise []

/-- and gated. -/
def gate (Y : Vec Ideal S32x8x16x64 .f32) : Vec Ideal S32x8x2x512 .f32 :=
  shapeCast (α := Ideal .f32) _ (mulf (F := Ideal) (φ := .f32) (shapeCast (α := Ideal .f32) _ Y shapeCasts_S32x8x16x64_S32x8x1024) (mulf (F := Ideal) (φ := .f32) Z (Host.divf (F := Ideal) (φ := .f32) (broadcastInDim S32x8x1024 ![] bcast_S_S32x8x1024 (constant (F := Ideal) S_ .f32 0x3F800000#32)) (addf (F := Ideal) (φ := .f32) (broadcastInDim S32x8x1024 ![] bcast_S_S32x8x1024 (constant (F := Ideal) S_ .f32 0x3F800000#32)) (Host.exp (F := Ideal) (φ := .f32) (Host.negf (F := Ideal) (φ := .f32) Z)))))) shapeCasts_S32x8x1024_S32x8x2x512

theorem gate_apply (Y : Vec Ideal S32x8x16x64 .f32) (i : Fin 32) (l : Fin 8) (g : Fin 2) (k : Fin 512) :
    (gate Z Y (ix4 i l g k) : EReal) = Y (ix4 i l ⟨(g.val * 512 + k.val) / 64, by omega⟩ ⟨(g.val * 512 + k.val) % 64, by omega⟩)
      * (Z (ix3 i l ⟨g.val * 512 + k.val, by omega⟩) * Ideal.logistic (Z (ix3 i l ⟨g.val * 512 + k.val, by omega⟩))) := by
  unfold gate
  pointwise []
  rfl

/-- The normalised output of a gated one. -/
def normed (G : Vec Ideal S32x8x2x512 .f32) : Vec Ideal S32x8x1024 .f32 :=
  mulf (F := Ideal) (φ := .f32) (shapeCast (α := Ideal .f32) _ (mulf (F := Ideal) (φ := .f32) G (broadcastInDim S32x8x2x512 ![0, 1, 2, 3] bcast_S32x8x2x1_S32x8x2x512_0_1_2_3 (Host.rsqrt (F := Ideal) (φ := .f32) (addf (F := Ideal) (φ := .f32) (Host.divf (F := Ideal) (φ := .f32) (broadcastInDim S32x8x2x1 ![0, 1, 2] bcast_S32x8x2_S32x8x2x1_0_1_2 (Host.reduceAdd (F := Ideal) (φ := .f32) (mulf (F := Ideal) (φ := .f32) G G) (constant (F := Ideal) S_ .f32 0x00000000#32) reducesTo_S32x8x2x512_S32x8x2_d3 h_S_)) (broadcastInDim S32x8x2x1 ![] bcast_S_S32x8x2x1 (constant (F := Ideal) S_ .f32 0x44000000#32))) (broadcastInDim S32x8x2x1 ![] bcast_S_S32x8x2x1 (constant (F := Ideal) S_ .f32 0x3727C5AC#32)))))) shapeCasts_S32x8x2x512_S32x8x1024) (broadcastInDim S32x8x1024 ![0, 1, 2] bcast_S1x1x1024_S32x8x1024_0_1_2 (broadcastInDim S1x1x1024 ![2] bcast_S1024_S1x1x1024_2 (shapeCast (α := Ideal .f32) _ nw shapeCasts_S1x1024_S1024)))

theorem normed_apply (G : Vec Ideal S32x8x2x512 .f32) (i : Fin 32) (l : Fin 8) (j : Fin 1024) :
    (normed nw G (ix3 i l j) : EReal) = G (ix4 i l ⟨j.val / 512, by omega⟩ ⟨j.val % 512, by omega⟩)
      * Ideal.rsqrt (Ideal.div (∑ k : Fin 512, G (ix4 i l ⟨j.val / 512, by omega⟩ k) * G (ix4 i l ⟨j.val / 512, by omega⟩ k)) (Ideal.ofBits .f32 0x44000000#32)
        + Ideal.ofBits .f32 0x3727C5AC#32) * nw (ix2 0 j) := by
  unfold normed
  pointwise []

/-- The state carried on. -/
def carried : Vec Ideal S32x8x128x128 .f32 :=
  shapeCast (α := Ideal .f32) _ (addf (F := Ideal) (φ := .f32) (mulf (F := Ideal) (φ := .f32) H (broadcastInDim S32x2x8x64x128 ![0, 1, 2, 3, 4] bcast_S32x2x8x1x1_S32x2x8x64x128_0_1_2_3_4 (broadcastInDim S32x2x8x1x1 ![0, 1, 2] bcast_S32x2x8_S32x2x8x1x1_0_1_2 (Host.exp (F := Ideal) (φ := .f32) (shapeCast (α := Ideal .f32) _ (extractStridedSlice S32x1x2x8 ![0, 7, 0, 0] A slices_S32x8x2x8_S32x1x2x8_0_7_0_0) shapeCasts_S32x1x2x8_S32x2x8))))) (Host.dotGeneral (F := Ideal) (φ₁ := .f32) (φ₂ := .f32) dot_S32x8x2x8x64_S32x8x2x128_S32x2x8x64x128_1_1_34_3_02_02 none (mulf (F := Ideal) (φ := .f32) (broadcastInDim S32x8x2x8x64 ![0, 1, 2, 3, 4] bcast_S32x8x2x8x1_S32x8x2x8x64_0_1_2_3_4 (broadcastInDim S32x8x2x8x1 ![0, 1, 2, 3] bcast_S32x8x2x8_S32x8x2x8x1_0_1_2_3 (mulf (F := Ideal) (φ := .f32) (Host.exp (F := Ideal) (φ := .f32) (subf (F := Ideal) (φ := .f32) (broadcastInDim S32x8x2x8 ![0, 1, 2, 3] bcast_S32x1x2x8_S32x8x2x8_0_1_2_3 (extractStridedSlice S32x1x2x8 ![0, 7, 0, 0] A slices_S32x8x2x8_S32x1x2x8_0_7_0_0)) A)) D))) X) B)) shapeCasts_S32x2x8x64x128_S32x8x128x128

/-- Its entry at a group, a head of it, a place in the head and a lane. -/
def stateAt (i : Fin 32) (g : Fin 2) (r : Fin 8) (p : Fin 64) (n : Fin 128) : EReal :=
  H (ix5 i g r p n) * Ideal.exp (A (ix4 i 7 g r))
    + ∑ s : Fin 8, Ideal.exp ((A (ix4 i 7 g r) : EReal) - A (ix4 i s g r)) * D (ix4 i s g r) * X (ix5 i s g r p) * B (ix4 i s g n)

theorem carried_apply (i : Fin 32) (k : Fin 8) (m n : Fin 128) :
    (carried X B D A H (ix4 i k m n) : EReal)
      = stateAt X B D A H i ⟨k.val / 4, by omega⟩ ⟨k.val % 4 * 2 + m.val / 64, by omega⟩ ⟨m.val % 64, by omega⟩ n := by
  unfold carried stateAt
  pointwise []

end Arrays

variable (V0 : Valuation τ sig (Elt Ideal))

/-- A column's head, its group and its place in the head. -/
theorem head_eq (g : Fin 2) (r : Fin 8) (p : Fin 64) : head ⟨(g.val * 8 + r.val) * 64 + p.val, by omega⟩ = ⟨g.val * 8 + r.val, by omega⟩ :=
  Fin.ext (show ((g.val * 8 + r.val) * 64 + p.val) / 64 = g.val * 8 + r.val by omega)
theorem group_eq (g : Fin 2) (r : Fin 8) (p : Fin 64) : (⟨((g.val * 8 + r.val) * 64 + p.val) / 512, by omega⟩ : Fin 2) = g :=
  Fin.ext (show ((g.val * 8 + r.val) * 64 + p.val) / 512 = g.val by omega)
theorem group_head_eq (g : Fin 2) (r : Fin 8) (h : (g.val * 8 + r.val) / 8 < 2) : (⟨(g.val * 8 + r.val) / 8, h⟩ : Fin 2) = g :=
  Fin.ext (show (g.val * 8 + r.val) / 8 = g.val by omega)
theorem place_eq (g : Fin 2) (r : Fin 8) (p : Fin 64) : (⟨((g.val * 8 + r.val) * 64 + p.val) % 64, by omega⟩ : Fin 64) = p :=
  Fin.ext (show ((g.val * 8 + r.val) * 64 + p.val) % 64 = p.val by omega)
theorem column_eq (g : Fin 2) (r : Fin 8) (p : Fin 64) (h : g.val * 512 + r.val * 64 + p.val < 1024) :
    (⟨g.val * 512 + r.val * 64 + p.val, h⟩ : Fin 1024) = ⟨(g.val * 8 + r.val) * 64 + p.val, by omega⟩ :=
  Fin.ext (show g.val * 512 + r.val * 64 + p.val = (g.val * 8 + r.val) * 64 + p.val by omega)

/-- The reference's output before the gate. -/
abbrev yArr : Vec Ideal S32x8x16x64 .f32 :=
  skipped (res_main_v38 V0) (args V0).skip (reads (res_main_v41 V0) (res_main_v43 V0) (res_main_v59 V0) (res_main_v90 V0)
    (mixed (res_main_v42 V0) (res_main_v43 V0) (res_main_v51 V0) (res_main_v59 V0)))

theorem mix_apply (i : Fin 32) (l s : Fin 8) (g : Fin 2) (r : Fin 8) :
    (mixed (res_main_v42 V0) (res_main_v43 V0) (res_main_v51 V0) (res_main_v59 V0) (ix5 i l s g r) : EReal)
      = ((args V0).seq i).mix l s ⟨g.val * 8 + r.val, by omega⟩ := by
  rw [mixed_apply, pairDot_apply, decay_apply, d_apply, ac_apply, ac_apply]
  simp only [B_apply, C_apply]
  unfold mix
  simp only [group_head_eq]

theorem y_apply (i : Fin 32) (l : Fin 8) (g : Fin 2) (r : Fin 8) (p : Fin 64) :
    (yArr V0 (ix4 i l ⟨g.val * 8 + r.val, by omega⟩ p) : EReal) = ((args V0).seq i).y l ⟨(g.val * 8 + r.val) * 64 + p.val, by omega⟩ := by
  refine (skipped_apply _ _ _ i l g r p).trans ?_
  rw [reads_apply, ac_apply, x_apply]
  simp only [mix_apply, x5_apply, C_apply, h_apply, column_eq]
  unfold y
  simp only [head_eq, group_eq, place_eq]
  rfl

/-- Its gated output, -/
theorem g_apply (i : Fin 32) (l : Fin 8) (g : Fin 2) (k : Fin 512) :
    ((res_main_v118 V0 : Vec Ideal S32x8x2x512 .f32) (ix4 i l g k) : EReal) = ((args V0).seq i).gated l ⟨g.val * 512 + k.val, by omega⟩ := by
  refine (gate_apply (res_main_v115 V0) (yArr V0) i l g k).trans ?_
  rw [z_apply]
  unfold gated
  refine congrArg (fun u : EReal => u * _) ?_
  have e := y_apply V0 i l g ⟨k.val / 64, by omega⟩ ⟨k.val % 64, by omega⟩
  have e1 : (⟨(g.val * 512 + k.val) / 64, by omega⟩ : Fin 16) = ⟨g.val * 8 + k.val / 64, by omega⟩ :=
    Fin.ext (show (g.val * 512 + k.val) / 64 = g.val * 8 + k.val / 64 by omega)
  have e2 : (⟨(g.val * 512 + k.val) % 64, by omega⟩ : Fin 64) = ⟨k.val % 64, by omega⟩ :=
    Fin.ext (show (g.val * 512 + k.val) % 64 = k.val % 64 by omega)
  rw [e1, e2]
  refine e.trans (congrArg (((args V0).seq i).y l) (Fin.ext ?_))
  show (g.val * 8 + k.val / 64) * 64 + k.val % 64 = g.val * 512 + k.val
  omega

/-- the normalised one, -/
theorem out_eq : normed (args V0).nw (res_main_v118 V0) = (args V0).out := by
  funext x
  idx_vars x
  refine (normed_apply (args V0).nw (res_main_v118 V0) x0 x1 x2).trans ?_
  simp only [g_apply]
  show _ = ((args V0).seq x0).out x1 x2
  unfold out meanSq
  refine congrArg (fun u : EReal => u * _ * _) (congrArg (((args V0).seq x0).gated x1) (Fin.ext ?_))
  show x2.val / 512 * 512 + x2.val % 512 = x2.val
  omega

/-- the tokens for the next call, -/
theorem tail_eq : (extractStridedSlice S32x3x1536 ![0, 8, 0] (res_main_v2 V0) slices_S32x11x1536_S32x3x1536_0_8_0 : Vec Ideal S32x3x1536 .f32) = (args V0).tail := by
  funext x
  idx_vars x
  have e := fun k => line_apply V0 x0 k x2
  generalize res_main_v2 V0 = A at e ⊢
  pointwise []
  refine (e _).trans ?_
  show ((args V0).seq x0).line _ x2 = ((args V0).seq x0).tail x1 x2
  unfold line tail
  rw [dif_neg (by dsimp only; omega)]
  exact congrArg (fun k => ((args V0).seq x0).u k x2) (Fin.ext (show 8 + x1.val - 3 = 5 + x1.val by omega))

/-- and the state. -/
theorem next_eq : carried (res_main_v41 V0) (res_main_v42 V0) (res_main_v51 V0) (res_main_v59 V0) (res_main_v90 V0) = (args V0).next := by
  funext x
  idx_vars x
  rw [carried_apply _ _ _ _ _ x0 x1 x2 x3]
  refine Eq.trans ?_ (Args.next_at (args V0) x0 ⟨(x1.val / 4 * 8 + (x1.val % 4 * 2 + x2.val / 64)) * 64 + x2.val % 64, by omega⟩ x3 rfl
    (show x1.val * 128 + x2.val = (x1.val / 4 * 8 + (x1.val % 4 * 2 + x2.val / 64)) * 64 + x2.val % 64 by omega) rfl)
  have at_place : ∀ (g : Fin 2) (r : Fin 8) (p : Fin 64),
      stateAt (res_main_v41 V0) (res_main_v42 V0) (res_main_v51 V0) (res_main_v59 V0) (res_main_v90 V0) x0 g r p x3
        = ((args V0).seq x0).next ⟨(g.val * 8 + r.val) * 64 + p.val, by omega⟩ x3 := by
    intro g r p
    unfold stateAt
    simp only [ac_apply, d_apply, x5_apply, B_apply, h_apply, column_eq]
    unfold next
    simp only [head_eq, group_eq, place_eq]
    refine congrArg (fun u : EReal => _ + u) (Finset.sum_congr rfl fun s _ => congrArg (fun u : EReal => u * _) (mul_comm _ _))
  exact at_place ⟨x1.val / 4, by omega⟩ ⟨x1.val % 4 * 2 + x2.val / 64, by omega⟩ ⟨x2.val % 64, by omega⟩

end Cert.SsdRefIdeal.Step
-- ==== Proof.SsdClaim.lean ====
/-
  The state-space step's value claim: from arguments that agree, kernel and reference end with equal results.
-/
module

public import proofs.«01_k».proof.Defs
public import proofs.«01_k».proof.Proof.SsdValue
public import proofs.«01_k».proof.Proof.SsdGate
public import proofs.«01_k».proof.Proof.Gen.SsdIdeal.Frame
public import Idealize.ShloMosaic.Lib.Quiescent

@[expose] public section

set_option maxRecDepth 16384

noncomputable section

namespace Cert.SsdClaim

open Idealize.ShloMosaic Idealize.ShloMosaic.TcCoe Idealize.SL.Sem
open Cert.SsdIdeal.Host (args)

/-- The reference ends without fault, its arguments kept. -/
theorem frame_ref : @Cert.quiescent_SsdRefIdeal Cert.SsdRefIdeal.Gen.facts := fun m ρ _ =>
  (θ_run Cert.SsdRefIdeal.defs _ _).mono
    (fun r h => ⟨fun c => (h c).2.2.2, Idealize.ShloMosaic.sem_eq_zero_of_no_sems (by decide) r.2⟩)
    (Cert.SsdRefIdeal.Value.run (F := Ideal) m ρ)

/-- Kernel and reference compute the same three arrays over the extended reals. -/
theorem value : @Cert.algebraic_SsdIdeal_SsdRefIdeal Cert.SsdIdeal.Gen.facts Cert.SsdRefIdeal.Gen.facts := by
  intro m ρ m' ρ' _ hag
  refine ⟨fun c => (args m c).out, fun c => (args m c).tail, fun c => (args m c).next, ?_, ?_⟩
  · refine (θ_run _ _ _).mono (fun r h c => ?_) (Cert.SsdIdeal.Value.run_blocks (F := Ideal) m ρ)
    obtain ⟨h11, h12, h13, hargs⟩ := h c
    exact ⟨h11.trans (Cert.SsdIdeal.Arrays.final11 m c), h12.trans (Cert.SsdIdeal.Arrays.final12 m c),
      h13.trans (Cert.SsdIdeal.Arrays.final13 m c), hargs⟩
  · refine (θ_run _ _ _).mono (fun r h c => ?_) (Cert.SsdRefIdeal.Value.run (F := Ideal) m' ρ')
    obtain ⟨h11, h12, h13, hargs⟩ := h c
    obtain ⟨e0, e1, e2, e3, e4, e5, e6, e7, e8, e9, e10⟩ := hag c
    have e : Cert.SsdRefIdeal.Step.args (StableHlo.launchContents m' c) = args m c := by
      exact (Cert.SsdStep.Args.mk.injEq ..).mpr ⟨e0, e1, e2, e3, e4, e5, e6, e7, e8, e9, e10⟩
    exact ⟨(h11.trans (Cert.SsdRefIdeal.Step.out_eq _)).trans (congrArg Cert.SsdStep.Args.out e),
      (h12.trans (Cert.SsdRefIdeal.Step.tail_eq _)).trans (congrArg Cert.SsdStep.Args.tail e),
      (h13.trans (Cert.SsdRefIdeal.Step.next_eq _)).trans (congrArg Cert.SsdStep.Args.next e), hargs⟩

end Cert.SsdClaim
-- ==== Proof.InprojSHost.lean ====
/-
  The input projection's call for the sample, its host side: what the flattened rows, scales and shifts and the prepared
  weight matrix hold when the region starts. The weight is prepared as for the prompt.
-/
module

public import proofs.«01_k».proof.Proof.InprojHost
public import proofs.«01_k».proof.Proof.Gen.InprojSIdeal.Frame

@[expose] public section

set_option maxRecDepth 16384

noncomputable section

namespace Cert.InprojSIdeal.Host

open Cert.InprojSIdeal Cert.InprojSIdeal.Gen Idealize.ShloMosaic Idealize.ShloMosaic.TcCoe Idealize.SL.Sem
open Idealize.ShloMosaic.StableHlo
open Cert.InprojIdeal.Host (wcat cat_eq)

variable (m : (ℓ : Loc nD τ sig) → Buf (Elt Ideal) ℓ)

/-- The argument arrays, at their types. -/
abbrev X (c : Dev nD) : Vec Ideal S32x8x1024 .f32 := m ((c : Thread nD τ).loc main_arg0)
abbrev SC (c : Dev nD) : Vec Ideal S32x8x1024 .f32 := m ((c : Thread nD τ).loc main_arg1)
abbrev SH (c : Dev nD) : Vec Ideal S32x8x1024 .f32 := m ((c : Thread nD τ).loc main_arg2)
abbrev WT (c : Dev nD) : Vec Ideal S1x1024x7696 .f32 := m ((c : Thread nD τ).loc main_arg3)

/-- The three arrays of rows, flattened. -/
theorem V_rows (c : Dev nD) : (V m c main_v0 : Vec Ideal S256x1024 .f32) = shapeCast _ (X m c) shapeCasts_S32x8x1024_S256x1024
    ∧ (V m c main_v13 : Vec Ideal S256x1024 .f32) = shapeCast _ (SC m c) shapeCasts_S32x8x1024_S256x1024
    ∧ (V m c main_v14 : Vec Ideal S256x1024 .f32) = shapeCast _ (SH m c) shapeCasts_S32x8x1024_S256x1024 := by
  refine ⟨?_, ?_, ?_⟩ <;>
  · unfold V
    simp only [hostOps0, hostOps0_1, hostOps0_2, List.flatten_cons, List.flatten_nil, List.append_nil, List.cons_append, List.nil_append]
    after_results
    rfl

/-- A flattened array of rows at an index. -/
theorem flat_apply (A : Vec Ideal S32x8x1024 .f32) (r : Fin 256) (k : Fin 1024) :
    ((shapeCast _ A shapeCasts_S32x8x1024_S256x1024 : Vec Ideal S256x1024 .f32) (ix2 r k) : EReal)
      = A (ix3 ⟨r.val / 8, by omega⟩ ⟨r.val % 8, by omega⟩ k) := by
  pointwise

/-- The buffers before the groups are set side by side. -/
abbrev V1 (c : Dev nD) (b : Ref sig .tc) : Buf (Elt Ideal) ((c : Thread nD τ).loc b) :=
  StableHlo.after (List.flatten [hostOps0, hostOps0_1]) (fun b => m (c, b)) b

/-- The weight as a matrix. -/
abbrev WM (c : Dev nD) : Vec Ideal S1024x7696 .f32 := shapeCast _ (WT m c) shapeCasts_S1x1024x7696_S1024x7696

theorem V_cat (c : Dev nD) : (V m c main_v12 : Vec Ideal S1024x7808 .bf16)
    = truncf (F := Ideal) (s := S1024x7808) (φ := .f32) .bf16 (concatenate S1024x7808 1 [⟨S1024x1024, (V1 m c main_v2 : Vec Ideal S1024x1024 .f32)⟩,
        ⟨S1024x1536, (V1 m c main_v3 : Vec Ideal S1024x1536 .f32)⟩, ⟨S1024x1024, (V1 m c main_v5 : Vec Ideal S1024x1024 .f32)⟩,
        ⟨S1024x1024, (V1 m c main_v6 : Vec Ideal S1024x1024 .f32)⟩, ⟨S1024x1024, (V1 m c main_v7 : Vec Ideal S1024x1024 .f32)⟩,
        ⟨S1024x1024, (V1 m c main_v8 : Vec Ideal S1024x1024 .f32)⟩, ⟨S1024x1024, (V1 m c main_v9 : Vec Ideal S1024x1024 .f32)⟩,
        ⟨S1024x128, (V1 m c main_v10 : Vec Ideal S1024x128 .f32)⟩]
        concatenates_S1024x1024_S1024x1536_S1024x1024_S1024x1024_S1024x1024_S1024x1024_S1024x1024_S1024x128_S1024x7808_d1)
        bitsLt_bf16_f32 := by
  show StableHlo.after (List.flatten [hostOps0, hostOps0_1, hostOps0_2]) (fun b => m (c, b)) main_v12 = _
  unfold V1
  simp only [hostOps0, hostOps0_1, hostOps0_2, List.flatten_cons, List.flatten_nil, List.append_nil, List.cons_append, List.nil_append]
  after_results
  rfl

/-- The groups, each a slice of the weight's columns; the time steps' is padded. -/
theorem V1_groups (c : Dev nD) :
    (V1 m c main_v2 : Vec Ideal S1024x1024 .f32) = extractStridedSlice S1024x1024 ![0, 0] (WM m c) slices_S1024x7696_S1024x1024_0_0
    ∧ (V1 m c main_v3 : Vec Ideal S1024x1536 .f32) = extractStridedSlice S1024x1536 ![0, 1024] (WM m c) slices_S1024x7696_S1024x1536_0_1024
    ∧ (V1 m c main_v5 : Vec Ideal S1024x1024 .f32) = extractStridedSlice S1024x1024 ![0, 2576] (WM m c) slices_S1024x7696_S1024x1024_0_2576
    ∧ (V1 m c main_v6 : Vec Ideal S1024x1024 .f32) = extractStridedSlice S1024x1024 ![0, 3600] (WM m c) slices_S1024x7696_S1024x1024_0_3600
    ∧ (V1 m c main_v7 : Vec Ideal S1024x1024 .f32) = extractStridedSlice S1024x1024 ![0, 4624] (WM m c) slices_S1024x7696_S1024x1024_0_4624
    ∧ (V1 m c main_v8 : Vec Ideal S1024x1024 .f32) = extractStridedSlice S1024x1024 ![0, 5648] (WM m c) slices_S1024x7696_S1024x1024_0_5648
    ∧ (V1 m c main_v9 : Vec Ideal S1024x1024 .f32) = extractStridedSlice S1024x1024 ![0, 6672] (WM m c) slices_S1024x7696_S1024x1024_0_6672
    ∧ (V1 m c main_v10 : Vec Ideal S1024x128 .f32) = pad S1024x128 ![0, 0] ![0, 112] ![0, 0]
        (extractStridedSlice S1024x16 ![0, 2560] (WM m c) slices_S1024x7696_S1024x16_0_2560)
        (sitofp (F := Ideal) .f32 (constantI S_ 32 0#32)) pads_S1024x16_S1024x128_000_01120 h_S_ := by
  refine ⟨?_, ?_, ?_, ?_, ?_, ?_, ?_, ?_⟩ <;>
  · unfold V1
    simp only [hostOps0, hostOps0_1, List.flatten_cons, List.flatten_nil, List.append_nil, List.cons_append, List.nil_append]
    after_results
    rfl

/-- So the matrix the region reads is `wcat` of the argument. -/
theorem V_weights (c : Dev nD) (k : Fin 1024) (j : Fin 7808) :
    (V m c main_v12 : Vec Ideal S1024x7808 .bf16) (ix2 k j) = wcat (WT m c) k j := by
  obtain ⟨e2, e3, e5, e6, e7, e8, e9, e10⟩ := V1_groups m c
  rw [V_cat, e2, e3, e5, e6, e7, e8, e9, e10]
  unfold WM
  generalize WT m c = w
  pointwise
  exact cat_eq w k j _ ((Ideal.scalar_sitofp_def (φ := .f32) 0#32).trans (by simp))

end Cert.InprojSIdeal.Host
-- ==== Proof.InprojSValue.lean ====
/-
  The input projection's call for the sample over the extended reals: its one block, and so each of the ten result
  arrays after the run, as entries of ONE product, the modulated rows times the weight's columns.
-/
module

public import proofs.«01_k».proof.Proof.InprojSHost
public import proofs.«01_k».proof.Proof.Gen.InprojSIdeal.Value
public import Idealize.ShloMosaic.Lib.Pipeline.ValueKit

@[expose] public section

set_option maxRecDepth 16384

noncomputable section

namespace Cert.InprojSIdeal.Arrays

open Cert.InprojSIdeal Cert.InprojSIdeal.Gen Cert.InprojSIdeal.Host Idealize.ShloMosaic Idealize.ShloMosaic.TcCoe Idealize.SL.Sem
open Idealize.ShloMosaic.Pipeline (Dat)
open Cert.InprojIdeal.Host (wcat)

variable (m : (ℓ : Loc nD τ sig) → Buf (Elt Ideal) ℓ)

/-- Row `r` of the modulated input at feature `k`: `x * (1 + sc) + sh`, each row with a scale and a shift of its own. -/
def mrow (x sc sh : Vec Ideal S32x8x1024 .f32) (r : Fin 256) (k : Fin 1024) : EReal :=
  x (ix3 ⟨r.val / 8, by omega⟩ ⟨r.val % 8, by omega⟩ k) * (1 + sc (ix3 ⟨r.val / 8, by omega⟩ ⟨r.val % 8, by omega⟩ k))
    + sh (ix3 ⟨r.val / 8, by omega⟩ ⟨r.val % 8, by omega⟩ k)

/-- Entry `(r, j)` of the modulated rows times the weight. -/
def proj (x sc sh : Vec Ideal S32x8x1024 .f32) (w : Vec Ideal S1x1024x7696 .f32) (r : Fin 256) (j : Fin 7696) : EReal :=
  ∑ k : Fin 1024, mrow x sc sh r k * w (ix3 0 k j)

/-- The windows' index maps: the one point takes every array's one block. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

/-- The blocks, at their types. -/
abbrev B0 (c : Dev nD) (t : Fin cfg0.N) : Vec Ideal S256x1024 .f32 := iblk m c 0 t
abbrev B1 (c : Dev nD) (t : Fin cfg0.N) : Vec Ideal S256x1024 .f32 := iblk m c 1 t
abbrev B2 (c : Dev nD) (t : Fin cfg0.N) : Vec Ideal S256x1024 .f32 := iblk m c 2 t
abbrev B3 (c : Dev nD) (t : Fin cfg0.N) : Vec Ideal S1024x7808 .bf16 := iblk m c 3 t

theorem rows_apply (c : Dev nD) (t : Fin cfg0.N) (a : Fin 256) (k : Fin 1024) :
    B0 m c t (ix2 a k) = X m c (ix3 ⟨a.val / 8, by omega⟩ ⟨a.val % 8, by omega⟩ k) := by
  refine Eq.trans ?_ ((congrFun (V_rows m c).1 (ix2 a k)).trans (flat_apply (X m c) a k))
  blk_ext [iblk, idx t]

theorem scale_apply (c : Dev nD) (t : Fin cfg0.N) (a : Fin 256) (k : Fin 1024) :
    B1 m c t (ix2 a k) = SC m c (ix3 ⟨a.val / 8, by omega⟩ ⟨a.val % 8, by omega⟩ k) := by
  refine Eq.trans ?_ ((congrFun (V_rows m c).2.1 (ix2 a k)).trans (flat_apply (SC m c) a k))
  blk_ext [iblk, idx t]

theorem shift_apply (c : Dev nD) (t : Fin cfg0.N) (a : Fin 256) (k : Fin 1024) :
    B2 m c t (ix2 a k) = SH m c (ix3 ⟨a.val / 8, by omega⟩ ⟨a.val % 8, by omega⟩ k) := by
  refine Eq.trans ?_ ((congrFun (V_rows m c).2.2 (ix2 a k)).trans (flat_apply (SH m c) a k))
  blk_ext [iblk, idx t]

theorem weights_apply (c : Dev nD) (t : Fin cfg0.N) (k : Fin 1024) (j : Fin 7808) :
    B3 m c t (ix2 k j) = wcat (WT m c) k j := by
  refine Eq.trans ?_ (V_weights m c k j)
  blk_ext [iblk, idx t]

/-- Column `j` of the prepared matrix against row `r`. -/
def tot (c : Dev nD) (r : Fin 256) (j : Fin 7808) : EReal := ∑ k : Fin 1024, mrow (X m c) (SC m c) (SH m c) r k * wcat (WT m c) k j

theorem block_sum (c : Dev nD) (t : Fin cfg0.N) (a : Fin 256) (j : Fin 7808) :
    (∑ k : Fin 1024, (B0 m c t (ix2 a k) * ((1 : EReal) + B1 m c t (ix2 a k)) + B2 m c t (ix2 a k) : EReal) * (B3 m c t (ix2 k j) : EReal)) = tot m c a j := by
  refine Finset.sum_congr rfl fun k _ => ?_
  rw [rows_apply, scale_apply, shift_apply, weights_apply]
  rfl

/-- Columns `o` to `o + n - 1` of the product, as an array. -/
def cols (n o : Nat) (h : o + n ≤ 7696) (c : Dev nD) : (⟨2, ![256, n]⟩ : Shape).Idx → EReal := fun i =>
  proj (X m c) (SC m c) (SH m c) (WT m c) (i 0) ⟨o + (i 1).val, by have : (i 1).val < n := (i 1).isLt; omega⟩

theorem cols_at (n o : Nat) (h : o + n ≤ 7696) (c : Dev nD) (r : Fin 256) (j : Fin 7696) {i : (⟨2, ![256, n]⟩ : Shape).Idx}
    (h0 : (i 0).val = r.val) (h1 : o + (i 1).val = j.val) : proj (X m c) (SC m c) (SH m c) (WT m c) r j = cols m n o h c i := by
  rw [cols, show i 0 = r from Fin.ext h0]
  exact congrArg _ (Fin.ext h1.symm)

/-- The columns of the gate and of the convolution's input are where they were, -/
theorem tot_low (c : Dev nD) (r : Fin 256) (j : Fin 7808) (h : j.val < 2560) :
    tot m c r j = proj (X m c) (SC m c) (SH m c) (WT m c) r ⟨j.val, by omega⟩ :=
  Finset.sum_congr rfl fun k _ => by rw [wcat, dif_pos h]

/-- those of the attention and its gates sixteen before, -/
theorem tot_mid (c : Dev nD) (r : Fin 256) (j : Fin 7808) (h : 2560 ≤ j.val) (h' : j.val < 7680) :
    tot m c r j = proj (X m c) (SC m c) (SH m c) (WT m c) r ⟨j.val + 16, by omega⟩ :=
  Finset.sum_congr rfl fun k _ => by rw [wcat, dif_neg (by omega), dif_pos h']

/-- and the last tile's are the time steps, then zeros. -/
def step (c : Dev nD) (r : Fin 256) (j : Fin 128) : EReal :=
  if h : j.val < 16 then proj (X m c) (SC m c) (SH m c) (WT m c) r ⟨2560 + j.val, by omega⟩ else 0

theorem tot_step (c : Dev nD) (r : Fin 256) (b : Fin 128) : tot m c r ⟨7680 + b.val, by omega⟩ = step m c r b := by
  unfold step
  by_cases h : b.val < 16
  · rw [dif_pos h]
    refine Finset.sum_congr rfl fun k _ => ?_
    rw [wcat, dif_neg (by dsimp only; omega), dif_neg (by dsimp only; omega), dif_pos (by dsimp only; omega)]
    exact congrArg (fun j => _ * WT m c (ix3 0 k j)) (Fin.ext (show 7680 + b.val - 5120 = 2560 + b.val by omega))
  · rw [dif_neg h]
    exact Finset.sum_eq_zero fun k _ => by
      rw [wcat, dif_neg (by dsimp only; omega), dif_neg (by dsimp only; omega), dif_neg (by dsimp only; omega), mul_zero]

/-- The gate, columns 0 to 1023. -/
theorem final4 (c : Dev nD) : (dats m 0 c).arrAt 4 cfg0.N = cols m 1024 0 (by decide) c := by
  refine (dats m 0 c).arrAt_eq_of_covers 4 _ (by decide +kernel) fun t _ y => ?_
  blk_simp
  rw [after0_4]; frame_out
  idx_vars y
  have e := block_sum m c t y0 ⟨y1.val, by omega⟩
  refine Eq.trans (b := tot m c y0 ⟨y1.val, by omega⟩) ?_ ((tot_low m c _ _ (by dsimp only; omega)).trans (cols_at m 1024 0 (by decide) c _ _ ?_ ?_))
  · rw [← e]
    pointwise [k0_pay8, k0_pay7]
  · blk_simp [idx t]
  · blk_simp [idx t]

/-- The convolution's input, columns 1024 to 2559. -/
theorem final5 (c : Dev nD) : (dats m 0 c).arrAt 5 cfg0.N = cols m 1536 1024 (by decide) c := by
  refine (dats m 0 c).arrAt_eq_of_covers 5 _ (by decide +kernel) fun t _ y => ?_
  blk_simp
  rw [after0_5]; frame_out
  idx_vars y
  have e := block_sum m c t y0 ⟨1024 + y1.val, by omega⟩
  refine Eq.trans (b := tot m c y0 ⟨1024 + y1.val, by omega⟩) ?_ ((tot_low m c _ _ (by dsimp only; omega)).trans (cols_at m 1536 1024 (by decide) c _ _ ?_ ?_))
  · rw [← e]
    pointwise [k0_pay9, k0_pay7]
  · blk_simp [idx t]
  · blk_simp [idx t]

/-- The keys, columns 3600 to 4623. -/
theorem final8 (c : Dev nD) : (dats m 0 c).arrAt 8 cfg0.N = cols m 1024 3600 (by decide) c := by
  refine (dats m 0 c).arrAt_eq_of_covers 8 _ (by decide +kernel) fun t _ y => ?_
  blk_simp
  rw [after0_8]; frame_out
  idx_vars y
  have e := block_sum m c t y0 ⟨3584 + y1.val, by omega⟩
  refine Eq.trans (b := tot m c y0 ⟨3584 + y1.val, by omega⟩) ?_ ((tot_mid m c _ _ (by dsimp only; omega) (by dsimp only; omega)).trans (cols_at m 1024 3600 (by decide) c _ _ ?_ ?_))
  · rw [← e]
    pointwise [k0_pay13, k0_pay11, k0_pay7]
  · blk_simp [idx t]
  · blk_simp [idx t]; dsimp only; omega

/-- The values, columns 4624 to 5647. -/
theorem final9 (c : Dev nD) : (dats m 0 c).arrAt 9 cfg0.N = cols m 1024 4624 (by decide) c := by
  refine (dats m 0 c).arrAt_eq_of_covers 9 _ (by decide +kernel) fun t _ y => ?_
  blk_simp
  rw [after0_9]; frame_out
  idx_vars y
  have e := block_sum m c t y0 ⟨4608 + y1.val, by omega⟩
  refine Eq.trans (b := tot m c y0 ⟨4608 + y1.val, by omega⟩) ?_ ((tot_mid m c _ _ (by dsimp only; omega) (by dsimp only; omega)).trans (cols_at m 1024 4624 (by decide) c _ _ ?_ ?_))
  · rw [← e]
    pointwise [k0_pay2, k0_pay12, k0_pay7]
  · blk_simp [idx t]
  · blk_simp [idx t]; dsimp only; omega

/-- The keys again, cast to bf16. -/
theorem final10 (c : Dev nD) : (dats m 0 c).arrAt 10 cfg0.N = cols m 1024 3600 (by decide) c := by
  refine (dats m 0 c).arrAt_eq_of_covers 10 _ (by decide +kernel) fun t _ y => ?_
  blk_simp
  rw [after0_10]; frame_out
  idx_vars y
  have e := block_sum m c t y0 ⟨3584 + y1.val, by omega⟩
  refine Eq.trans (b := tot m c y0 ⟨3584 + y1.val, by omega⟩) ?_ ((tot_mid m c _ _ (by dsimp only; omega) (by dsimp only; omega)).trans (cols_at m 1024 3600 (by decide) c _ _ ?_ ?_))
  · rw [← e]
    pointwise [k0_pay1, k0_pay13, k0_pay11, k0_pay7]
  · blk_simp [idx t]
  · blk_simp [idx t]; dsimp only; omega

/-- The values again, cast to bf16. -/
theorem final11 (c : Dev nD) : (dats m 0 c).arrAt 11 cfg0.N = cols m 1024 4624 (by decide) c := by
  refine (dats m 0 c).arrAt_eq_of_covers 11 _ (by decide +kernel) fun t _ y => ?_
  blk_simp
  rw [after0_11]; frame_out
  idx_vars y
  have e := block_sum m c t y0 ⟨4608 + y1.val, by omega⟩
  refine Eq.trans (b := tot m c y0 ⟨4608 + y1.val, by omega⟩) ?_ ((tot_mid m c _ _ (by dsimp only; omega) (by dsimp only; omega)).trans (cols_at m 1024 4624 (by decide) c _ _ ?_ ?_))
  · rw [← e]
    pointwise [k0_pay3, k0_pay2, k0_pay12, k0_pay7]
  · blk_simp [idx t]
  · blk_simp [idx t]; dsimp only; omega

/-- The first mixing gate, columns 5648 to 6671. -/
theorem final12 (c : Dev nD) : (dats m 0 c).arrAt 12 cfg0.N = cols m 1024 5648 (by decide) c := by
  refine (dats m 0 c).arrAt_eq_of_covers 12 _ (by decide +kernel) fun t _ y => ?_
  blk_simp
  rw [after0_12]; frame_out
  idx_vars y
  have e := block_sum m c t y0 ⟨5632 + y1.val, by omega⟩
  refine Eq.trans (b := tot m c y0 ⟨5632 + y1.val, by omega⟩) ?_ ((tot_mid m c _ _ (by dsimp only; omega) (by dsimp only; omega)).trans (cols_at m 1024 5648 (by decide) c _ _ ?_ ?_))
  · rw [← e]
    pointwise [k0_pay4, k0_pay12, k0_pay7]
  · blk_simp [idx t]
  · blk_simp [idx t]; dsimp only; omega

/-- And the second, columns 6672 to 7695. -/
theorem final13 (c : Dev nD) : (dats m 0 c).arrAt 13 cfg0.N = cols m 1024 6672 (by decide) c := by
  refine (dats m 0 c).arrAt_eq_of_covers 13 _ (by decide +kernel) fun t _ y => ?_
  blk_simp
  rw [after0_13]; frame_out
  idx_vars y
  have e := block_sum m c t y0 ⟨6656 + y1.val, by omega⟩
  refine Eq.trans (b := tot m c y0 ⟨6656 + y1.val, by omega⟩) ?_ ((tot_mid m c _ _ (by dsimp only; omega) (by dsimp only; omega)).trans (cols_at m 1024 6672 (by decide) c _ _ ?_ ?_))
  · rw [← e]
    pointwise [k0_pay5, k0_pay12, k0_pay7]
  · blk_simp [idx t]
  · blk_simp [idx t]; dsimp only; omega

/-- The queries, columns 2576 to 3599, times the attention's scale, -/
theorem final7 (c : Dev nD) : (dats m 0 c).arrAt 7 cfg0.N
    = fun i => cols m 1024 2576 (by decide) c i * Ideal.ofBits .f32 0x3E38AA3B#32 := by
  refine (dats m 0 c).arrAt_eq_of_covers 7 _ (by decide +kernel) fun t _ y => ?_
  blk_simp
  rw [after0_7]; frame_out
  idx_vars y
  have e := block_sum m c t y0 ⟨2560 + y1.val, by omega⟩
  refine Eq.trans (b := tot m c y0 ⟨2560 + y1.val, by omega⟩ * Ideal.ofBits .f32 0x3E38AA3B#32) ?_ (congrArg (· * _)
    ((tot_mid m c _ _ (by dsimp only; omega) (by dsimp only; omega)).trans (cols_at m 1024 2576 (by decide) c _ _ ?_ ?_)))
  · rw [← e]
    pointwise [k0_pay10, k0_pay7]
  · blk_simp [idx t]
  · blk_simp [idx t]; dsimp only; omega

/-- and the time steps, columns 2560 to 2575, with zeros to the end of the lane tile. -/
def steps (c : Dev nD) : S256x128.Idx → EReal := fun i => step m c (i 0) (i 1)

theorem final6 (c : Dev nD) : (dats m 0 c).arrAt 6 cfg0.N = steps m c := by
  refine (dats m 0 c).arrAt_eq_of_covers 6 _ (by decide +kernel) fun t _ y => ?_
  blk_simp
  rw [after0_6]; frame_out
  idx_vars y
  have e := block_sum m c t y0 ⟨7680 + y1.val, by omega⟩
  refine Eq.trans (b := tot m c y0 ⟨7680 + y1.val, by omega⟩) ?_ ((tot_step m c _ _).trans (congrArg₂ (step m c) (Fin.ext ?_) (Fin.ext ?_)))
  · rw [← e]
    pointwise [k0_pay6, k0_pay12, k0_pay7]
  · blk_simp [idx t]
  · blk_simp [idx t]

end Cert.InprojSIdeal.Arrays
-- ==== Proof.InprojSRef.lean ====
/-
  The reference of the input projection's sample call over the extended reals: every result of its one product, read at an index, is the
  entry of the product that the kernel's result holds there.
-/
module

public import proofs.«01_k».proof.Proof.InprojSValue
public import proofs.«01_k».proof.Proof.Gen.InprojSRefIdeal.Run

@[expose] public section

set_option maxRecDepth 16384

noncomputable section

namespace Cert.InprojSRefIdeal.Product

open Cert.InprojSRefIdeal Cert.InprojSRefIdeal.Facts Cert.InprojSRefIdeal.Gen Idealize.ShloMosaic Idealize.ShloMosaic.TcCoe Idealize.SL.Sem
open Cert.InprojSIdeal.Arrays (mrow proj)

variable (x : Vec Ideal S32x8x1024 .f32) (sc sh : Vec Ideal S32x8x1024 .f32) (w : Vec Ideal S1x1024x7696 .f32)

/-- The reference's product, flattened to rows. -/
def full : Vec Ideal S256x7696 .f32 :=
  shapeCast _ (Host.dotGeneral (F := Ideal) (φ₁ := .f32) (φ₂ := .f32) dot_S32x8x1024_S1024x7696_S32x8x7696_2_0_01_1_n_n none
    (addf (F := Ideal) (mulf (F := Ideal) x (addf (F := Ideal) (broadcastInDim S32x8x1024 ![] bcast_S_S32x8x1024 (constant (F := Ideal) S_ .f32 0x3F800000#32)) sc)) sh)
    (shapeCast (α := Ideal .f32) _ w shapeCasts_S1x1024x7696_S1024x7696)) shapeCasts_S32x8x7696_S256x7696

/-- Its entries. -/
theorem full_apply (r : Fin 256) (j : Fin 7696) : full x sc sh w (ix2 r j) = proj x sc sh w r j := by
  unfold full
  pointwise []
  rfl

/-- Columns `o` to `o + n - 1` of the product, as an array. -/
def part (n o : Nat) (h : o + n ≤ 7696) : (⟨2, ![256, n]⟩ : Shape).Idx → EReal := fun i =>
  proj x sc sh w (i 0) ⟨o + (i 1).val, by have : (i 1).val < n := (i 1).isLt; omega⟩

/-- A slice of 1024 columns of an array of that shape, at an index, -/
theorem slice_apply (A : Vec Ideal S256x7696 .f32) (o : Nat) (h : o + 1024 ≤ 7696)
    (hs : S256x7696.Slices ![0, o] S256x1024) (r : Fin 256) (j : Fin 1024) :
    extractStridedSlice S256x1024 ![0, o] A hs (ix2 r j) = A (ix2 r ⟨o + j.val, by omega⟩) := by
  pointwise []

/-- which of the product is the slice of its entries. -/
theorem part_apply (o : Nat) (h : o + 1024 ≤ 7696) (hs : S256x7696.Slices ![0, o] S256x1024) (i : S256x1024.Idx) :
    extractStridedSlice S256x1024 ![0, o] (full x sc sh w) hs i = part x sc sh w 1024 o h i := by
  idx_vars i
  rw [slice_apply _ o h]
  exact full_apply x sc sh w _ _

/-- The convolution's input, 1536 columns. -/
theorem conv_eq (hs : S256x7696.Slices ![0, 1024] S256x1536) :
    extractStridedSlice S256x1536 ![0, 1024] (full x sc sh w) hs = part x sc sh w 1536 1024 (by decide) := by
  funext i
  idx_vars i
  have e := full_apply x sc sh w i0 ⟨1024 + i1.val, by omega⟩
  generalize full x sc sh w = A at e ⊢
  refine Eq.trans ?_ e
  pointwise []

/-- The queries, scaled. -/
theorem query_eq (hs : S256x7696.Slices ![0, 2576] S256x1024) (hb : S_.BroadcastsInDim S256x1024 ![])
    (ht : FTy.bits .bf16 < FTy.bits .f32) :
    truncf (F := Ideal) (φ := .f32) .bf16 (mulf (F := Ideal) (extractStridedSlice S256x1024 ![0, 2576] (full x sc sh w) hs)
        (broadcastInDim S256x1024 ![] hb (constant (F := Ideal) S_ .f32 0x3E38AA3B#32))) ht
      = fun i => part x sc sh w 1024 2576 (by decide) i * Ideal.ofBits .f32 0x3E38AA3B#32 := by
  funext i
  exact congrArg (· * _) (part_apply x sc sh w 2576 (by decide) hs i)

/-- The time steps, sixteen columns and zeros to the end of the lane tile. -/
theorem steps_eq (hs : S256x7696.Slices ![0, 2560] S256x16)
    (hp : S256x16.Pads ![0, 0] ![0, 112] ![0, 0] S256x128) (h0 : 0 < S_.numel) :
    pad S256x128 ![0, 0] ![0, 112] ![0, 0] (extractStridedSlice S256x16 ![0, 2560] (full x sc sh w) hs)
        (sitofp (F := Ideal) .f32 (constantI S_ 32 0#32)) hp h0
      = fun i => if h : (i 1).val < 16 then proj x sc sh w (i 0) ⟨2560 + (i 1).val, by omega⟩ else 0 := by
  funext i
  idx_vars i
  have e : ∀ j : Fin 16, full x sc sh w (ix2 i0 ⟨2560 + j.val, by omega⟩) = proj x sc sh w i0 ⟨2560 + j.val, by omega⟩ :=
    fun j => full_apply x sc sh w i0 _
  generalize full x sc sh w = A at e ⊢
  pointwise []
  by_cases h : i1.val < 16
  · rw [dif_pos h, dif_pos h]; exact e ⟨i1.val, h⟩
  · rw [dif_neg h, dif_neg h]
    show Scalar.sitofp (F := Ideal) .f32 0#32 = 0
    rw [Ideal.scalar_sitofp_def]; simp

end Cert.InprojSRefIdeal.Product
-- ==== Proof.InprojSClaim.lean ====
/-
  The value claim of the input projection's sample call: from arguments that agree, kernel and reference end with equal results.
-/
module

public import proofs.«01_k».proof.Defs
public import proofs.«01_k».proof.Proof.InprojSRef
public import proofs.«01_k».proof.Proof.Gen.InprojSIdeal.Frame
public import Idealize.ShloMosaic.Lib.Quiescent

@[expose] public section

set_option maxRecDepth 16384

noncomputable section

namespace Cert.InprojSClaim

open Idealize.ShloMosaic Idealize.ShloMosaic.TcCoe Idealize.SL.Sem
open Cert.InprojSIdeal.Arrays (cols steps)
open Cert.InprojSRefIdeal.Product

/-- The reference ends without fault, its arguments kept. -/
theorem frame_ref : @Cert.quiescent_InprojSRefIdeal Cert.InprojSRefIdeal.Gen.facts := fun m ρ _ =>
  (θ_run Cert.InprojSRefIdeal.defs _ _).mono
    (fun r h => ⟨fun c => (h c).2.2.2.2.2.2.2.2.2.2, Idealize.ShloMosaic.sem_eq_zero_of_no_sems (by decide) r.2⟩)
    (Cert.InprojSRefIdeal.Value.run (F := Ideal) m ρ)

/-- Kernel and reference compute the same ten arrays over the extended reals. -/
theorem value : @Cert.algebraic_InprojSIdeal_InprojSRefIdeal Cert.InprojSIdeal.Gen.facts Cert.InprojSRefIdeal.Gen.facts := by
  intro m ρ m' ρ' _ hag
  refine ⟨cols m 1024 0 (by decide), cols m 1536 1024 (by decide), steps m,
    fun c i => cols m 1024 2576 (by decide) c i * Ideal.ofBits .f32 0x3E38AA3B#32, cols m 1024 3600 (by decide),
    cols m 1024 4624 (by decide), cols m 1024 3600 (by decide), cols m 1024 4624 (by decide),
    cols m 1024 5648 (by decide), cols m 1024 6672 (by decide), ?_, ?_⟩
  · refine (θ_run _ _ _).mono (fun r h c => ?_) (Cert.InprojSIdeal.Value.run_blocks (F := Ideal) m ρ)
    obtain ⟨h4, h5, h6, h7, h8, h9, h10, h11, h12, h13, hargs⟩ := h c
    exact ⟨h4.trans (Cert.InprojSIdeal.Arrays.final4 m c), h5.trans (Cert.InprojSIdeal.Arrays.final5 m c),
      h6.trans (Cert.InprojSIdeal.Arrays.final6 m c), h7.trans (Cert.InprojSIdeal.Arrays.final7 m c),
      h8.trans (Cert.InprojSIdeal.Arrays.final8 m c), h9.trans (Cert.InprojSIdeal.Arrays.final9 m c),
      h10.trans (Cert.InprojSIdeal.Arrays.final10 m c), h11.trans (Cert.InprojSIdeal.Arrays.final11 m c),
      h12.trans (Cert.InprojSIdeal.Arrays.final12 m c), h13.trans (Cert.InprojSIdeal.Arrays.final13 m c), hargs⟩
  · refine (θ_run _ _ _).mono (fun r h c => ?_) (Cert.InprojSRefIdeal.Value.run (F := Ideal) m' ρ')
    obtain ⟨e0, e1, e2, e3⟩ := hag c
    obtain ⟨h4, h5, h6, h7, h8, h9, h10, h11, h12, h13, hargs⟩ := h c
    rw [e0, e1, e2, e3] at h4 h5 h6 h7 h8 h9 h10 h11 h12 h13
    exact ⟨h4.trans (funext fun i => part_apply _ _ _ _ 0 (by decide) Cert.InprojSRefIdeal.Gen.slices_S256x7696_S256x1024_0_0 i), h5.trans (conv_eq _ _ _ _ _),
      h6.trans (steps_eq _ _ _ _ _ _ _), h7.trans (query_eq _ _ _ _ _ _ _),
      h8.trans (funext fun i => part_apply _ _ _ _ 3600 (by decide) Cert.InprojSRefIdeal.Gen.slices_S256x7696_S256x1024_0_3600 i),
      h9.trans (funext fun i => part_apply _ _ _ _ 4624 (by decide) Cert.InprojSRefIdeal.Gen.slices_S256x7696_S256x1024_0_4624 i),
      h10.trans (funext fun i => part_apply _ _ _ _ 3600 (by decide) Cert.InprojSRefIdeal.Gen.slices_S256x7696_S256x1024_0_3600 i),
      h11.trans (funext fun i => part_apply _ _ _ _ 4624 (by decide) Cert.InprojSRefIdeal.Gen.slices_S256x7696_S256x1024_0_4624 i),
      h12.trans (funext fun i => part_apply _ _ _ _ 5648 (by decide) Cert.InprojSRefIdeal.Gen.slices_S256x7696_S256x1024_0_5648 i),
      h13.trans (funext fun i => part_apply _ _ _ _ 6672 (by decide) Cert.InprojSRefIdeal.Gen.slices_S256x7696_S256x1024_0_6672 i), hargs⟩

end Cert.InprojSClaim
-- ==== Proof.MergeSpec.lean ====
/-
  The gated merge of one row: two branches projected, gated channel by channel and added, projected out, the residual and
  its layer norm; and the modulation of that row for the experts.
-/
module

public import proofs.«01_k».proof.Proof.CombineSpec

@[expose] public section

noncomputable section

namespace Cert.MergeSpec

open Idealize.ShloMosaic
open Cert.CombineSpec (dot resid norm)

/-- The two branches under their gates. -/
def gated (y o ga gb : Fin 1024 → EReal) (wa wb : Fin 1024 → Fin 1024 → EReal) (h : Fin 1024) : EReal :=
  Ideal.logistic (ga h) * dot y wa h + Ideal.logistic (gb h) * dot o wb h

/-- The merged row, with its residual, normed. -/
def mergeRow (y o ga gb x g1 : Fin 1024 → EReal) (wa wb wo : Fin 1024 → Fin 1024 → EReal) (g b : Fin 1024 → EReal) :
    Fin 1024 → EReal :=
  norm (resid x g1 (dot (gated y o ga gb wa wb) wo)) g b

/-- A row under its scale and shift. -/
def modRow (r sc sh : Fin 1024 → EReal) (j : Fin 1024) : EReal := r j * (1 + sc j) + sh j

end Cert.MergeSpec
-- ==== Proof.MergeBlock.lean ====
/-
  One block of the merge over the extended reals: what a point writes, row by row.
-/
module

public import proofs.«01_k».proof.Proof.MergeSpec
public import proofs.«01_k».proof.Proof.Gen.MergeIdeal.Frame
public import Idealize.ShloMosaic.Lib.Pipeline.ValueKit

@[expose] public section

set_option maxRecDepth 16384

noncomputable section

namespace Cert.MergeIdeal.Block

open Cert.MergeIdeal Cert.MergeIdeal.Gen Cert.MergeSpec Idealize.ShloMosaic Idealize.ShloMosaic.TcCoe Idealize.SL.Sem
open Cert.CombineSpec (dot resid norm)

/-- The layer norm of a block. -/
theorem pay4_apply (v29 : FVec Ideal S512x1024 .f32) (v31 : FVec Ideal S1x1024 .f32) (v32 : Vec Ideal S1x1024 .f32)
    (a : Fin 512) (j : Fin 1024) :
    k0_pay4 v29 v31 v32 (ix2 a j)
      = norm (fun j => v29 (ix2 a j)) (fun j => v31 (ix2 0 j)) (fun j => v32 (ix2 0 j)) j := by
  pointwise [k0_pay4]
  rfl

/-- The modulation of a block. -/
theorem pay6_apply (v29 : FVec Ideal S512x1024 .f32) (v31 : FVec Ideal S1x1024 .f32) (v32 : Vec Ideal S1x1024 .f32)
    (v55 v61 : Vec Ideal S1x1x1024 .f32) (a : Fin 512) (j : Fin 1024) :
    k0_pay6 v29 v31 v32 v55 v61 (ix2 a j)
      = modRow (fun j => k0_pay4 v29 v31 v32 (ix2 a j)) (fun j => v55 (ix3 0 0 j)) (fun j => v61 (ix3 0 0 j)) j := by
  unfold k0_pay6 k0_pay5
  generalize k0_pay4 v29 v31 v32 = N
  pointwise []
  rfl

/-- The residual and the norm's weight, of the blocks. -/
theorem pay9_apply (x0 x1 x2 x3 : Vec Ideal S512x1024 .bf16) (x4 : Vec Ideal S512x1024 .f32) (x5 x6 x7 : Vec Ideal S1x1x1024 .f32)
    (x8 x9 x10 : Vec Ideal S1024x1024 .bf16) (x11 x12 : Vec Ideal S1x1024 .f32) (x13 : Vec Ideal S128x1024 .bf16) (a : Fin 512)
    (j : Fin 1024) :
    k0_pay9 x0 x1 x2 x3 x4 x5 x6 x7 x8 x9 x10 x11 x12 x13 (ix2 a j)
      = resid (fun j => x4 (ix2 a j)) (fun j => x5 (ix3 0 0 j))
          (dot (gated (fun i => x0 (ix2 a i)) (fun i => x1 (ix2 a i)) (fun i => x2 (ix2 a i)) (fun i => x3 (ix2 a i))
            (fun i h => x8 (ix2 i h)) (fun i h => x9 (ix2 i h))) (fun h i => x10 (ix2 h i))) j := by
  pointwise [k0_pay9, k0_pay2]
  rfl

theorem pay10_apply (x0 x1 x2 x3 : Vec Ideal S512x1024 .bf16) (x4 : Vec Ideal S512x1024 .f32) (x5 x6 x7 : Vec Ideal S1x1x1024 .f32)
    (x8 x9 x10 : Vec Ideal S1024x1024 .bf16) (x11 x12 : Vec Ideal S1x1024 .f32) (x13 : Vec Ideal S128x1024 .bf16) (a : Fin 512)
    (j : Fin 1024) : k0_pay10 x0 x1 x2 x3 x4 x5 x6 x7 x8 x9 x10 x11 x12 x13 (ix2 0 j) = x11 (ix2 0 j) := by
  pointwise [k0_pay10, k0_pay3]

/-- Row `a` of the first array a point writes is the merge of row `a` of its blocks, -/
theorem x1_apply (x0 x1 x2 x3 : Vec Ideal S512x1024 .bf16) (x4 : Vec Ideal S512x1024 .f32) (x5 x6 x7 : Vec Ideal S1x1x1024 .f32)
    (x8 x9 x10 : Vec Ideal S1024x1024 .bf16) (x11 x12 : Vec Ideal S1x1024 .f32) (x13 : Vec Ideal S128x1024 .bf16) (a : Fin 512)
    (j : Fin 1024) :
    k0_pay4 (k0_pay9 x0 x1 x2 x3 x4 x5 x6 x7 x8 x9 x10 x11 x12 x13) (k0_pay10 x0 x1 x2 x3 x4 x5 x6 x7 x8 x9 x10 x11 x12 x13) x12 (ix2 a j)
      = mergeRow (fun i => x0 (ix2 a i)) (fun i => x1 (ix2 a i)) (fun i => x2 (ix2 a i)) (fun i => x3 (ix2 a i))
          (fun i => x4 (ix2 a i)) (fun i => x5 (ix3 0 0 i)) (fun i h => x8 (ix2 i h)) (fun i h => x9 (ix2 i h))
          (fun h i => x10 (ix2 h i)) (fun i => x11 (ix2 0 i)) (fun i => x12 (ix2 0 i)) j := by
  rw [pay4_apply]
  simp only [pay9_apply, pay10_apply _ _ _ _ _ _ _ _ _ _ _ _ _ _ a]
  rfl

/-- and of the second that row modulated. -/
theorem u2_apply (x0 x1 x2 x3 : Vec Ideal S512x1024 .bf16) (x4 : Vec Ideal S512x1024 .f32) (x5 x6 x7 : Vec Ideal S1x1x1024 .f32)
    (x8 x9 x10 : Vec Ideal S1024x1024 .bf16) (x11 x12 : Vec Ideal S1x1024 .f32) (x13 : Vec Ideal S128x1024 .bf16) (a : Fin 512)
    (j : Fin 1024) :
    k0_pay6 (k0_pay9 x0 x1 x2 x3 x4 x5 x6 x7 x8 x9 x10 x11 x12 x13) (k0_pay10 x0 x1 x2 x3 x4 x5 x6 x7 x8 x9 x10 x11 x12 x13) x12 x6 x7 (ix2 a j)
      = modRow (mergeRow (fun i => x0 (ix2 a i)) (fun i => x1 (ix2 a i)) (fun i => x2 (ix2 a i)) (fun i => x3 (ix2 a i))
          (fun i => x4 (ix2 a i)) (fun i => x5 (ix3 0 0 i)) (fun i h => x8 (ix2 i h)) (fun i h => x9 (ix2 i h))
          (fun h i => x10 (ix2 h i)) (fun i => x11 (ix2 0 i)) (fun i => x12 (ix2 0 i)))
          (fun i => x6 (ix3 0 0 i)) (fun i => x7 (ix3 0 0 i)) j := by
  rw [pay6_apply]
  simp only [x1_apply]

end Cert.MergeIdeal.Block
-- ==== Proof.MergeValue.lean ====
/-
  The merge's call over the extended reals: the two arrays after the run, row by row.
-/
module

public import proofs.«01_k».proof.Proof.MergeBlock
public import proofs.«01_k».proof.Proof.Gen.MergeIdeal.Value
public import Idealize.ShloMosaic.Lib.Pipeline.ValueKit

@[expose] public section

set_option maxRecDepth 16384

noncomputable section

namespace Cert.MergeIdeal.Arrays

open Cert.MergeIdeal Cert.MergeIdeal.Gen Cert.MergeSpec Idealize.ShloMosaic Idealize.ShloMosaic.TcCoe Idealize.SL.Sem
open Idealize.ShloMosaic.Pipeline (Dat)

variable (m : (ℓ : Loc nD τ sig) → Buf (Elt Ideal) ℓ)

abbrev A0 (c : Dev nD) : Vec Ideal S16384x1024 .bf16 := m ((c.tc : Thread nD τ).loc main_arg0)
abbrev A1 (c : Dev nD) : Vec Ideal S16384x1024 .bf16 := m ((c.tc : Thread nD τ).loc main_arg1)
abbrev A2 (c : Dev nD) : Vec Ideal S16384x1024 .bf16 := m ((c.tc : Thread nD τ).loc main_arg2)
abbrev A3 (c : Dev nD) : Vec Ideal S16384x1024 .bf16 := m ((c.tc : Thread nD τ).loc main_arg3)
abbrev A4 (c : Dev nD) : Vec Ideal S4x4096x1024 .f32 := m ((c.tc : Thread nD τ).loc main_arg4)
abbrev A5 (c : Dev nD) : Vec Ideal S4x1x1024 .f32 := m ((c.tc : Thread nD τ).loc main_arg5)
abbrev A6 (c : Dev nD) : Vec Ideal S4x1x1024 .f32 := m ((c.tc : Thread nD τ).loc main_arg6)
abbrev A7 (c : Dev nD) : Vec Ideal S4x1x1024 .f32 := m ((c.tc : Thread nD τ).loc main_arg7)
abbrev A8 (c : Dev nD) : Vec Ideal S1x1024x1024 .f32 := m ((c.tc : Thread nD τ).loc main_arg8)
abbrev A9 (c : Dev nD) : Vec Ideal S1x1024x1024 .f32 := m ((c.tc : Thread nD τ).loc main_arg9)
abbrev A10 (c : Dev nD) : Vec Ideal S1x1024x1024 .f32 := m ((c.tc : Thread nD τ).loc main_arg10)
abbrev A11 (c : Dev nD) : Vec Ideal S1x1024 .f32 := m ((c.tc : Thread nD τ).loc main_arg11)
abbrev A12 (c : Dev nD) : Vec Ideal S1x1024 .f32 := m ((c.tc : Thread nD τ).loc main_arg12)

/-! What the region finds in the arrays the host prepared. -/

theorem V_weight (A : Vec Ideal S1x1024x1024 .f32) (i h : Fin 1024) :
    truncf (F := Ideal) (φ := .f32) .bf16 (shapeCast S1024x1024 A shapeCasts_S1x1024x1024_S1024x1024) bitsLt_bf16_f32 (ix2 i h)
      = A (ix3 0 i h) := by
  pointwise []

theorem V_a (c : Dev nD) : V m c main_v1
    = truncf (F := Ideal) (φ := .f32) .bf16 (shapeCast S1024x1024 (A8 m c) shapeCasts_S1x1024x1024_S1024x1024) bitsLt_bf16_f32 := by
  show StableHlo.after hostOps0 (fun b => m (c, b)) main_v1 = _
  after_results; rfl

theorem V_b (c : Dev nD) : V m c main_v3
    = truncf (F := Ideal) (φ := .f32) .bf16 (shapeCast S1024x1024 (A9 m c) shapeCasts_S1x1024x1024_S1024x1024) bitsLt_bf16_f32 := by
  show StableHlo.after hostOps0 (fun b => m (c, b)) main_v3 = _
  after_results; rfl

theorem V_o (c : Dev nD) : V m c main_v5
    = truncf (F := Ideal) (φ := .f32) .bf16 (shapeCast S1024x1024 (A10 m c) shapeCasts_S1x1024x1024_S1024x1024) bitsLt_bf16_f32 := by
  show StableHlo.after hostOps0 (fun b => m (c, b)) main_v5 = _
  after_results; rfl

theorem V_x (c : Dev nD) (r : Fin 16384) (j : Fin 1024) :
    V m c main_v6 (ix2 r j) = A4 m c (ix3 ⟨r.val / 4096, by omega⟩ ⟨r.val % 4096, by omega⟩ j) := by
  have e : V m c main_v6 = shapeCast S16384x1024 (A4 m c) shapeCasts_S4x4096x1024_S16384x1024 := by
    show StableHlo.after hostOps0 (fun b => m (c, b)) main_v6 = _
    after_results; rfl
  rw [e]; generalize A4 m c = x; pointwise []

theorem V_vec (A : Vec Ideal S1x1024 .f32) (j : Fin 1024) :
    shapeCast S1x1024 (shapeCast S1024 A shapeCasts_S1x1024_S1024) shapeCasts_S1024_S1x1024 (ix2 0 j) = A (ix2 0 j) := by
  pointwise []

theorem V_g (c : Dev nD) : V m c main_v12 = shapeCast S1x1024 (shapeCast S1024 (A11 m c) shapeCasts_S1x1024_S1024) shapeCasts_S1024_S1x1024 := by
  show StableHlo.after hostOps0 (fun b => m (c, b)) main_v12 = _
  after_results; rfl

theorem V_h (c : Dev nD) : V m c main_v13 = shapeCast S1x1024 (shapeCast S1024 (A12 m c) shapeCasts_S1x1024_S1024) shapeCasts_S1024_S1x1024 := by
  show StableHlo.after hostOps0 (fun b => m (c, b)) main_v13 = _
  after_results; rfl

/-- The windows' index maps, all points at once: point `t` takes rows `512 t …`, its batch is `t / 8`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 8, 0, 0]
    ∧ win0_6.index t = ![t.val / 8, 0, 0] ∧ win0_7.index t = ![t.val / 8, 0, 0] ∧ win0_8.index t = ![0, 0]
    ∧ win0_9.index t = ![0, 0] ∧ win0_10.index t = ![0, 0] ∧ win0_11.index t = ![0, 0] ∧ win0_12.index t = ![0, 0]
    ∧ win0_14.index t = ![t.val, 0] ∧ win0_15.index t = ![t.val, 0] :=
  (by decide +kernel : ∀ t : Fin grid0.N, _)

theorem t_lt (t : Fin cfg0.N) : t.val < 32 := lt_of_lt_of_eq t.isLt N_0

/-- Row `a` of point `t`'s block, in the array, and its batch. -/
abbrev rowAt (t : Fin cfg0.N) (a : Fin 512) : Fin 16384 := ⟨t.val * 512 + a.val, by have := t_lt t; omega⟩
abbrev batch (r : Fin 16384) : Fin 4 := ⟨r.val / 4096, by omega⟩
abbrev token (r : Fin 16384) : Fin 4096 := ⟨r.val % 4096, by omega⟩

/-- The blocks of a point, at their types. -/
abbrev B0 (c : Dev nD) (t : Fin cfg0.N) : Vec Ideal S512x1024 .bf16 := iblk m c 0 t
abbrev B1 (c : Dev nD) (t : Fin cfg0.N) : Vec Ideal S512x1024 .bf16 := iblk m c 1 t
abbrev B2 (c : Dev nD) (t : Fin cfg0.N) : Vec Ideal S512x1024 .bf16 := iblk m c 2 t
abbrev B3 (c : Dev nD) (t : Fin cfg0.N) : Vec Ideal S512x1024 .bf16 := iblk m c 3 t
abbrev B4 (c : Dev nD) (t : Fin cfg0.N) : Vec Ideal S512x1024 .f32 := iblk m c 4 t
abbrev B5 (c : Dev nD) (t : Fin cfg0.N) : Vec Ideal S1x1x1024 .f32 := iblk m c 5 t
abbrev B6 (c : Dev nD) (t : Fin cfg0.N) : Vec Ideal S1x1x1024 .f32 := iblk m c 6 t
abbrev B7 (c : Dev nD) (t : Fin cfg0.N) : Vec Ideal S1x1x1024 .f32 := iblk m c 7 t
abbrev B8 (c : Dev nD) (t : Fin cfg0.N) : Vec Ideal S1024x1024 .bf16 := iblk m c 8 t
abbrev B9 (c : Dev nD) (t : Fin cfg0.N) : Vec Ideal S1024x1024 .bf16 := iblk m c 9 t
abbrev B10 (c : Dev nD) (t : Fin cfg0.N) : Vec Ideal S1024x1024 .bf16 := iblk m c 10 t
abbrev B11 (c : Dev nD) (t : Fin cfg0.N) : Vec Ideal S1x1024 .f32 := iblk m c 11 t
abbrev B12 (c : Dev nD) (t : Fin cfg0.N) : Vec Ideal S1x1024 .f32 := iblk m c 12 t

theorem b_rows (c : Dev nD) (t : Fin cfg0.N) (a : Fin 512) (j : Fin 1024) :
    B0 m c t (ix2 a j) = A0 m c (ix2 (rowAt t a) j) ∧ B1 m c t (ix2 a j) = A1 m c (ix2 (rowAt t a) j)
      ∧ B2 m c t (ix2 a j) = A2 m c (ix2 (rowAt t a) j) ∧ B3 m c t (ix2 a j) = A3 m c (ix2 (rowAt t a) j) := by
  refine ⟨?_, ?_, ?_, ?_⟩ <;> blk_ext [iblk, V, idx t]

theorem b4 (c : Dev nD) (t : Fin cfg0.N) (a : Fin 512) (j : Fin 1024) :
    B4 m c t (ix2 a j) = A4 m c (ix3 (batch (rowAt t a)) (token (rowAt t a)) j) := by
  refine Eq.trans ?_ (V_x m c (rowAt t a) j)
  blk_ext [iblk, idx t]

theorem b_mods (c : Dev nD) (t : Fin cfg0.N) (a : Fin 512) (j : Fin 1024) :
    B5 m c t (ix3 0 0 j) = A5 m c (ix3 (batch (rowAt t a)) 0 j) ∧ B6 m c t (ix3 0 0 j) = A6 m c (ix3 (batch (rowAt t a)) 0 j)
      ∧ B7 m c t (ix3 0 0 j) = A7 m c (ix3 (batch (rowAt t a)) 0 j) := by
  have ht := t_lt t
  have ha := a.isLt
  refine ⟨?_, ?_, ?_⟩ <;> blk_ext [iblk, V, idx t]

theorem b_weights (c : Dev nD) (t : Fin cfg0.N) (i h : Fin 1024) :
    B8 m c t (ix2 i h) = A8 m c (ix3 0 i h) ∧ B9 m c t (ix2 i h) = A9 m c (ix3 0 i h) ∧ B10 m c t (ix2 i h) = A10 m c (ix3 0 i h) := by
  refine ⟨Eq.trans ?_ ((congrFun (V_a m c) (ix2 i h)).trans (V_weight _ i h)),
    Eq.trans ?_ ((congrFun (V_b m c) (ix2 i h)).trans (V_weight _ i h)),
    Eq.trans ?_ ((congrFun (V_o m c) (ix2 i h)).trans (V_weight _ i h))⟩ <;> blk_ext [iblk, idx t]

theorem b_vecs (c : Dev nD) (t : Fin cfg0.N) (j : Fin 1024) :
    B11 m c t (ix2 0 j) = A11 m c (ix2 0 j) ∧ B12 m c t (ix2 0 j) = A12 m c (ix2 0 j) := by
  refine ⟨Eq.trans ?_ ((congrFun (V_g m c) (ix2 0 j)).trans (V_vec _ j)),
    Eq.trans ?_ ((congrFun (V_h m c) (ix2 0 j)).trans (V_vec _ j))⟩ <;> blk_ext [iblk, idx t]

/-- Row `r` of the first result, -/
def row1 (y o ga gb : Vec Ideal S16384x1024 .bf16) (x : Vec Ideal S4x4096x1024 .f32) (g1 : Vec Ideal S4x1x1024 .f32)
    (wa wb wo : Vec Ideal S1x1024x1024 .f32) (g b : Vec Ideal S1x1024 .f32) (r : Fin 16384) : Fin 1024 → EReal :=
  mergeRow (fun i => y (ix2 r i)) (fun i => o (ix2 r i)) (fun i => ga (ix2 r i)) (fun i => gb (ix2 r i))
    (fun i => x (ix3 (batch r) (token r) i)) (fun i => g1 (ix3 (batch r) 0 i)) (fun i h => wa (ix3 0 i h))
    (fun i h => wb (ix3 0 i h)) (fun h i => wo (ix3 0 h i)) (fun i => g (ix2 0 i)) (fun i => b (ix2 0 i))

/-- of this memory, -/
def out1 (c : Dev nD) (r : Fin 16384) : Fin 1024 → EReal :=
  row1 (A0 m c) (A1 m c) (A2 m c) (A3 m c) (A4 m c) (A5 m c) (A8 m c) (A9 m c) (A10 m c) (A11 m c) (A12 m c) r

/-- and of the second. -/
def out2 (c : Dev nD) (r : Fin 16384) : Fin 1024 → EReal :=
  modRow (out1 m c r) (fun i => A6 m c (ix3 (batch r) 0 i)) (fun i => A7 m c (ix3 (batch r) 0 i))

/-- What point `t` writes. -/
theorem point1 (c : Dev nD) (t : Fin cfg0.N) (a : Fin 512) :
    mergeRow (fun i => B0 m c t (ix2 a i)) (fun i => B1 m c t (ix2 a i)) (fun i => B2 m c t (ix2 a i)) (fun i => B3 m c t (ix2 a i))
        (fun i => B4 m c t (ix2 a i)) (fun i => B5 m c t (ix3 0 0 i)) (fun i h => B8 m c t (ix2 i h)) (fun i h => B9 m c t (ix2 i h))
        (fun h i => B10 m c t (ix2 h i)) (fun i => B11 m c t (ix2 0 i)) (fun i => B12 m c t (ix2 0 i))
      = out1 m c (rowAt t a) := by
  simp only [fun j => (b_rows m c t a j).1, fun j => (b_rows m c t a j).2.1, fun j => (b_rows m c t a j).2.2.1,
    fun j => (b_rows m c t a j).2.2.2, b4, fun j => (b_mods m c t a j).1, fun i h => (b_weights m c t i h).1,
    fun i h => (b_weights m c t i h).2.1, fun i h => (b_weights m c t i h).2.2, fun j => (b_vecs m c t j).1,
    fun j => (b_vecs m c t j).2]
  rfl

theorem point2 (c : Dev nD) (t : Fin cfg0.N) (a : Fin 512) :
    modRow (out1 m c (rowAt t a)) (fun i => B6 m c t (ix3 0 0 i)) (fun i => B7 m c t (ix3 0 0 i)) = out2 m c (rowAt t a) := by
  simp only [fun j => (b_mods m c t a j).2.1, fun j => (b_mods m c t a j).2.2]
  rfl

/-- A result of rows, as an array. -/
def outs (f : Fin 16384 → Fin 1024 → EReal) : S16384x1024.Idx → EReal := fun i => f (i 0) (i 1)

theorem outs_at (f : Fin 16384 → Fin 1024 → EReal) {r r' : Fin 16384} {j j' : Fin 1024} (hr : r.val = r'.val)
    (hj : j.val = j'.val) : f r j = f r' j' := by rw [Fin.ext hr, Fin.ext hj]

theorem final14 (c : Dev nD) : (dats m 0 c).arrAt 14 cfg0.N = outs (out1 m c) := by
  refine (dats m 0 c).arrAt_eq_of_covers 14 _ (by decide +kernel) fun t _ y => ?_
  blk_simp
  rw [after0_14]; frame_out
  idx_vars y
  refine (Cert.MergeIdeal.Block.x1_apply (B0 m c t) (B1 m c t) (B2 m c t) (B3 m c t) (B4 m c t) (B5 m c t) (B6 m c t) (B7 m c t)
    (B8 m c t) (B9 m c t) (B10 m c t) (B11 m c t) (B12 m c t) (iblk m c 13 t) y0 y1).trans ((congrFun (point1 m c t y0) y1).trans (outs_at (out1 m c) ?_ ?_))
  · blk_simp [idx t]
  · blk_simp [idx t]

theorem final15 (c : Dev nD) : (dats m 0 c).arrAt 15 cfg0.N = outs (out2 m c) := by
  refine (dats m 0 c).arrAt_eq_of_covers 15 _ (by decide +kernel) fun t _ y => ?_
  blk_simp
  rw [after0_15]; frame_out
  idx_vars y
  refine (Cert.MergeIdeal.Block.u2_apply (B0 m c t) (B1 m c t) (B2 m c t) (B3 m c t) (B4 m c t) (B5 m c t) (B6 m c t) (B7 m c t)
    (B8 m c t) (B9 m c t) (B10 m c t) (B11 m c t) (B12 m c t) (iblk m c 13 t) y0 y1).trans
    ((congrFun ((congrArg (modRow · _ _) (point1 m c t y0)).trans (point2 m c t y0)) y1).trans (outs_at (out2 m c) ?_ ?_))
  · blk_simp [idx t]
  · blk_simp [idx t]

end Cert.MergeIdeal.Arrays
-- ==== Proof.MergeRef.lean ====
/-
  The merge's reference over the extended reals: its two results, row by row.
-/
module

public import proofs.«01_k».proof.Proof.MergeValue
public import proofs.«01_k».proof.Proof.Gen.MergeRefIdeal.Run

@[expose] public section

set_option maxRecDepth 16384

noncomputable section

namespace Cert.MergeRefIdeal.Rows

open Cert.MergeRefIdeal Cert.MergeRefIdeal.Gen Cert.MergeSpec Idealize.ShloMosaic Idealize.ShloMosaic.TcCoe Idealize.SL.Sem
open Cert.CombineSpec (dot resid norm)
open Cert.MergeIdeal.Arrays (row1 batch token)

variable (a0 a1 a2 a3 : Vec Ideal S16384x1024 .bf16) (a4 : Vec Ideal S4x4096x1024 .f32) (a5 a6 a7 : Vec Ideal S4x1x1024 .f32)
  (a8 a9 a10 : Vec Ideal S1x1024x1024 .f32) (a11 a12 : Vec Ideal S1x1024 .f32)

/-- A branch projected, under its gate. -/
def branch (G Y : Vec Ideal S16384x1024 .bf16) (W : Vec Ideal S1x1024x1024 .f32) : FVec Ideal S16384x1024 .f32 :=
  mulf (F := Ideal) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extf (F := Ideal) (φ := .bf16) .f32 G bitsLt_bf16_f32)))))
    (Host.dotGeneral (F := Ideal) (φ₁ := .f32) (φ₂ := .f32) dot_S16384x1024_S1024x1024_S16384x1024_1_0_0_1_n_n none (extf (F := Ideal) (φ := .bf16) .f32 Y bitsLt_bf16_f32) (shapeCast (α := Ideal .f32) _ W shapeCasts_S1x1024x1024_S1024x1024))

theorem branch_apply (G Y : Vec Ideal S16384x1024 .bf16) (W : Vec Ideal S1x1024x1024 .f32) (r : Fin 16384) (h : Fin 1024) :
    branch G Y W (ix2 r h) = Ideal.logistic (G (ix2 r h)) * dot (fun i => Y (ix2 r i)) (fun i h => W (ix3 0 i h)) h := by
  unfold branch
  pointwise []
  rfl

/-- The residual of merged rows. -/
def residRows (M : FVec Ideal S16384x1024 .f32) : FVec Ideal S4x4096x1024 .f32 :=
  addf (mulf (broadcastInDim S4x4096x1024 ![] bcast_S_S4x4096x1024 (constant S_ .f32 0x3F9837F0#32)) a4)
    (mulf (broadcastInDim S4x4096x1024 ![0, 1, 2] bcast_S4x1x1024_S4x4096x1024_0_1_2 a5)
      (shapeCast _ (Host.dotGeneral (F := Ideal) (φ₁ := .f32) (φ₂ := .f32) dot_S16384x1024_S1024x1024_S16384x1024_1_0_0_1_n_n none M (shapeCast (α := Ideal .f32) _ a10 shapeCasts_S1x1024x1024_S1024x1024)) shapeCasts_S16384x1024_S4x4096x1024))

theorem residRows_apply (M : FVec Ideal S16384x1024 .f32) (b : Fin 4) (t : Fin 4096) (j : Fin 1024) :
    residRows a4 a5 a10 M (ix3 b t j)
      = resid (fun i => a4 (ix3 b t i)) (fun i => a5 (ix3 b 0 i))
          (dot (fun h => M (ix2 ⟨b.val * 4096 + t.val, by omega⟩ h)) (fun h i => a10 (ix3 0 h i))) j := by
  unfold residRows
  pointwise []
  rfl

/-- The layer norm of every row. -/
def normRows (R : FVec Ideal S4x4096x1024 .f32) : FVec Ideal S4x4096x1024 .f32 :=
  let MU : FVec Ideal S4x4096x1 .f32 := (Host.divf (broadcastInDim S4x4096x1 ![0, 1] bcast_S4x4096_S4x4096x1_0_1 (Host.reduceAdd R (constant S_ .f32 0x00000000#32) reducesTo_S4x4096x1024_S4x4096_d2 h_S_)) (broadcastInDim S4x4096x1 ![] bcast_S_S4x4096x1 (constant S_ .f32 0x44800000#32)))
  let D : FVec Ideal S4x4096x1024 .f32 := subf R (broadcastInDim S4x4096x1024 ![0, 1, 2] bcast_S4x4096x1_S4x4096x1024_0_1_2 MU)
  let VA : FVec Ideal S4x4096x1 .f32 := (Host.divf (broadcastInDim S4x4096x1 ![0, 1] bcast_S4x4096_S4x4096x1_0_1 (Host.reduceAdd (mulf D D) (constant S_ .f32 0x00000000#32) reducesTo_S4x4096x1024_S4x4096_d2 h_S_)) (broadcastInDim S4x4096x1 ![] bcast_S_S4x4096x1 (constant S_ .f32 0x44800000#32)))
  let N : FVec Ideal S4x4096x1024 .f32 := mulf D (broadcastInDim S4x4096x1024 ![0, 1, 2] bcast_S4x4096x1_S4x4096x1024_0_1_2 (Host.rsqrt (addf VA (broadcastInDim S4x4096x1 ![] bcast_S_S4x4096x1 (constant S_ .f32 0x3727C5AC#32)))))
  addf (mulf N (broadcastInDim S4x4096x1024 ![0, 1, 2] bcast_S1x1x1024_S4x4096x1024_0_1_2 (broadcastInDim S1x1x1024 ![2] bcast_S1024_S1x1x1024_2 (shapeCast _ a11 shapeCasts_S1x1024_S1024)))) (broadcastInDim S4x4096x1024 ![0, 1, 2] bcast_S1x1x1024_S4x4096x1024_0_1_2 (broadcastInDim S1x1x1024 ![2] bcast_S1024_S1x1x1024_2 (shapeCast _ a12 shapeCasts_S1x1024_S1024)))

theorem normRows_apply (R : FVec Ideal S4x4096x1024 .f32) (b : Fin 4) (t : Fin 4096) (j : Fin 1024) :
    normRows a11 a12 R (ix3 b t j)
      = norm (fun i => R (ix3 b t i)) (fun i => a11 (ix2 0 i)) (fun i => a12 (ix2 0 i)) j := by
  unfold normRows
  pointwise []
  rfl

/-- Flattening to rows of tokens. -/
theorem flat_apply (R : FVec Ideal S4x4096x1024 .f32) (r : Fin 16384) (j : Fin 1024) :
    shapeCast S16384x1024 R shapeCasts_S4x4096x1024_S16384x1024 (ix2 r j) = R (ix3 (batch r) (token r) j) := by
  pointwise []

/-- The normed rows, all stages. -/
def rows1 : FVec Ideal S4x4096x1024 .f32 :=
  normRows a11 a12 (residRows a4 a5 a10 (addf (branch a2 a0 a8) (branch a3 a1 a9)))

theorem rows1_apply (r : Fin 16384) (j : Fin 1024) :
    rows1 a0 a1 a2 a3 a4 a5 a8 a9 a10 a11 a12 (ix3 (batch r) (token r) j)
      = row1 a0 a1 a2 a3 a4 a5 a8 a9 a10 a11 a12 r j := by
  have e : (⟨(batch r).val * 4096 + (token r).val, by omega⟩ : Fin 16384) = r := Fin.ext (by dsimp only; omega)
  have eb : ∀ h : Fin 1024, addf (F := Ideal) (φ := .f32) (branch a2 a0 a8) (branch a3 a1 a9) (ix2 r h)
      = branch a2 a0 a8 (ix2 r h) + branch a3 a1 a9 (ix2 r h) := fun h => rfl
  unfold rows1
  rw [normRows_apply]
  simp only [residRows_apply, e, eb, branch_apply]
  rfl

/-- The rows modulated. -/
def modRows (R : FVec Ideal S4x4096x1024 .f32) : FVec Ideal S4x4096x1024 .f32 :=
  addf (mulf R (broadcastInDim S4x4096x1024 ![0, 1, 2] bcast_S4x1x1024_S4x4096x1024_0_1_2 (addf (broadcastInDim S4x1x1024 ![] bcast_S_S4x1x1024 (constant S_ .f32 0x3F800000#32)) a6))) (broadcastInDim S4x4096x1024 ![0, 1, 2] bcast_S4x1x1024_S4x4096x1024_0_1_2 a7)

theorem modRows_apply (R : FVec Ideal S4x4096x1024 .f32) (b : Fin 4) (t : Fin 4096) (j : Fin 1024) :
    modRows a6 a7 R (ix3 b t j) = modRow (fun i => R (ix3 b t i)) (fun i => a6 (ix3 b 0 i)) (fun i => a7 (ix3 b 0 i)) j := by
  unfold modRows
  pointwise []
  rfl

variable (m : (ℓ : Loc nD τ sig) → Buf (Elt Ideal) ℓ) (c : Dev nD)

/-- The normed rows of a memory's arguments. -/
abbrev rowsOf : FVec Ideal S4x4096x1024 .f32 :=
  rows1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12))

/-- The reference's results are those stages. -/
theorem res1_eq : Value.res_out0 (F := Ideal) m c = shapeCast S16384x1024 (rowsOf m c) shapeCasts_S4x4096x1024_S16384x1024 := rfl

theorem res2_eq : Value.res_out1 (F := Ideal) m c
    = truncf (F := Ideal) (φ := .f32) .bf16 (shapeCast S16384x1024 (modRows (m ((c.tc : Thread nD τ).loc main_arg6))
        (m ((c.tc : Thread nD τ).loc main_arg7)) (rowsOf m c)) shapeCasts_S4x4096x1024_S16384x1024) bitsLt_bf16_f32 := rfl

end Cert.MergeRefIdeal.Rows
-- ==== Proof.MergeClaim.lean ====
/-
  The merge's value claim: from arguments that agree, kernel and reference end with equal rows, normed and modulated.
-/
module

public import proofs.«01_k».proof.Defs
public import proofs.«01_k».proof.Proof.MergeRef
public import proofs.«01_k».proof.Proof.Gen.MergeIdeal.Frame
public import Idealize.ShloMosaic.Lib.Quiescent

@[expose] public section

set_option maxRecDepth 16384

noncomputable section

namespace Cert.MergeClaim

open Idealize.ShloMosaic Idealize.ShloMosaic.TcCoe Idealize.SL.Sem
open Cert.MergeIdeal.Arrays (outs out1 out2)
open Cert.MergeRefIdeal.Rows

/-- The reference ends without fault, its arguments kept. -/
theorem frame_ref : @Cert.quiescent_MergeRefIdeal Cert.MergeRefIdeal.Gen.facts := fun m ρ _ =>
  (θ_run Cert.MergeRefIdeal.defs _ _).mono
    (fun r h => ⟨fun c => (h c).2.2, Idealize.ShloMosaic.sem_eq_zero_of_no_sems (by decide) r.2⟩)
    (Cert.MergeRefIdeal.Value.run (F := Ideal) m ρ)

/-- Kernel and reference compute the same two arrays over the extended reals. -/
theorem value : @Cert.algebraic_MergeIdeal_MergeRefIdeal Cert.MergeIdeal.Gen.facts Cert.MergeRefIdeal.Gen.facts := by
  intro m ρ m' ρ' _ hag
  refine ⟨fun c => outs (out1 m c), fun c => outs (out2 m c), ?_, ?_⟩
  · refine (θ_run _ _ _).mono (fun r h c => ?_) (Cert.MergeIdeal.Value.run_blocks (F := Ideal) m ρ)
    obtain ⟨h14, h15, -, hargs⟩ := h c
    exact ⟨h14.trans (Cert.MergeIdeal.Arrays.final14 m c), h15.trans (Cert.MergeIdeal.Arrays.final15 m c), hargs⟩
  · refine (θ_run _ _ _).mono (fun r h c => ?_) (Cert.MergeRefIdeal.Value.run (F := Ideal) m' ρ')
    obtain ⟨e0, e1, e2, e3, e4, e5, e6, e7, e8, e9, e10, e11, e12, -⟩ := hag c
    obtain ⟨h1, h2, hargs⟩ := h c
    have er : ∀ (i0 : Fin 16384) (j : Fin 1024), rowsOf m' c (ix3 (Cert.MergeIdeal.Arrays.batch i0) (Cert.MergeIdeal.Arrays.token i0) j)
        = out1 m c i0 j := fun i0 j => by
      unfold rowsOf
      rw [e0, e1, e2, e3, e4, e5, e8, e9, e10, e11, e12]
      exact rows1_apply _ _ _ _ _ _ _ _ _ _ _ i0 j
    refine ⟨h1.trans ?_, h2.trans ?_, hargs⟩
    · refine (res1_eq m' c).trans (funext fun i => ?_)
      idx_vars i
      exact (flat_apply _ i0 i1).trans (er i0 i1)
    · refine (res2_eq m' c).trans (funext fun i => ?_)
      idx_vars i
      refine (flat_apply _ i0 i1).trans ((modRows_apply _ _ _ _ _ _).trans ?_)
      rw [e6, e7]
      simp only [er]
      rfl

end Cert.MergeClaim
-- ==== Proof.ExpertsSpec.lean ====
/-
  The routed experts over the extended reals: the sorted rows in blocks of 1024, each block one expert's, the rows of a block
  beyond those it holds read as zeros and the blocks beyond those in use left zero.
-/
module

public import proofs.«01_k».proof.Proof.CombineSpec
public import Idealize.ShloMosaic.Lib.ValueIdxCore
public import Idealize.ShloMosaic.Lib.IdealHost

@[expose] public section

set_option maxRecDepth 16384

noncomputable section

namespace Cert.ExpertsSpec

open Idealize.ShloMosaic Idealize.ShloMosaic.ValueIdx Cert.CombineSpec

/-- Word `a` is below word `v`, both read as signed numbers. -/
abbrev Below (a : Nat) (v : BitVec 32) : Prop := IntOp.cmpi .slt (BitVec.ofNat 32 a) v = 1#1

/-- Row `a` of a block that holds `v` rows: the packed row, or zeros beyond them. -/
def input (p : Fin 512 → BitVec 32) (a : Nat) (v : BitVec 32) (j : Fin 1024) : EReal := if Below a v then row p j else 0

/-- The expert a word names. -/
def expert (e : BitVec 32) : Fin 64 := ⟨e.toNat % 64, Nat.mod_lt _ (by decide)⟩

/-- The sorted rows, the plan's tables and the experts' matrices. -/
structure Args where
  x : Fin 196608 → Fin 512 → BitVec 32
  e : Fin 192 → BitVec 32
  v : Fin 192 → BitVec 32
  n : BitVec 32
  wg : Fin 64 → Fin 1024 → Fin 256 → EReal
  wu : Fin 64 → Fin 1024 → Fin 256 → EReal
  wd : Fin 64 → Fin 256 → Fin 1024 → EReal

/-- Row `a` of block `i` through the block's expert, -/
def Args.through (A : Args) (i : Fin 192) (a j : Fin 1024) : EReal :=
  shared (input (A.x ⟨i.val * 1024 + a.val, by omega⟩) a.val (A.v i)) (A.wg (expert (A.e i))) (A.wu (expert (A.e i)))
    (A.wd (expert (A.e i))) j

/-- and as the result holds it. -/
def Args.result (A : Args) (i : Fin 192) (a j : Fin 1024) : EReal := if Below i.val A.n then A.through i a j else 0

/-- The result array. -/
def Args.out (A : Args) : (⟨2, ![196608, 1024]⟩ : Shape).Idx → EReal := fun y =>
  A.result ⟨(y 0).val / 1024, by have := idx2_lt0 y; omega⟩ ⟨(y 0).val % 1024, Nat.mod_lt _ (by decide)⟩ ⟨(y 1).val, idx2_lt1 y⟩

/-- The array at row `a` of block `i`. -/
theorem Args.out_at (A : Args) (i : Fin 192) (a j : Fin 1024) (y : (⟨2, ![196608, 1024]⟩ : Shape).Idx)
    (h0 : (y 0).val = i.val * 1024 + a.val) (h1 : (y 1).val = j.val) : A.out y = A.result i a j := by
  unfold Args.out
  have e0 : (⟨(y 0).val / 1024, by have := idx2_lt0 y; omega⟩ : Fin 192) = i := Fin.ext (by dsimp only; omega)
  have e1 : (⟨(y 0).val % 1024, Nat.mod_lt _ (by decide)⟩ : Fin 1024) = a := Fin.ext (by dsimp only; omega)
  have e2 : (⟨(y 1).val, idx2_lt1 y⟩ : Fin 1024) = j := Fin.ext h1
  rw [e0, e1, e2]

theorem half_zero (i : Nat) : half i 0#32 = 0 := by
  unfold half
  rw [show (0#32 : BitVec 32).extractLsb' (i * 16) 16 = 0#16 from by simp]
  exact Ideal.ofBits_zero_bf16

/-- A row whose words are zeros beyond those held. -/
theorem row_select (p : Fin 512 → BitVec 32) (a : Nat) (v : BitVec 32) (j : Fin 1024) :
    row (fun w => Scalar.select (IntOp.cmpi .slt (BitVec.ofNat 32 a) v) (p w) 0#32) j = input p a v j := by
  unfold input
  by_cases h : Below a v
  · rw [if_pos h]
    refine congrArg (fun q => row q j) (funext fun w => ?_)
    rw [h]; rfl
  · rw [if_neg h]
    have h' := eq_zero_of_ne_one h
    rw [show (fun w => Scalar.select (IntOp.cmpi .slt (BitVec.ofNat 32 a) v) (p w) 0#32) = fun _ => 0#32 from
      funext fun w => by rw [h']; rfl]
    unfold row
    split <;> exact half_zero _

/-- An `if` as the selection by its bit. -/
theorem select_below (a : Nat) (v : BitVec 32) (x y : EReal) :
    Scalar.select (IntOp.cmpi .slt (BitVec.ofNat 32 a) v) x y = if Below a v then x else y := by
  by_cases h : Below a v
  · rw [if_pos h, h]; rfl
  · rw [if_neg h, eq_zero_of_ne_one h]; rfl

end Cert.ExpertsSpec
-- ==== Proof.ExpertsRef.lean ====
/-
  The routed experts' reference over the extended reals, row by row.
-/
module

public import proofs.«01_k».proof.Proof.ExpertsSpec
public import proofs.«01_k».proof.Proof.Gen.ExpertsRefIdeal.Run
public import Idealize.ShloMosaic.Lib.Pointwise
public import Idealize.ShloMosaic.Lib.BitcastConvert
public import Idealize.ShloMosaic.Lib.WordCmp

@[expose] public section

set_option maxRecDepth 16384

noncomputable section

namespace Cert.ExpertsRefIdeal.Rows

open Cert.ExpertsRefIdeal Cert.ExpertsRefIdeal.Gen Cert.CombineSpec Cert.ExpertsSpec Idealize.ShloMosaic Idealize.ShloMosaic.TcCoe
open Idealize.SL.Sem

/-- Whole slabs of an array of `N` taken by a column of indices. -/
abbrev slabs (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Entry `(a, b)` of the slab taken at `i`: that entry of the slab its index names, held inside the array. -/
theorem slabs_apply {α : Type} {N A B R : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (i : Fin R) (a : Fin A) (b : Fin B) :
    Host.gather (slabs N A B R wf) x idx (ix3 i a b) = x (ix3 ⟨min (idx (ix2 i 0)).toInt.toNat (N - 1), by omega⟩ a b) := by
  refine congrArg x (funext fun k => Fin.ext ?_)
  show (slabs N A B R wf).start (ix3 i a b) idx k + (slabs N A B R wf).batchCoord (ix3 i a b) k
      + (slabs N A B R wf).offCoord (ix3 i a b) k = _
  rw [GatherDims.batchCoord_eq_zero _ _ _ List.not_mem_nil, Nat.add_zero]
  unfold GatherDims.start
  match k with
  | ⟨0, h0⟩ =>
    rw [GatherDims.offCoord_eq_zero _ _ _ (fun h => ((GatherDims.mem_sKept _ _).mp h).1 (List.mem_singleton.mpr rfl)),
      dif_pos (show (⟨0, h0⟩ : Fin 3) ∈ (slabs N A B R wf).startIndexMap from List.mem_singleton.mpr rfl), Nat.add_zero]
    have e : (slabs N A B R wf).siIdx (ix3 i a b) ⟨List.idxOf (0 : Fin 3) (slabs N A B R wf).startIndexMap,
        List.idxOf_lt_length_iff.2 (List.mem_singleton.mpr rfl)⟩ = ix2 i 0 := by
      funext d
      match d with
      | ⟨0, _⟩ => rfl
      | ⟨1, _⟩ => rfl
    exact congrArg (fun q => min (idx q).toInt.toNat (N - 1)) e
  | ⟨1, h1⟩ =>
    rw [dif_neg (show (⟨1, h1⟩ : Fin 3) ∉ (slabs N A B R wf).startIndexMap from by simp), Nat.zero_add]
    rfl
  | ⟨2, h2⟩ =>
    rw [dif_neg (show (⟨2, h2⟩ : Fin 3) ∉ (slabs N A B R wf).startIndexMap from by simp), Nat.zero_add]
    rfl

variable (a0 : Vec Ideal S196608x512 .i32) (a1 a2 : Vec Ideal S192 .i32) (a3 : Vec Ideal S1 .i32)
  (a4 a5 : Vec Ideal S1x64x1024x256 .f32) (a6 : Vec Ideal S1x64x256x1024 .f32)

/-- The sorted rows, unpacked. -/
def unpacked : FVec Ideal S196608x1024 .f32 :=
  extf (F := Ideal) (φ := .bf16) .f32 (concatenate S196608x1024 1 [⟨S196608x512, (shapeCast S196608x512 (extractStridedSlice S196608x512x1 ![0, 0, 0] (bitcastToFloat (F := Ideal) .bf16 (Host.bitcastConvertNarrow S196608x512x2 16 a0 splits_S196608x512_w32_S196608x512x2_w16)) slices_S196608x512x2_S196608x512x1_0_0_0) shapeCasts_S196608x512x1_S196608x512)⟩, ⟨S196608x512, (shapeCast S196608x512 (extractStridedSlice S196608x512x1 ![0, 0, 1] (bitcastToFloat (F := Ideal) .bf16 (Host.bitcastConvertNarrow S196608x512x2 16 a0 splits_S196608x512_w32_S196608x512x2_w16)) slices_S196608x512x2_S196608x512x1_0_0_1) shapeCasts_S196608x512x1_S196608x512)⟩] concatenates_S196608x512_S196608x512_S196608x1024_d1) bitsLt_bf16_f32

theorem unpacked_drop (r : Fin 196608) (w : Fin 512) (k : Fin 2) :
    splits_S196608x512_w32_S196608x512x2_w16.drop (ix3 r w k) = (ix2 r w : S196608x512.Idx) := by
  funext d
  match d with
  | ⟨0, _⟩ => rfl
  | ⟨1, _⟩ => rfl

theorem unpacked_apply (r : Fin 196608) (j : Fin 1024) : unpacked a0 (ix2 r j) = row (fun w => a0 (ix2 r w)) j := by
  unfold unpacked row half
  pointwise []
  simp only [unpacked_drop]

theorem zero_word : (id (constant (F := Ideal) S_ .f32 0x00000000#32) : FVec Ideal S_ .f32) ix0 = (0 : EReal) := Ideal.ofBits_zero_f32

/-- The blocks' rows, zeros beyond those they hold. -/
def rows (U : FVec Ideal S196608x1024 .f32) : FVec Ideal S192x1024x1024 .f32 :=
  select (broadcastInDim S192x1024x1024 ![0, 1, 2] bcast_S192x1024x1_S192x1024x1024_0_1_2 (broadcastInDim S192x1024x1 ![0, 1] bcast_S192x1024_S192x1024x1_0_1 (cmpi .slt (broadcastInDim S192x1024 ![0, 1] bcast_S1x1024_S192x1024_0_1 (broadcastInDim S1x1024 ![1] bcast_S1024_S1x1024_1 (iotaInDim S1024 32 0))) (broadcastInDim S192x1024 ![0, 1] bcast_S192x1_S192x1024_0_1 (broadcastInDim S192x1 ![0] bcast_S192_S192x1_0 a2))))) (shapeCast S192x1024x1024 U shapeCasts_S196608x1024_S192x1024x1024) (broadcastInDim S192x1024x1024 ![] bcast_S_S192x1024x1024 (id (constant (F := Ideal) S_ .f32 0x00000000#32)))

theorem rows_apply (U : FVec Ideal S196608x1024 .f32) (i : Fin 192) (a j : Fin 1024) :
    rows a2 U (ix3 i a j) = (if Below a.val (a2 (ix1 i)) then U (ix2 ⟨i.val * 1024 + a.val, by omega⟩ j) else 0 : EReal) := by
  rw [← select_below]
  unfold rows
  pointwise []
  rw [zero_word]

/-- The blocks' experts as a column of indices. -/
def column : IVec S192x1 32 :=
  broadcastInDim S192x1 ![0] bcast_S192_S192x1_0 (select (cmpi .slt a1 (broadcastInDim S192 ![] bcast_S_S192 (constantI S_ 32 0#32))) (addi a1 (broadcastInDim S192 ![] bcast_S_S192 (constantI S_ 32 64#32))) a1)

theorem column_apply (i : Fin 192) (h : (a1 (ix1 i)).toNat < 64) : column a1 (ix2 i 0) = a1 (ix1 i) := by
  have e : column a1 (ix2 i 0) = Scalar.select (IntOp.cmpi .slt (a1 (ix1 i)) 0#32) (a1 (ix1 i) + 64#32) (a1 (ix1 i)) := by
    unfold column
    pointwise []
    rfl
  rw [e]
  generalize a1 (ix1 i) = w at h
  have hw : IntOp.cmpi .slt w 0#32 = 0#1 := by
    refine ValueIdx.eq_zero_of_ne_one fun h' => ?_
    rw [WordCmp.cmpi_slt_eq, WordCmp.ofBool_decide_eq_one_iff, BitVec.toInt_eq_toNat_of_lt (by omega)] at h'
    rw [show (0#32 : BitVec 32).toInt = 0 from rfl] at h'
    omega
  rw [hw]
  rfl

/-- The experts' matrices of the blocks. -/
def wide (W : Vec Ideal S1x64x1024x256 .f32) (I : IVec S192x1 32) : FVec Ideal S192x1024x256 .f32 :=
  Host.gather gather_S64x1024x256_S192x1_S192x1024x256_12_0_n_n_0_1_11024256 (shapeCast S64x1024x256 W shapeCasts_S1x64x1024x256_S64x1024x256) I

def tall (W : Vec Ideal S1x64x256x1024 .f32) (I : IVec S192x1 32) : FVec Ideal S192x256x1024 .f32 :=
  Host.gather gather_S64x256x1024_S192x1_S192x256x1024_12_0_n_n_0_1_12561024 (shapeCast S64x256x1024 W shapeCasts_S1x64x256x1024_S64x256x1024) I

theorem word_slab (w : BitVec 32) (h : w.toNat < 64) (hk : min w.toInt.toNat (64 - 1) < 64) :
    (⟨min w.toInt.toNat (64 - 1), hk⟩ : Fin 64) = expert w := by
  refine Fin.ext ?_
  unfold expert
  dsimp only
  rw [BitVec.toInt_eq_toNat_of_lt (by omega), Int.toNat_natCast]
  omega

theorem wide_apply (W : Vec Ideal S1x64x1024x256 .f32) (i : Fin 192) (h : (a1 (ix1 i)).toNat < 64) (r : Fin 1024) (k : Fin 256) :
    wide W (column a1) (ix3 i r k) = W (ix4 0 (expert (a1 (ix1 i))) r k) := by
  unfold wide
  refine (slabs_apply (by decide) gather_S64x1024x256_S192x1_S192x1024x256_12_0_n_n_0_1_11024256_wf _ _ i r k).trans ?_
  simp only [column_apply a1 i h, word_slab _ h]
  pointwise []

theorem tall_apply (W : Vec Ideal S1x64x256x1024 .f32) (i : Fin 192) (h : (a1 (ix1 i)).toNat < 64) (k : Fin 256) (r : Fin 1024) :
    tall W (column a1) (ix3 i k r) = W (ix4 0 (expert (a1 (ix1 i))) k r) := by
  unfold tall
  refine (slabs_apply (by decide) gather_S64x256x1024_S192x1_S192x256x1024_12_0_n_n_0_1_12561024_wf _ _ i k r).trans ?_
  simp only [column_apply a1 i h, word_slab _ h]
  pointwise []

/-- The blocks' rows through matrices of the blocks, and the blocks beyond those in use. -/
def through (R : FVec Ideal S192x1024x1024 .f32) (G U : FVec Ideal S192x1024x256 .f32) (D : FVec Ideal S192x256x1024 .f32) :
    FVec Ideal S196608x1024 .bf16 :=
  let P : FVec Ideal S192x1024x256 .f32 := Host.dotGeneral (F := Ideal) (φ₁ := .f32) (φ₂ := .f32) dot_S192x1024x1024_S192x1024x256_S192x1024x256_2_1_1_2_0_0 none R G
  let S : FVec Ideal S192x1024x256 .f32 := mulf P (Host.divf (broadcastInDim S192x1024x256 ![] bcast_S_S192x1024x256 (constant S_ .f32 0x3F800000#32)) (addf (broadcastInDim S192x1024x256 ![] bcast_S_S192x1024x256 (constant S_ .f32 0x3F800000#32)) (Host.exp (Host.negf P))))
  truncf .bf16 (shapeCast S196608x1024 (select (broadcastInDim S192x1024x1024 ![0, 1, 2] bcast_S192x1x1_S192x1024x1024_0_1_2 (broadcastInDim S192x1x1 ![0] bcast_S192_S192x1x1_0 (cmpi .slt (iotaInDim S192 32 0) (broadcastInDim S192 ![0] bcast_S1_S192_0 a3)))) (Host.dotGeneral (F := Ideal) (φ₁ := .f32) (φ₂ := .f32) dot_S192x1024x256_S192x256x1024_S192x1024x1024_2_1_1_2_0_0 none (mulf S (Host.dotGeneral (F := Ideal) (φ₁ := .f32) (φ₂ := .f32) dot_S192x1024x1024_S192x1024x256_S192x1024x256_2_1_1_2_0_0 none R U)) D) (broadcastInDim S192x1024x1024 ![] bcast_S_S192x1024x1024 (id (constant S_ .f32 0x00000000#32)))) shapeCasts_S192x1024x1024_S196608x1024) bitsLt_bf16_f32

theorem through_apply (R : FVec Ideal S192x1024x1024 .f32) (G U : FVec Ideal S192x1024x256 .f32) (D : FVec Ideal S192x256x1024 .f32)
    (r : Fin 196608) (j : Fin 1024) :
    through a3 R G U D (ix2 r j)
      = (if Below (r.val / 1024) (a3 (ix1 0)) then
          shared (fun i => R (ix3 ⟨r.val / 1024, by omega⟩ ⟨r.val % 1024, by omega⟩ i)) (fun i h => G (ix3 ⟨r.val / 1024, by omega⟩ i h))
            (fun i h => U (ix3 ⟨r.val / 1024, by omega⟩ i h)) (fun h i => D (ix3 ⟨r.val / 1024, by omega⟩ h i)) j
          else 0 : EReal) := by
  rw [← select_below]
  unfold through
  pointwise []
  rw [zero_word]
  rfl

/-- The reference's result is those stages. -/
theorem res_eq (m : (ℓ : Loc nD τ sig) → Buf (Elt Ideal) ℓ) (c : Dev nD) :
    Value.res_out0 (F := Ideal) m c
      = through (m ((c.tc : Thread nD τ).loc main_arg3))
          (rows (m ((c.tc : Thread nD τ).loc main_arg2)) (unpacked (m ((c.tc : Thread nD τ).loc main_arg0))))
          (wide (m ((c.tc : Thread nD τ).loc main_arg4)) (column (m ((c.tc : Thread nD τ).loc main_arg1))))
          (wide (m ((c.tc : Thread nD τ).loc main_arg5)) (column (m ((c.tc : Thread nD τ).loc main_arg1))))
          (tall (m ((c.tc : Thread nD τ).loc main_arg6)) (column (m ((c.tc : Thread nD τ).loc main_arg1)))) := rfl

/-- The arguments, -/
def argsOf : Args where
  x := fun r w => a0 (ix2 r w)
  e := fun i => a1 (ix1 i)
  v := fun i => a2 (ix1 i)
  n := a3 (ix1 0)
  wg := fun e i h => a4 (ix4 0 e i h)
  wu := fun e i h => a5 (ix4 0 e i h)
  wd := fun e h i => a6 (ix4 0 e h i)

/-- and the result of them. -/
theorem res_out (h : ∀ i : Fin 192, (a1 (ix1 i)).toNat < 64) :
    through a3 (rows a2 (unpacked a0)) (wide a4 (column a1)) (wide a5 (column a1)) (tall a6 (column a1))
      = (argsOf a0 a1 a2 a3 a4 a5 a6).out := by
  funext y
  idx_vars y
  refine (through_apply a3 _ _ _ _ y0 y1).trans ?_
  rw [(argsOf a0 a1 a2 a3 a4 a5 a6).out_at ⟨y0.val / 1024, by omega⟩ ⟨y0.val % 1024, by omega⟩ y1 (ix2 y0 y1)
    (by show y0.val = _; dsimp only; omega) rfl]
  unfold Args.result Args.through
  simp only [rows_apply, unpacked_apply, wide_apply a1 _ _ (h _), tall_apply a1 _ _ (h _)]
  rfl

end Cert.ExpertsRefIdeal.Rows
-- ==== Proof.ExpertsBlock.lean ====
/-
  What one point of the routed experts writes: the rows of its block through the block's expert, or zeros.
-/
module

public import proofs.«01_k».proof.Proof.ExpertsSpec
public import proofs.«01_k».proof.Proof.Gen.ExpertsIdeal.Frame

@[expose] public section

set_option maxRecDepth 16384

noncomputable section

namespace Cert.ExpertsIdeal.Block

open Cert.ExpertsIdeal Cert.ExpertsIdeal.Gen Cert.CombineSpec Cert.ExpertsSpec Idealize.ShloMosaic Idealize.ShloMosaic.TcCoe
open Idealize.SL.Sem

/-- A block of packed rows, unpacked: the low halves beside the high ones. -/
theorem unp_apply (v : IVec S1024x512 32) (a : Fin 1024) (j : Fin 1024) :
    concatenate S1024x1024 1 [⟨S1024x512, unpackElementwise (F := Ideal) 0 v⟩, ⟨S1024x512, unpackElementwise (F := Ideal) 1 v⟩] concatenates_S1024x512_S1024x512_S1024x1024_d1 (ix2 a j)
      = row (fun w => v (ix2 a w)) j := by
  unfold row half
  pointwise []

/-- The block's words, zeros beyond the rows it holds. -/
theorem live_apply (v : BitVec 32) (x : Vec Ideal S1024x512 .i32) (a : Fin 1024) (w : Fin 512) :
    (select (cmpi .slt (iota .tc S1024x512 32 [0] iota_S1024x512_d0_w32) (broadcast S1024x512 v)) x (broadcast S1024x512 0#32) : IVec S1024x512 32) (ix2 a w)
      = Scalar.select (IntOp.cmpi .slt (BitVec.ofNat 32 a.val) v) (x (ix2 a w)) 0#32 := by
  pointwise []

/-- Row `a` of a block with rows in use. -/
theorem pay2_apply (v : BitVec 32) (g u : Vec Ideal S1x1024x256 .bf16) (d : Vec Ideal S1x256x1024 .bf16)
    (x : Vec Ideal S1024x512 .i32) (a j : Fin 1024) :
    k0_pay2 v g u d x (ix2 a j)
      = shared (input (fun w => x (ix2 a w)) a.val v) (fun i h => g (ix3 0 i h)) (fun i h => u (ix3 0 i h))
          (fun h i => d (ix3 0 h i)) j := by
  have e := fun a j => (unp_apply (select (cmpi .slt (iota .tc S1024x512 32 [0] iota_S1024x512_d0_w32) (broadcast S1024x512 v)) x (broadcast S1024x512 0#32)) a j).trans
    ((congrArg (fun p => row p j) (funext fun w => live_apply v x a w)).trans (row_select (fun w => x (ix2 a w)) a.val v j))
  unfold k0_pay2
  generalize concatenate S1024x1024 1 [⟨S1024x512, unpackElementwise (F := Ideal) 0 (select (cmpi .slt (iota .tc S1024x512 32 [0] iota_S1024x512_d0_w32) (broadcast S1024x512 v)) x (broadcast S1024x512 0#32))⟩, ⟨S1024x512, unpackElementwise (F := Ideal) 1 (select (cmpi .slt (iota .tc S1024x512 32 [0] iota_S1024x512_d0_w32) (broadcast S1024x512 v)) x (broadcast S1024x512 0#32))⟩] concatenates_S1024x512_S1024x512_S1024x1024_d1 = R at e ⊢
  pointwise []
  simp only [e]
  rfl

/-- A block beyond those in use. -/
theorem pay1_apply (a j : Fin 1024) : k0_pay1 (F := Ideal) (ix2 a j) = (0 : EReal) := by
  pointwise [k0_pay1]

end Cert.ExpertsIdeal.Block
-- ==== Proof.ExpertsPlan.lean ====
/-
  What the precondition says of the plan's tables, and that it keeps every block of the routed experts inside its array.
-/
module

public import proofs.«01_k».proof.Defs
public import proofs.«01_k».proof.Proof.ExpertsSpec
public import proofs.«01_k».proof.Proof.Gen.Experts.Frame
public import proofs.«01_k».proof.Proof.Gen.ExpertsIdeal.Frame
public import proofs.«01_k».proof.Proof.Gen.Pre_plan_in_range
public import Idealize.ShloMosaic.Lib.Pointwise
public import Idealize.ShloMosaic.Lib.WordCmp

@[expose] public section

set_option maxRecDepth 16384

noncomputable section

namespace Cert.ExpertsPlan

open Idealize.ShloMosaic Idealize.ShloMosaic.TcCoe

/-- The blocks' experts are experts, and at least one block is in use. -/
structure InRange (e : Fin 192 → BitVec 32) (n : BitVec 32) : Prop where
  expert : ∀ i, (e i).toNat < 64
  some : 1 ≤ n.toNat
  most : n.toNat < 2 ^ 31

theorem below_bound (w : BitVec 32) (k : Nat) (hk : k < 2 ^ 31) (h0 : IntOp.cmpi .sge w 0#32 = 1#1)
    (h1 : IntOp.cmpi .slt w (BitVec.ofNat 32 k) = 1#1) : w.toNat < k := by
  rw [WordCmp.cmpi_sge_zero, WordCmp.ofBool_decide_eq_one_iff] at h0
  rw [WordCmp.cmpi_slt_eq, WordCmp.ofBool_decide_eq_one_iff, WordCmp.toInt_eq_toNat_of_lt_half h0,
    WordCmp.toInt_ofNat_of_lt hk] at h1
  omega

theorem positive (w : BitVec 32) (h0 : IntOp.cmpi .sge w 1#32 = 1#1) : 1 ≤ w.toNat ∧ w.toNat < 2 ^ 31 := by
  rw [WordCmp.cmpi_sge_eq, WordCmp.ofBool_decide_eq_one_iff] at h0
  rw [show (1#32 : BitVec 32).toInt = 1 from rfl] at h0
  have hw := (WordCmp.toInt_nonneg_iff_lt_half w).1 (by omega)
  rw [WordCmp.toInt_eq_toNat_of_lt_half hw] at h0
  omega

theorem fn_apply {F : FTy → Type} [FloatOps F] (a0 : IVec Pre_plan_in_range.S196608x512 32) (a1 a2 : IVec Pre_plan_in_range.S192 32)
    (a3 : IVec Pre_plan_in_range.S1 32) (a4 a5 : FVec F Pre_plan_in_range.S1x64x1024x256 .f32)
    (a6 : FVec F Pre_plan_in_range.S1x64x256x1024 .f32) (i : Fin 192) :
    Pre_plan_in_range.fn a0 a1 a2 a3 a4 a5 a6 (ix1 i)
      = IntOp.andi (IntOp.andi (IntOp.cmpi .sge (a1 (ix1 i)) 0#32) (IntOp.cmpi .slt (a1 (ix1 i)) 64#32))
          (IntOp.cmpi .sge (a3 (ix1 0)) 1#32) := by
  pointwise [Pre_plan_in_range.fn]

theorem inRange {F : FTy → Type} [FloatOps F] (a0 : IVec Pre_plan_in_range.S196608x512 32) (a1 a2 : IVec Pre_plan_in_range.S192 32)
    (a3 : IVec Pre_plan_in_range.S1 32) (a4 a5 : FVec F Pre_plan_in_range.S1x64x1024x256 .f32)
    (a6 : FVec F Pre_plan_in_range.S1x64x256x1024 .f32) (h : Pre_plan_in_range.fn a0 a1 a2 a3 a4 a5 a6 = fun _ => 1#1) :
    InRange (fun i => a1 (ix1 i)) (a3 (ix1 0)) := by
  have both (a b : BitVec 1) : IntOp.andi a b = 1#1 ↔ a = 1#1 ∧ b = 1#1 := by revert a b; decide
  have e := fun i : Fin 192 => (fn_apply a0 a1 a2 a3 a4 a5 a6 i).symm.trans (congrFun h (ix1 i))
  simp only [both] at e
  have hn := positive _ (e 0).2
  exact ⟨fun i => below_bound _ 64 (by decide) (e i).1.1 (e i).1.2, hn.1, hn.2⟩

/-- The smaller of a block and the last in use, as words. -/
theorem last_used (i : Fin 192) (n : BitVec 32) (h1 : 1 ≤ n.toNat) (h2 : n.toNat < 2 ^ 31) :
    (Scalar.minsi (BitVec.ofNat 32 i.val) (Scalar.subi n 1#32)).toNat = min i.val (n.toNat - 1) := by
  have hs : (Scalar.subi n 1#32).toNat = n.toNat - 1 := by
    show (n - 1#32).toNat = _
    rw [BitVec.toNat_sub]
    have : (1#32 : BitVec 32).toNat = 1 := rfl
    omega
  have hi : (BitVec.ofNat 32 i.val).toNat = i.val := WordCmp.toNat_ofNat_of_lt (by omega)
  have hI : (BitVec.ofNat 32 i.val).toInt = i.val := WordCmp.toInt_ofNat_of_lt (by omega)
  have hS : (Scalar.subi n 1#32).toInt = ((n.toNat - 1 : Nat) : Int) := by
    rw [WordCmp.toInt_eq_toNat_of_lt_half (by rw [hs]; omega), hs]
  generalize Scalar.subi n 1#32 = s at hs hS
  unfold Scalar.minsi IntOp.minsi
  simp only [BitVec.slt, BitVec.sle, hI, hS]
  split <;> simp_all <;> omega

end Cert.ExpertsPlan

namespace Cert.Experts.Plan

open Cert.Experts Cert.Experts.Gen Cert.ExpertsPlan Idealize.ShloMosaic Idealize.ShloMosaic.TcCoe
open Idealize.ShloMosaic.Tactic Idealize.SL.Sem

variable {F : FTy → Type} [FloatOps F] (m : (ℓ : Loc nD τ sig) → Buf (Elt F) ℓ)

/-- The table of the blocks' experts, -/
theorem table0 (i : Fin 192) : (tbl m 0 : IVec S192 32) (ix1 i) = (m (((0 : Dev nD).tc : Thread nD τ).loc main_arg1) : IVec S192 32) (ix1 i) :=
  congrFun (V_main_arg1 m 0) (ix1 i)

/-- the table of the rows each holds, and behind them the number of blocks in use. -/
theorem table1 : (tbl m 1 : IVec S193 32)
    = concatenate S193 0 [⟨S192, (m (((0 : Dev nD).tc : Thread nD τ).loc main_arg2) : IVec S192 32)⟩, ⟨S1, (m (((0 : Dev nD).tc : Thread nD τ).loc main_arg3) : IVec S1 32)⟩] concatenates_S192_S1_S193_d0 := by
  show StableHlo.after hostOps0 (fun b => m (0, b)) main_v6 = _
  after_results

theorem table1_held (i : Fin 192) : (tbl m 1 : IVec S193 32) (ix1 ⟨i.val, by omega⟩)
    = (m (((0 : Dev nD).tc : Thread nD τ).loc main_arg2) : IVec S192 32) (ix1 i) := by
  rw [table1]
  generalize (m (((0 : Dev nD).tc : Thread nD τ).loc main_arg2) : IVec S192 32) = x
  generalize (m (((0 : Dev nD).tc : Thread nD τ).loc main_arg3) : IVec S1 32) = y
  pointwise []

theorem table1_used : (tbl m 1 : IVec S193 32) (ix1 192) = (m (((0 : Dev nD).tc : Thread nD τ).loc main_arg3) : IVec S1 32) (ix1 0) := by
  rw [table1]
  generalize (m (((0 : Dev nD).tc : Thread nD τ).loc main_arg2) : IVec S192 32) = x
  generalize (m (((0 : Dev nD).tc : Thread nD τ).loc main_arg3) : IVec S1 32) = y
  pointwise []

/-- Element `n` of a table, as the index maps name it. -/
theorem point_192 (n : Nat) (h : n < 192) (off : Fin 1 → Nat) (ho : off 0 = n) (inb : ∀ a : Fin 1, off a + S1.size a ≤ S192.size a)
    (h1 : 0 < (Rect.unit (s := S192) off S1.size inb).shape.numel) :
    (Rect.unit (s := S192) off S1.size inb).emb (Shape.Idx.first h1) = (ix1 ⟨n, h⟩ : S192.Idx) := by
  funext a
  obtain rfl : a = 0 := Subsingleton.elim _ _
  refine Fin.ext ?_
  show off 0 + 1 * 0 = n
  omega

theorem point_193 (n : Nat) (h : n < 193) (off : Fin 1 → Nat) (ho : off 0 = n) (inb : ∀ a : Fin 1, off a + S1.size a ≤ S193.size a)
    (h1 : 0 < (Rect.unit (s := S193) off S1.size inb).shape.numel) :
    (Rect.unit (s := S193) off S1.size inb).emb (Shape.Idx.first h1) = (ix1 ⟨n, h⟩ : S193.Idx) := by
  funext a
  obtain rfl : a = 0 := Subsingleton.elim _ _
  refine Fin.ext ?_
  show off 0 + 1 * 0 = n
  omega

theorem i_lt (i : grid0.Coords) : (i 0).val < 192 := (i 0).isLt

theorem point_eq (i : grid0.Coords) : (k0_off1 i) 0 = (i 0).val := by
  have := i_lt i
  show (Scalar.indexCast (BitVec.ofNat 32 (i 0).val)).toNat = _
  unfold Scalar.indexCast
  exact WordCmp.toNat_ofNat_of_lt (by omega)

/-- The expert the maps read at a point, -/
theorem expert_at (i : grid0.Coords) : (tbl m 0 : IVec S192 32) ((Rect.unit (s := S192) ![(Scalar.indexCast (BitVec.ofNat 32 (i 0).val)).toNat] S1.size (k0_off1_inb i)).emb (Shape.Idx.first (numel1_S1.symm ▸ Nat.one_pos)))
    = (m (((0 : Dev nD).tc : Thread nD τ).loc main_arg1) : IVec S192 32) (ix1 ⟨(i 0).val, i_lt i⟩) :=
  (congrArg (tbl m 0 : IVec S192 32) (point_192 (i 0).val (i_lt i) _ (point_eq i) _ _)).trans (table0 m ⟨(i 0).val, i_lt i⟩)

/-- and the number of blocks in use. -/
theorem used_at : (tbl m 1 : IVec S193 32) ((Rect.unit (s := S193) ![192] S1.size inb_S193_S1_192).emb (Shape.Idx.first (numel1_S1.symm ▸ Nat.one_pos)))
    = (m (((0 : Dev nD).tc : Thread nD τ).loc main_arg3) : IVec S1 32) (ix1 0) :=
  (congrArg (tbl m 1 : IVec S193 32) (point_193 192 (by decide) _ rfl _ _)).trans (table1_used m)

abbrev Tables : Prop := InRange (fun i => (m (((0 : Dev nD).tc : Thread nD τ).loc main_arg1) : IVec S192 32) (ix1 i))
  ((m (((0 : Dev nD).tc : Thread nD τ).loc main_arg3) : IVec S1 32) (ix1 0))

/-- The block of rows at a point, -/
theorem map0 (h : Tables m) (i : grid0.Coords) : cc0_transform_0 inb_S193_S1_192 numel1_S1 (tbl m) i
    = ![min (i 0).val (((m (((0 : Dev nD).tc : Thread nD τ).loc main_arg3) : IVec S1 32) (ix1 0)).toNat - 1), 0] := by
  have e := last_used ⟨(i 0).val, i_lt i⟩ _ h.some h.most
  rw [← used_at m] at e ⊢
  rw [← e]
  rfl

/-- and of each matrix. -/
theorem map1 (i : grid0.Coords) : cc0_transform_1 k0_off1_inb numel1_S1 (tbl m) i
    = ![((m (((0 : Dev nD).tc : Thread nD τ).loc main_arg1) : IVec S192 32) (ix1 ⟨(i 0).val, i_lt i⟩)).toNat, 0, 0] := by
  rw [← expert_at m i]
  rfl

theorem map2 (i : grid0.Coords) : cc0_transform_2 k0_off1_inb numel1_S1 (tbl m) i
    = ![((m (((0 : Dev nD).tc : Thread nD τ).loc main_arg1) : IVec S192 32) (ix1 ⟨(i 0).val, i_lt i⟩)).toNat, 0, 0] := by
  rw [← expert_at m i]
  rfl

theorem map3 (i : grid0.Coords) : cc0_transform_3 k0_off1_inb numel1_S1 (tbl m) i
    = ![((m (((0 : Dev nD).tc : Thread nD τ).loc main_arg1) : IVec S192 32) (ix1 ⟨(i 0).val, i_lt i⟩)).toNat, 0, 0] := by
  rw [← expert_at m i]
  rfl

/-- Every block is inside its array. -/
theorem ok (h : Tables m) : Ok m := by
  refine ⟨fun i => ?_, fun i => ?_, fun i => ?_, fun i => ?_⟩
  · refine ⟨fun a => ?_, Or.inl rfl⟩
    rw [map0 m h i]
    have := i_lt i
    match a with
    | ⟨0, _⟩ =>
      show (min (i 0).val (_ - 1) + 1) * 1024 ≤ 196608
      omega
    | ⟨1, _⟩ => show (0 + 1) * 512 ≤ 512; omega
  · refine ⟨fun a => ?_, Or.inr (Or.inr ⟨by decide, rfl, Nat.zero_mul _, rfl⟩)⟩
    rw [map1 m i]
    have := h.expert ⟨(i 0).val, i_lt i⟩
    match a with
    | ⟨0, _⟩ =>
      show (BitVec.toNat _ + 1) * 1 ≤ 64
      omega
    | ⟨1, _⟩ => show (0 + 1) * 1024 ≤ 1024; omega
    | ⟨2, _⟩ => show (0 + 1) * 256 ≤ 256; omega
  · refine ⟨fun a => ?_, Or.inr (Or.inr ⟨by decide, rfl, Nat.zero_mul _, rfl⟩)⟩
    rw [map2 m i]
    have := h.expert ⟨(i 0).val, i_lt i⟩
    match a with
    | ⟨0, _⟩ =>
      show (BitVec.toNat _ + 1) * 1 ≤ 64
      omega
    | ⟨1, _⟩ => show (0 + 1) * 1024 ≤ 1024; omega
    | ⟨2, _⟩ => show (0 + 1) * 256 ≤ 256; omega
  · refine ⟨fun a => ?_, Or.inr (Or.inr ⟨by decide, rfl, Nat.zero_mul _, rfl⟩)⟩
    rw [map3 m i]
    have := h.expert ⟨(i 0).val, i_lt i⟩
    match a with
    | ⟨0, _⟩ =>
      show (BitVec.toNat _ + 1) * 1 ≤ 64
      omega
    | ⟨1, _⟩ => show (0 + 1) * 256 ≤ 256; omega
    | ⟨2, _⟩ => show (0 + 1) * 1024 ≤ 1024; omega

/-- The precondition says so of the launch memory. -/
theorem tables {m : (ℓ : Loc nD τ sig) → Buf (Elt Bits) ℓ} (h : Cert.Pre_Experts m) : Tables m := inRange _ _ _ _ _ _ _ (h 0)

end Cert.Experts.Plan

namespace Cert.ExpertsIdeal.Plan

open Cert.ExpertsIdeal Cert.ExpertsIdeal.Gen Cert.ExpertsPlan Idealize.ShloMosaic Idealize.ShloMosaic.TcCoe
open Idealize.ShloMosaic.Tactic Idealize.SL.Sem

variable {F : FTy → Type} [FloatOps F] (m : (ℓ : Loc nD τ sig) → Buf (Elt F) ℓ)

/-- The table of the blocks' experts, -/
theorem table0 (i : Fin 192) : (tbl m 0 : IVec S192 32) (ix1 i) = (m (((0 : Dev nD).tc : Thread nD τ).loc main_arg1) : IVec S192 32) (ix1 i) :=
  congrFun (V_main_arg1 m 0) (ix1 i)

/-- the table of the rows each holds, and behind them the number of blocks in use. -/
theorem table1 : (tbl m 1 : IVec S193 32)
    = concatenate S193 0 [⟨S192, (m (((0 : Dev nD).tc : Thread nD τ).loc main_arg2) : IVec S192 32)⟩, ⟨S1, (m (((0 : Dev nD).tc : Thread nD τ).loc main_arg3) : IVec S1 32)⟩] concatenates_S192_S1_S193_d0 := by
  show StableHlo.after hostOps0 (fun b => m (0, b)) main_v6 = _
  after_results

theorem table1_held (i : Fin 192) : (tbl m 1 : IVec S193 32) (ix1 ⟨i.val, by omega⟩)
    = (m (((0 : Dev nD).tc : Thread nD τ).loc main_arg2) : IVec S192 32) (ix1 i) := by
  rw [table1]
  generalize (m (((0 : Dev nD).tc : Thread nD τ).loc main_arg2) : IVec S192 32) = x
  generalize (m (((0 : Dev nD).tc : Thread nD τ).loc main_arg3) : IVec S1 32) = y
  pointwise []

theorem table1_used : (tbl m 1 : IVec S193 32) (ix1 192) = (m (((0 : Dev nD).tc : Thread nD τ).loc main_arg3) : IVec S1 32) (ix1 0) := by
  rw [table1]
  generalize (m (((0 : Dev nD).tc : Thread nD τ).loc main_arg2) : IVec S192 32) = x
  generalize (m (((0 : Dev nD).tc : Thread nD τ).loc main_arg3) : IVec S1 32) = y
  pointwise []

/-- Element `n` of a table, as the index maps name it. -/
theorem point_192 (n : Nat) (h : n < 192) (off : Fin 1 → Nat) (ho : off 0 = n) (inb : ∀ a : Fin 1, off a + S1.size a ≤ S192.size a)
    (h1 : 0 < (Rect.unit (s := S192) off S1.size inb).shape.numel) :
    (Rect.unit (s := S192) off S1.size inb).emb (Shape.Idx.first h1) = (ix1 ⟨n, h⟩ : S192.Idx) := by
  funext a
  obtain rfl : a = 0 := Subsingleton.elim _ _
  refine Fin.ext ?_
  show off 0 + 1 * 0 = n
  omega

theorem point_193 (n : Nat) (h : n < 193) (off : Fin 1 → Nat) (ho : off 0 = n) (inb : ∀ a : Fin 1, off a + S1.size a ≤ S193.size a)
    (h1 : 0 < (Rect.unit (s := S193) off S1.size inb).shape.numel) :
    (Rect.unit (s := S193) off S1.size inb).emb (Shape.Idx.first h1) = (ix1 ⟨n, h⟩ : S193.Idx) := by
  funext a
  obtain rfl : a = 0 := Subsingleton.elim _ _
  refine Fin.ext ?_
  show off 0 + 1 * 0 = n
  omega

theorem i_lt (i : grid0.Coords) : (i 0).val < 192 := (i 0).isLt

theorem point_eq (i : grid0.Coords) : (k0_off1 i) 0 = (i 0).val := by
  have := i_lt i
  show (Scalar.indexCast (BitVec.ofNat 32 (i 0).val)).toNat = _
  unfold Scalar.indexCast
  exact WordCmp.toNat_ofNat_of_lt (by omega)

/-- The expert the maps read at a point, -/
theorem expert_at (i : grid0.Coords) : (tbl m 0 : IVec S192 32) ((Rect.unit (s := S192) ![(Scalar.indexCast (BitVec.ofNat 32 (i 0).val)).toNat] S1.size (k0_off1_inb i)).emb (Shape.Idx.first (numel1_S1.symm ▸ Nat.one_pos)))
    = (m (((0 : Dev nD).tc : Thread nD τ).loc main_arg1) : IVec S192 32) (ix1 ⟨(i 0).val, i_lt i⟩) :=
  (congrArg (tbl m 0 : IVec S192 32) (point_192 (i 0).val (i_lt i) _ (point_eq i) _ _)).trans (table0 m ⟨(i 0).val, i_lt i⟩)

/-- and the number of blocks in use. -/
theorem used_at : (tbl m 1 : IVec S193 32) ((Rect.unit (s := S193) ![192] S1.size inb_S193_S1_192).emb (Shape.Idx.first (numel1_S1.symm ▸ Nat.one_pos)))
    = (m (((0 : Dev nD).tc : Thread nD τ).loc main_arg3) : IVec S1 32) (ix1 0) :=
  (congrArg (tbl m 1 : IVec S193 32) (point_193 192 (by decide) _ rfl _ _)).trans (table1_used m)

abbrev Tables : Prop := InRange (fun i => (m (((0 : Dev nD).tc : Thread nD τ).loc main_arg1) : IVec S192 32) (ix1 i))
  ((m (((0 : Dev nD).tc : Thread nD τ).loc main_arg3) : IVec S1 32) (ix1 0))

/-- The block of rows at a point, -/
theorem map0 (h : Tables m) (i : grid0.Coords) : cc0_transform_0 inb_S193_S1_192 numel1_S1 (tbl m) i
    = ![min (i 0).val (((m (((0 : Dev nD).tc : Thread nD τ).loc main_arg3) : IVec S1 32) (ix1 0)).toNat - 1), 0] := by
  have e := last_used ⟨(i 0).val, i_lt i⟩ _ h.some h.most
  rw [← used_at m] at e ⊢
  rw [← e]
  rfl

/-- and of each matrix. -/
theorem map1 (i : grid0.Coords) : cc0_transform_1 k0_off1_inb numel1_S1 (tbl m) i
    = ![((m (((0 : Dev nD).tc : Thread nD τ).loc main_arg1) : IVec S192 32) (ix1 ⟨(i 0).val, i_lt i⟩)).toNat, 0, 0] := by
  rw [← expert_at m i]
  rfl

theorem map2 (i : grid0.Coords) : cc0_transform_2 k0_off1_inb numel1_S1 (tbl m) i
    = ![((m (((0 : Dev nD).tc : Thread nD τ).loc main_arg1) : IVec S192 32) (ix1 ⟨(i 0).val, i_lt i⟩)).toNat, 0, 0] := by
  rw [← expert_at m i]
  rfl

theorem map3 (i : grid0.Coords) : cc0_transform_3 k0_off1_inb numel1_S1 (tbl m) i
    = ![((m (((0 : Dev nD).tc : Thread nD τ).loc main_arg1) : IVec S192 32) (ix1 ⟨(i 0).val, i_lt i⟩)).toNat, 0, 0] := by
  rw [← expert_at m i]
  rfl

/-- Every block is inside its array. -/
theorem ok (h : Tables m) : Ok m := by
  refine ⟨fun i => ?_, fun i => ?_, fun i => ?_, fun i => ?_⟩
  · refine ⟨fun a => ?_, Or.inl rfl⟩
    rw [map0 m h i]
    have := i_lt i
    match a with
    | ⟨0, _⟩ =>
      show (min (i 0).val (_ - 1) + 1) * 1024 ≤ 196608
      omega
    | ⟨1, _⟩ => show (0 + 1) * 512 ≤ 512; omega
  · refine ⟨fun a => ?_, Or.inr (Or.inr ⟨by decide, rfl, Nat.zero_mul _, rfl⟩)⟩
    rw [map1 m i]
    have := h.expert ⟨(i 0).val, i_lt i⟩
    match a with
    | ⟨0, _⟩ =>
      show (BitVec.toNat _ + 1) * 1 ≤ 64
      omega
    | ⟨1, _⟩ => show (0 + 1) * 1024 ≤ 1024; omega
    | ⟨2, _⟩ => show (0 + 1) * 256 ≤ 256; omega
  · refine ⟨fun a => ?_, Or.inr (Or.inr ⟨by decide, rfl, Nat.zero_mul _, rfl⟩)⟩
    rw [map2 m i]
    have := h.expert ⟨(i 0).val, i_lt i⟩
    match a with
    | ⟨0, _⟩ =>
      show (BitVec.toNat _ + 1) * 1 ≤ 64
      omega
    | ⟨1, _⟩ => show (0 + 1) * 1024 ≤ 1024; omega
    | ⟨2, _⟩ => show (0 + 1) * 256 ≤ 256; omega
  · refine ⟨fun a => ?_, Or.inr (Or.inr ⟨by decide, rfl, Nat.zero_mul _, rfl⟩)⟩
    rw [map3 m i]
    have := h.expert ⟨(i 0).val, i_lt i⟩
    match a with
    | ⟨0, _⟩ =>
      show (BitVec.toNat _ + 1) * 1 ≤ 64
      omega
    | ⟨1, _⟩ => show (0 + 1) * 256 ≤ 256; omega
    | ⟨2, _⟩ => show (0 + 1) * 1024 ≤ 1024; omega

/-- The precondition says so of the launch memory. -/
theorem tables {m : (ℓ : Loc nD τ sig) → Buf (Elt Ideal) ℓ} (h : Cert.Pre_ExpertsIdeal m) : Tables m := inRange _ _ _ _ _ _ _ (h 0)

end Cert.ExpertsIdeal.Plan
-- ==== Proof.ExpertsValue.lean ====
/-
  The routed experts' call over the extended reals: its result array after the run.
-/
module

public import proofs.«01_k».proof.Proof.ExpertsBlock
public import proofs.«01_k».proof.Proof.ExpertsPlan
public import Idealize.ShloMosaic.Lib.Pipeline.ValueKit

@[expose] public section

set_option maxRecDepth 16384

noncomputable section

namespace Cert.ExpertsIdeal.Arrays

open Cert.ExpertsIdeal Cert.ExpertsIdeal.Gen Cert.ExpertsIdeal.Plan Cert.ExpertsIdeal.Block Cert.ExpertsSpec Cert.CombineSpec
open Idealize.ShloMosaic Idealize.ShloMosaic.TcCoe Idealize.ShloMosaic.Tactic Idealize.SL.Sem
open Idealize.ShloMosaic.Pipeline (Dat Window)

variable (m : (ℓ : Loc nD τ sig) → Buf (Elt Ideal) ℓ)

/-- The arguments at their types. -/
abbrev a0 (c : Dev nD) : IVec S196608x512 32 := m ((c.tc : Thread nD τ).loc main_arg0)
abbrev a1 (c : Dev nD) : IVec S192 32 := m ((c.tc : Thread nD τ).loc main_arg1)
abbrev a2 (c : Dev nD) : IVec S192 32 := m ((c.tc : Thread nD τ).loc main_arg2)
abbrev a3 (c : Dev nD) : IVec S1 32 := m ((c.tc : Thread nD τ).loc main_arg3)
abbrev a4 (c : Dev nD) : FVec Ideal S1x64x1024x256 .f32 := m ((c.tc : Thread nD τ).loc main_arg4)
abbrev a5 (c : Dev nD) : FVec Ideal S1x64x1024x256 .f32 := m ((c.tc : Thread nD τ).loc main_arg5)
abbrev a6 (c : Dev nD) : FVec Ideal S1x64x256x1024 .f32 := m ((c.tc : Thread nD τ).loc main_arg6)

def args (c : Dev nD) : Args where
  x := fun r w => a0 m c (ix2 r w)
  e := fun i => a1 m c (ix1 i)
  v := fun i => a2 m c (ix1 i)
  n := a3 m c (ix1 0)
  wg := fun e i h => a4 m c (ix4 0 e i h)
  wu := fun e i h => a5 m c (ix4 0 e i h)
  wd := fun e h i => a6 m c (ix4 0 e h i)

theorem t_lt {hO : Ok m} (t : Fin (cfgM m hO).N) : t.val < 192 := lt_of_lt_of_eq t.isLt N_0

theorem coord : ∀ t : Fin grid0.N, (grid0.coords t 0).val = t.val := by decide +kernel

/-- The matrices as the call is given them. -/
theorem gate_apply (c : Dev nD) (e : Fin 64) (i : Fin 1024) (h : Fin 256) :
    (V m c main_v1 : FVec Ideal S64x1024x256 .bf16) (ix3 e i h) = a4 m c (ix4 0 e i h) := by
  have eV : (V m c main_v1 : FVec Ideal S64x1024x256 .bf16) = truncf .bf16 (shapeCast S64x1024x256 (a4 m c) shapeCasts_S1x64x1024x256_S64x1024x256) bitsLt_bf16_f32 := by
    show StableHlo.after hostOps0 (fun b => m (c, b)) main_v1 = _
    after_results
    rfl
  rw [eV]
  pointwise []

theorem up_apply (c : Dev nD) (e : Fin 64) (i : Fin 1024) (h : Fin 256) :
    (V m c main_v3 : FVec Ideal S64x1024x256 .bf16) (ix3 e i h) = a5 m c (ix4 0 e i h) := by
  have eV : (V m c main_v3 : FVec Ideal S64x1024x256 .bf16) = truncf .bf16 (shapeCast S64x1024x256 (a5 m c) shapeCasts_S1x64x1024x256_S64x1024x256) bitsLt_bf16_f32 := by
    show StableHlo.after hostOps0 (fun b => m (c, b)) main_v3 = _
    after_results
    rfl
  rw [eV]
  pointwise []

theorem down_apply (c : Dev nD) (e : Fin 64) (h : Fin 256) (i : Fin 1024) :
    (V m c main_v5 : FVec Ideal S64x256x1024 .bf16) (ix3 e h i) = a6 m c (ix4 0 e h i) := by
  have eV : (V m c main_v5 : FVec Ideal S64x256x1024 .bf16) = truncf .bf16 (shapeCast S64x256x1024 (a6 m c) shapeCasts_S1x64x256x1024_S64x256x1024) bitsLt_bf16_f32 := by
    show StableHlo.after hostOps0 (fun b => m (c, b)) main_v5 = _
    after_results
    rfl
  rw [eV]
  pointwise []

variable (hO : Ok m)

/-- The rows' block at a point in use. -/
theorem rows_apply (hT : Tables m) (t : Fin (cfgM m hO).N) (ht : t.val < (a3 m 0 (ix1 0)).toNat) (a : Fin 1024) (w : Fin 512) :
    (iblk m hO 0 0 t : IVec S1024x512 32) (ix2 a w) = a0 m 0 (ix2 ⟨t.val * 1024 + a.val, by have := t_lt m t; omega⟩ w) := by
  have hn := hT.most
  have e : ((cfgM m hO).win 0).index t = ![t.val, 0] := by
    refine (map0 m hT (grid0.coords t)).trans ?_
    rw [coord t, Nat.min_eq_left (by change t.val ≤ (a3 m 0 (ix1 0)).toNat - 1; omega)]
  show (V m 0 main_arg0 : IVec S196608x512 32) ((((cfgM m hO).win 0).rect t).emb (ix2 a w)) = _
  rw [V_main_arg0]
  refine congrArg (a0 m 0) (funext fun k => Fin.ext ((Window.rect_emb_val _ t (ix2 a w) k).trans ?_))
  rw [e]
  match k with
  | ⟨0, _⟩ => rfl
  | ⟨1, _⟩ => show 0 * 512 + w.val = w.val; omega

theorem expert_val (w : BitVec 32) (h : w.toNat < 64) : (expert w).val = w.toNat := Nat.mod_eq_of_lt h

/-- The matrices' blocks at a point. -/
theorem gate_block (hT : Tables m) (t : Fin (cfgM m hO).N) (i : Fin 1024) (h : Fin 256) :
    (iblk m hO 0 1 t : FVec Ideal S1x1024x256 .bf16) (ix3 0 i h) = a4 m 0 (ix4 0 (expert (a1 m 0 (ix1 ⟨t.val, t_lt m t⟩))) i h) := by
  have e : ((cfgM m hO).win 1).index t = ![(a1 m 0 (ix1 ⟨t.val, t_lt m t⟩)).toNat, 0, 0] := by
    refine (map1 m (grid0.coords t)).trans ?_
    simp only [coord t]
  rw [← gate_apply]
  show (V m 0 main_v1 : FVec Ideal S64x1024x256 .bf16) ((((cfgM m hO).win 1).rect t).emb (ix3 0 i h)) = _
  refine congrArg (V m 0 main_v1 : FVec Ideal S64x1024x256 .bf16) (funext fun k => Fin.ext ((Window.rect_emb_val _ t (ix3 0 i h) k).trans ?_))
  rw [e]
  match k with
  | ⟨0, _⟩ => exact (Nat.mul_one _).trans (expert_val _ (hT.expert _)).symm
  | ⟨1, _⟩ => show 0 * 1024 + i.val = i.val; omega
  | ⟨2, _⟩ => show 0 * 256 + h.val = h.val; omega

theorem up_block (hT : Tables m) (t : Fin (cfgM m hO).N) (i : Fin 1024) (h : Fin 256) :
    (iblk m hO 0 2 t : FVec Ideal S1x1024x256 .bf16) (ix3 0 i h) = a5 m 0 (ix4 0 (expert (a1 m 0 (ix1 ⟨t.val, t_lt m t⟩))) i h) := by
  have e : ((cfgM m hO).win 2).index t = ![(a1 m 0 (ix1 ⟨t.val, t_lt m t⟩)).toNat, 0, 0] := by
    refine (map2 m (grid0.coords t)).trans ?_
    simp only [coord t]
  rw [← up_apply]
  show (V m 0 main_v3 : FVec Ideal S64x1024x256 .bf16) ((((cfgM m hO).win 2).rect t).emb (ix3 0 i h)) = _
  refine congrArg (V m 0 main_v3 : FVec Ideal S64x1024x256 .bf16) (funext fun k => Fin.ext ((Window.rect_emb_val _ t (ix3 0 i h) k).trans ?_))
  rw [e]
  match k with
  | ⟨0, _⟩ => exact (Nat.mul_one _).trans (expert_val _ (hT.expert _)).symm
  | ⟨1, _⟩ => show 0 * 1024 + i.val = i.val; omega
  | ⟨2, _⟩ => show 0 * 256 + h.val = h.val; omega

theorem down_block (hT : Tables m) (t : Fin (cfgM m hO).N) (h : Fin 256) (i : Fin 1024) :
    (iblk m hO 0 3 t : FVec Ideal S1x256x1024 .bf16) (ix3 0 h i) = a6 m 0 (ix4 0 (expert (a1 m 0 (ix1 ⟨t.val, t_lt m t⟩))) h i) := by
  have e : ((cfgM m hO).win 3).index t = ![(a1 m 0 (ix1 ⟨t.val, t_lt m t⟩)).toNat, 0, 0] := by
    refine (map3 m (grid0.coords t)).trans ?_
    simp only [coord t]
  rw [← down_apply]
  show (V m 0 main_v5 : FVec Ideal S64x256x1024 .bf16) ((((cfgM m hO).win 3).rect t).emb (ix3 0 h i)) = _
  refine congrArg (V m 0 main_v5 : FVec Ideal S64x256x1024 .bf16) (funext fun k => Fin.ext ((Window.rect_emb_val _ t (ix3 0 h i) k).trans ?_))
  rw [e]
  match k with
  | ⟨0, _⟩ => exact (Nat.mul_one _).trans (expert_val _ (hT.expert _)).symm
  | ⟨1, _⟩ => show 0 * 256 + h.val = h.val; omega
  | ⟨2, _⟩ => show 0 * 1024 + i.val = i.val; omega

theorem guard_iff (b : BitVec 1) : Scalar.cmpi .ne (Scalar.extui b : BitVec 32) 0#32 = 1#1 ↔ b = 1#1 := by revert b; decide

/-- The guard's condition: the block is in use. -/
theorem used_iff (t : Fin (cfgM m hO).N) :
    cond0_0 (grid0.coords t) (tbM0_1.view.readAt (Elt Ideal) (Rect.unit (s := S193) ![192] S1.size inb_S193_S1_192).toLoadRect (tbl m 1) (Shape.Idx.first (numel1_S1.symm ▸ Nat.one_pos)))
      ↔ Below t.val (a3 m 0 (ix1 0)) := by
  have hv : tbM0_1.view.readAt (Elt Ideal) (Rect.unit (s := S193) ![192] S1.size inb_S193_S1_192).toLoadRect (tbl m 1) (Shape.Idx.first (numel1_S1.symm ▸ Nat.one_pos)) = a3 m 0 (ix1 0) := used_at m
  rw [hv]
  unfold cond0_0
  refine (guard_iff _).trans ?_
  rw [coord t]
  rfl

/-- The rows the block at a point holds, as the kernel reads them. -/
theorem held_at (t : Fin (cfgM m hO).N) :
    View.readAt (Elt Ideal) (View.whole main_v6) (Rect.unit (s := S193) (k0_off2 (grid0.coords t)) ![1] (k0_off2_inb (grid0.coords t))).toLoadRect (tbl m 1) (Shape.Idx.first (numel1_S1.symm ▸ Nat.one_pos))
      = a2 m 0 (ix1 ⟨t.val, t_lt m t⟩) := by
  have ht := t_lt m t
  refine (congrArg (tbl m 1 : IVec S193 32) (point_193 t.val (by omega) (k0_off2 (grid0.coords t)) ?_ (k0_off2_inb (grid0.coords t)) (numel1_S1.symm ▸ Nat.one_pos))).trans (table1_held m ⟨t.val, t_lt m t⟩)
  exact (point_eq (grid0.coords t)).trans (coord t)

theorem below_lt (i : Nat) (hi : i < 192) (v : BitVec 32) (hv : v.toNat < 2 ^ 31) (h : Below i v) : i < v.toNat := by
  unfold Below at h
  rw [WordCmp.cmpi_slt_eq, WordCmp.ofBool_decide_eq_one_iff, WordCmp.toInt_ofNat_of_lt (by omega), WordCmp.toInt_eq_toNat_of_lt_half (by omega)] at h
  omega

theorem shared_congr {p p' : Fin 512 → BitVec 32} {v v' : BitVec 32} {g g' u u' : Fin 1024 → Fin 256 → EReal}
    {d d' : Fin 256 → Fin 1024 → EReal} (a : Nat) (j : Fin 1024) (hp : ∀ w, p w = p' w) (hv : v = v') (hg : ∀ i h, g i h = g' i h)
    (hu : ∀ i h, u i h = u' i h) (hd : ∀ h i, d h i = d' h i) :
    shared (input p a v) g u d j = shared (input p' a v') g' u' d' j := by
  rw [funext hp, hv, funext fun i => funext (hg i), funext fun i => funext (hu i), funext fun i => funext (hd i)]

/-- What a point leaves. -/
theorem after4 (hT : Tables m) (t : Fin (cfgM m hO).N) (a j : Fin 1024) :
    ((dats m hO 0 0).after 4 t : FVec Ideal S1024x1024 .bf16) (ix2 a j) = (args m 0).result ⟨t.val, t_lt m t⟩ a j := by
  rw [after0_4]
  unfold Args.result
  by_cases h : Below t.val (a3 m 0 (ix1 0))
  · rw [if_pos (show Below _ (args m 0).n from h), outsAt0_A m hO 0 t ((used_iff m hO t).2 h)]
    frame_out
    refine (pay2_apply _ _ _ _ _ a j).trans ?_
    have ht := below_lt t.val (t_lt m t) _ hT.most h
    exact shared_congr a.val j
      (fun w => (congrFun ((hs0_0 m hO t).read_unread (Val := Elt Ideal) (iblk m hO 0 0 t)) (ix2 a w)).trans (rows_apply m hO hT t ht a w))
      (held_at m hO t)
      (fun i h => (congrFun ((hs0_1 m hO t).read_unread (Val := Elt Ideal) (iblk m hO 0 1 t)) (ix3 0 i h)).trans (gate_block m hO hT t i h))
      (fun i h => (congrFun ((hs0_2 m hO t).read_unread (Val := Elt Ideal) (iblk m hO 0 2 t)) (ix3 0 i h)).trans (up_block m hO hT t i h))
      (fun h i => (congrFun ((hs0_3 m hO t).read_unread (Val := Elt Ideal) (iblk m hO 0 3 t)) (ix3 0 h i)).trans (down_block m hO hT t h i))
  · rw [if_neg (show ¬Below _ (args m 0).n from h), outsAt0_B m hO 0 t (fun h' => h ((used_iff m hO t).1 h'))]
    frame_out
    exact pay1_apply a j

/-- The array after the run. -/
theorem final4 (hT : Tables m) : ((dats m hO 0 0).arrAt 4 (cfgM m hO).N : FVec Ideal S196608x1024 .bf16) = (args m 0).out := by
  have e : ∀ t : Fin (cfgM m hO).N, ((cfgM m hO).win 4).index t = ![t.val, 0] := fun t => by
    have ht := t_lt m t
    show ![(BitVec.ofNat 32 ((grid0.coords t) 0).val).toNat, 0] = _
    rw [coord t, WordCmp.toNat_ofNat_of_lt (by omega)]
  refine (dats m hO 0 0).arrAt_eq_of_emb 4 _ (fun t _ (y : S1024x1024.Idx) => ?_) fun (y : S196608x1024.Idx) => ?_
  · idx_vars y
    refine (after4 m hO hT t y0 y1).trans ((args m 0).out_at ⟨t.val, t_lt m t⟩ y0 y1 _ ?_ ?_).symm
    · refine (Window.rect_emb_val ((cfgM m hO).win 4) t (ix2 y0 y1) (0 : Fin 2)).trans ?_
      rw [e t]
      rfl
    · refine (Window.rect_emb_val ((cfgM m hO).win 4) t (ix2 y0 y1) (1 : Fin 2)).trans ?_
      rw [e t]
      show 0 * 1024 + y1.val = y1.val
      omega
  · have h0 := ValueIdx.idx2_lt0 y
    have h1 := ValueIdx.idx2_lt1 y
    refine ⟨⟨(y 0).val / 1024, lt_of_lt_of_eq (by omega) N_0.symm⟩, flush0_4 _ _, ?_⟩
    refine (Window.emb_mem_blk_iff ((cfgM m hO).win 4) _ y).2 fun k => ?_
    rw [e]
    match k with
    | ⟨0, _⟩ =>
      show (y 0).val / 1024 * 1024 ≤ (y 0).val ∧ (y 0).val < (y 0).val / 1024 * 1024 + 1024
      omega
    | ⟨1, _⟩ =>
      show 0 * 1024 ≤ (y 1).val ∧ (y 1).val < 0 * 1024 + 1024
      omega

end Cert.ExpertsIdeal.Arrays
-- ==== Proof.ExpertsClaim.lean ====
/-
  The routed experts' value claim: from arguments that agree and tables in range, kernel and reference end with equal rows.
-/
module

public import proofs.«01_k».proof.Defs
public import proofs.«01_k».proof.Proof.ExpertsRef
public import proofs.«01_k».proof.Proof.ExpertsValue
public import Idealize.ShloMosaic.Lib.Quiescent

@[expose] public section

set_option maxRecDepth 16384

noncomputable section

namespace Cert.ExpertsClaim

open Idealize.ShloMosaic Idealize.ShloMosaic.TcCoe Idealize.SL.Sem
open Cert.ExpertsIdeal.Arrays (args)
open Cert.ExpertsRefIdeal.Rows

/-- The reference ends without fault, its arguments kept. -/
theorem frame_ref : @Cert.quiescent_ExpertsRefIdeal Cert.ExpertsRefIdeal.Gen.facts := fun m ρ _ =>
  (θ_run Cert.ExpertsRefIdeal.defs _ _).mono
    (fun r h => ⟨fun c => (h c).2, Idealize.ShloMosaic.sem_eq_zero_of_no_sems (by decide) r.2⟩)
    (Cert.ExpertsRefIdeal.Value.run (F := Ideal) m ρ)

/-- Kernel and reference compute the same rows over the extended reals. -/
theorem value : @Cert.algebraic_ExpertsIdeal_ExpertsRefIdeal Cert.ExpertsIdeal.Gen.facts Cert.ExpertsRefIdeal.Gen.facts Cert.Pre_plan_in_range.Gen.facts := by
  intro m ρ m' ρ' hpre hag
  have hT := Cert.ExpertsIdeal.Plan.tables hpre
  have hO := Cert.ExpertsIdeal.Plan.ok m hT
  refine ⟨fun c => (args m 0).out, ?_, ?_⟩
  · refine (θ_run _ _ _).mono (fun r h c => ?_)
      (θ_run_and (Cert.ExpertsIdeal.Gen.unchanged (F := Ideal) m ρ hO) (Cert.ExpertsIdeal.Gen.run_main (F := Ideal) m ρ hO))
    obtain rfl : c = 0 := Subsingleton.elim _ _
    exact ⟨((h.2 0).1 4).trans (Cert.ExpertsIdeal.Arrays.final4 m hO hT), h.1 0⟩
  · refine (θ_run _ _ _).mono (fun r h c => ?_) (Cert.ExpertsRefIdeal.Value.run (F := Ideal) m' ρ')
    obtain rfl : c = 0 := Subsingleton.elim _ _
    obtain ⟨e0, e1, e2, e3, e4, e5, e6⟩ := hag 0
    obtain ⟨h1, hargs⟩ := h 0
    refine ⟨h1.trans ((res_eq m' 0).trans ?_), hargs⟩
    rw [e0, e1, e2, e3, e4, e5, e6]
    exact res_out _ _ _ _ _ _ _ hT.expert

end Cert.ExpertsClaim
-- ==== Proof.lean ====
/-
  The certificate of six calls, each beside its reference: the closing combine, the input projection of the prompt and
  of the sample, the state-space scan of the sample, the gated merge of the prompt, and its routed experts.
-/
module

public import proofs.«01_k».proof.Defs
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.InprojS
public import proofs.«01_k».proof.Proof.Gen.InprojS.Skeleton
public import proofs.«01_k».proof.Proof.Gen.InprojS.Launch
public import proofs.«01_k».proof.Proof.Gen.InprojS.Points
public import proofs.«01_k».proof.Proof.Gen.InprojS.Frame
public import proofs.«01_k».proof.Proof.Gen.InprojSIdeal
public import proofs.«01_k».proof.Proof.Gen.InprojSIdeal.Skeleton
public import proofs.«01_k».proof.Proof.Gen.InprojSIdeal.Launch
public import proofs.«01_k».proof.Proof.Gen.InprojSIdeal.Points
public import proofs.«01_k».proof.Proof.Gen.InprojSIdeal.Frame
public import proofs.«01_k».proof.Proof.Gen.InprojSRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.CombineClaim
public import proofs.«01_k».proof.Proof.InprojClaim
public import proofs.«01_k».proof.Proof.SsdClaim
public import proofs.«01_k».proof.Proof.InprojSClaim
public import proofs.«01_k».proof.Proof.Gen.Pre_plan_in_range
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsRefIdeal
public import proofs.«01_k».proof.Proof.Gen.ExpertsRefIdeal.Run
public import proofs.«01_k».proof.Proof.MergeClaim
public import proofs.«01_k».proof.Proof.ExpertsClaim
public import Idealize.ShloMosaic.Adequacy
public import Idealize.ShloMosaic.Init

@[expose] public section

noncomputable section

namespace Cert.Proof

open Idealize.ShloMosaic Idealize.SL.Sem Cert.Combine

theorem claim : Cert.Claim := ⟨
  Cert.Combine.Gen.facts, Cert.CombineIdeal.Gen.facts, Cert.CombineRefIdeal.Gen.facts,
  Cert.Inproj.Gen.facts, Cert.InprojIdeal.Gen.facts, Cert.InprojRefIdeal.Gen.facts,
  Cert.Ssd.Gen.facts, Cert.SsdIdeal.Gen.facts, Cert.SsdRefIdeal.Gen.facts,
  Cert.InprojS.Gen.facts, Cert.InprojSIdeal.Gen.facts, Cert.InprojSRefIdeal.Gen.facts,
  Cert.Merge.Gen.facts, Cert.MergeIdeal.Gen.facts, Cert.MergeRefIdeal.Gen.facts,
  Cert.Experts.Gen.facts, Cert.ExpertsIdeal.Gen.facts, Cert.ExpertsRefIdeal.Gen.facts, Cert.Pre_plan_in_range.Gen.facts,
  fun m ρ _ => Cert.Combine.Gen.frame m ρ, fun m ρ _ => Cert.CombineIdeal.Gen.frame m ρ, Cert.CombineClaim.frame_ref,
  fun m ρ _ => Cert.Inproj.Gen.frame m ρ, fun m ρ _ => Cert.InprojIdeal.Gen.frame m ρ, Cert.InprojClaim.frame_ref,
  fun m ρ _ => Cert.Ssd.Gen.frame m ρ, fun m ρ _ => Cert.SsdIdeal.Gen.frame m ρ, Cert.SsdClaim.frame_ref,
  fun m ρ _ => Cert.InprojS.Gen.frame m ρ, fun m ρ _ => Cert.InprojSIdeal.Gen.frame m ρ, Cert.InprojSClaim.frame_ref,
  fun m ρ _ => Cert.Merge.Gen.frame m ρ, fun m ρ _ => Cert.MergeIdeal.Gen.frame m ρ, Cert.MergeClaim.frame_ref,
  fun m ρ h => Cert.Experts.Gen.frame m ρ (Cert.Experts.Plan.ok m (Cert.Experts.Plan.tables h)),
  fun m ρ h => Cert.ExpertsIdeal.Gen.frame m ρ (Cert.ExpertsIdeal.Plan.ok m (Cert.ExpertsIdeal.Plan.tables h)),
  Cert.ExpertsClaim.frame_ref, fun m ρ _ => Cert.ExpertsClaim.frame_ref m ρ trivial,
  trivial, Cert.CombineClaim.value,
  trivial, Cert.InprojClaim.value,
  trivial, Cert.SsdClaim.value,
  trivial, Cert.InprojSClaim.value,
  trivial, Cert.MergeClaim.value,
  trivial, Cert.ExpertsClaim.value⟩

end Cert.Proof

end
